-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_named [hPre_experts_named : Cert.Pre_experts_named.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_named.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Pointwise (m : (ℓ : Loc Cert.Pointwise.nD Cert.Pointwise.τ Cert.Pointwise.sig) → Buf (Elt Bits) ℓ) : Prop :=
  True

def Pre_PointwiseIdeal (m : (ℓ : Loc Cert.PointwiseIdeal.nD Cert.PointwiseIdeal.τ Cert.PointwiseIdeal.sig) → Buf (Elt Ideal) ℓ) : Prop :=
  True

def Pre_PointwiseReferenceIdeal (m : (ℓ : Loc Cert.PointwiseReferenceIdeal.nD Cert.PointwiseReferenceIdeal.τ Cert.PointwiseReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_experts_named [hExpertsReferenceIdeal : Cert.ExpertsReferenceIdeal.Facts] [hPre_experts_named : Cert.Pre_experts_named.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_named m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Pointwise [hPointwise : Cert.Pointwise.Facts] : Prop :=
  ∀ (m : (ℓ : Loc Cert.Pointwise.nD Cert.Pointwise.τ Cert.Pointwise.sig) → Buf (Elt Bits) ℓ) (g : Dev Cert.Pointwise.nD → PrngReg), Pre_Pointwise m →
    θ_run (Cert.Pointwise.defs (F := Bits)) (onTc (τ := Cert.Pointwise.τ) (Cert.Pointwise.main (F := Bits))) ⟨m, fun _ => 0, g⟩ (fun r => (∀ c : Dev Cert.Pointwise.nD,
      r.2.mem ((c.tc : Thread Cert.Pointwise.nD Cert.Pointwise.τ).loc Cert.Pointwise.main_arg0) = m ((c.tc : Thread Cert.Pointwise.nD Cert.Pointwise.τ).loc Cert.Pointwise.main_arg0)
      ∧ r.2.mem ((c.tc : Thread Cert.Pointwise.nD Cert.Pointwise.τ).loc Cert.Pointwise.main_arg1) = m ((c.tc : Thread Cert.Pointwise.nD Cert.Pointwise.τ).loc Cert.Pointwise.main_arg1)
      ∧ r.2.mem ((c.tc : Thread Cert.Pointwise.nD Cert.Pointwise.τ).loc Cert.Pointwise.main_arg2) = m ((c.tc : Thread Cert.Pointwise.nD Cert.Pointwise.τ).loc Cert.Pointwise.main_arg2)
      ∧ r.2.mem ((c.tc : Thread Cert.Pointwise.nD Cert.Pointwise.τ).loc Cert.Pointwise.main_arg3) = m ((c.tc : Thread Cert.Pointwise.nD Cert.Pointwise.τ).loc Cert.Pointwise.main_arg3)
      ∧ r.2.mem ((c.tc : Thread Cert.Pointwise.nD Cert.Pointwise.τ).loc Cert.Pointwise.main_arg4) = m ((c.tc : Thread Cert.Pointwise.nD Cert.Pointwise.τ).loc Cert.Pointwise.main_arg4))
      ∧ r.2.sem = fun _ => 0)

def quiescent_PointwiseIdeal [hPointwiseIdeal : Cert.PointwiseIdeal.Facts] : Prop :=
  ∀ (m : (ℓ : Loc Cert.PointwiseIdeal.nD Cert.PointwiseIdeal.τ Cert.PointwiseIdeal.sig) → Buf (Elt Ideal) ℓ) (g : Dev Cert.PointwiseIdeal.nD → PrngReg), Pre_PointwiseIdeal m →
    θ_run (Cert.PointwiseIdeal.defs (F := Ideal)) (onTc (τ := Cert.PointwiseIdeal.τ) (Cert.PointwiseIdeal.main (F := Ideal))) ⟨m, fun _ => 0, g⟩ (fun r => (∀ c : Dev Cert.PointwiseIdeal.nD,
      r.2.mem ((c.tc : Thread Cert.PointwiseIdeal.nD Cert.PointwiseIdeal.τ).loc Cert.PointwiseIdeal.main_arg0) = m ((c.tc : Thread Cert.PointwiseIdeal.nD Cert.PointwiseIdeal.τ).loc Cert.PointwiseIdeal.main_arg0)
      ∧ r.2.mem ((c.tc : Thread Cert.PointwiseIdeal.nD Cert.PointwiseIdeal.τ).loc Cert.PointwiseIdeal.main_arg1) = m ((c.tc : Thread Cert.PointwiseIdeal.nD Cert.PointwiseIdeal.τ).loc Cert.PointwiseIdeal.main_arg1)
      ∧ r.2.mem ((c.tc : Thread Cert.PointwiseIdeal.nD Cert.PointwiseIdeal.τ).loc Cert.PointwiseIdeal.main_arg2) = m ((c.tc : Thread Cert.PointwiseIdeal.nD Cert.PointwiseIdeal.τ).loc Cert.PointwiseIdeal.main_arg2)
      ∧ r.2.mem ((c.tc : Thread Cert.PointwiseIdeal.nD Cert.PointwiseIdeal.τ).loc Cert.PointwiseIdeal.main_arg3) = m ((c.tc : Thread Cert.PointwiseIdeal.nD Cert.PointwiseIdeal.τ).loc Cert.PointwiseIdeal.main_arg3)
      ∧ r.2.mem ((c.tc : Thread Cert.PointwiseIdeal.nD Cert.PointwiseIdeal.τ).loc Cert.PointwiseIdeal.main_arg4) = m ((c.tc : Thread Cert.PointwiseIdeal.nD Cert.PointwiseIdeal.τ).loc Cert.PointwiseIdeal.main_arg4))
      ∧ r.2.sem = fun _ => 0)

def quiescent_PointwiseReferenceIdeal [hPointwiseReferenceIdeal : Cert.PointwiseReferenceIdeal.Facts] : Prop :=
  ∀ (m : (ℓ : Loc Cert.PointwiseReferenceIdeal.nD Cert.PointwiseReferenceIdeal.τ Cert.PointwiseReferenceIdeal.sig) → Buf (Elt Ideal) ℓ) (g : Dev Cert.PointwiseReferenceIdeal.nD → PrngReg), Pre_PointwiseReferenceIdeal m →
    θ_run (Cert.PointwiseReferenceIdeal.defs (F := Ideal)) (onTc (τ := Cert.PointwiseReferenceIdeal.τ) (Cert.PointwiseReferenceIdeal.main (F := Ideal))) ⟨m, fun _ => 0, g⟩ (fun r => (∀ c : Dev Cert.PointwiseReferenceIdeal.nD,
      r.2.mem ((c.tc : Thread Cert.PointwiseReferenceIdeal.nD Cert.PointwiseReferenceIdeal.τ).loc Cert.PointwiseReferenceIdeal.main_arg0) = m ((c.tc : Thread Cert.PointwiseReferenceIdeal.nD Cert.PointwiseReferenceIdeal.τ).loc Cert.PointwiseReferenceIdeal.main_arg0)
      ∧ r.2.mem ((c.tc : Thread Cert.PointwiseReferenceIdeal.nD Cert.PointwiseReferenceIdeal.τ).loc Cert.PointwiseReferenceIdeal.main_arg1) = m ((c.tc : Thread Cert.PointwiseReferenceIdeal.nD Cert.PointwiseReferenceIdeal.τ).loc Cert.PointwiseReferenceIdeal.main_arg1)
      ∧ r.2.mem ((c.tc : Thread Cert.PointwiseReferenceIdeal.nD Cert.PointwiseReferenceIdeal.τ).loc Cert.PointwiseReferenceIdeal.main_arg2) = m ((c.tc : Thread Cert.PointwiseReferenceIdeal.nD Cert.PointwiseReferenceIdeal.τ).loc Cert.PointwiseReferenceIdeal.main_arg2)
      ∧ r.2.mem ((c.tc : Thread Cert.PointwiseReferenceIdeal.nD Cert.PointwiseReferenceIdeal.τ).loc Cert.PointwiseReferenceIdeal.main_arg3) = m ((c.tc : Thread Cert.PointwiseReferenceIdeal.nD Cert.PointwiseReferenceIdeal.τ).loc Cert.PointwiseReferenceIdeal.main_arg3)
      ∧ r.2.mem ((c.tc : Thread Cert.PointwiseReferenceIdeal.nD Cert.PointwiseReferenceIdeal.τ).loc Cert.PointwiseReferenceIdeal.main_arg4) = m ((c.tc : Thread Cert.PointwiseReferenceIdeal.nD Cert.PointwiseReferenceIdeal.τ).loc Cert.PointwiseReferenceIdeal.main_arg4))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v69) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Pointwise_PointwiseIdeal : Prop :=
  True

def algebraic_PointwiseIdeal_PointwiseReferenceIdeal [hPointwiseIdeal : Cert.PointwiseIdeal.Facts] [hPointwiseReferenceIdeal : Cert.PointwiseReferenceIdeal.Facts] : Prop :=
  ∀ (m : (ℓ : Loc Cert.PointwiseIdeal.nD Cert.PointwiseIdeal.τ Cert.PointwiseIdeal.sig) → Buf (Elt Ideal) ℓ) (g : Dev Cert.PointwiseIdeal.nD → PrngReg)
    (m' : (ℓ : Loc Cert.PointwiseReferenceIdeal.nD Cert.PointwiseReferenceIdeal.τ Cert.PointwiseReferenceIdeal.sig) → Buf (Elt Ideal) ℓ) (g' : Dev Cert.PointwiseReferenceIdeal.nD → PrngReg), Pre_PointwiseIdeal m →
    (∀ c : Dev Cert.PointwiseIdeal.nD,
      m' ((c.tc : Thread Cert.PointwiseReferenceIdeal.nD Cert.PointwiseReferenceIdeal.τ).loc Cert.PointwiseReferenceIdeal.main_arg0) = m ((c.tc : Thread Cert.PointwiseIdeal.nD Cert.PointwiseIdeal.τ).loc Cert.PointwiseIdeal.main_arg0)
      ∧ m' ((c.tc : Thread Cert.PointwiseReferenceIdeal.nD Cert.PointwiseReferenceIdeal.τ).loc Cert.PointwiseReferenceIdeal.main_arg1) = m ((c.tc : Thread Cert.PointwiseIdeal.nD Cert.PointwiseIdeal.τ).loc Cert.PointwiseIdeal.main_arg1)
      ∧ m' ((c.tc : Thread Cert.PointwiseReferenceIdeal.nD Cert.PointwiseReferenceIdeal.τ).loc Cert.PointwiseReferenceIdeal.main_arg2) = m ((c.tc : Thread Cert.PointwiseIdeal.nD Cert.PointwiseIdeal.τ).loc Cert.PointwiseIdeal.main_arg2)
      ∧ m' ((c.tc : Thread Cert.PointwiseReferenceIdeal.nD Cert.PointwiseReferenceIdeal.τ).loc Cert.PointwiseReferenceIdeal.main_arg3) = m ((c.tc : Thread Cert.PointwiseIdeal.nD Cert.PointwiseIdeal.τ).loc Cert.PointwiseIdeal.main_arg3)
      ∧ m' ((c.tc : Thread Cert.PointwiseReferenceIdeal.nD Cert.PointwiseReferenceIdeal.τ).loc Cert.PointwiseReferenceIdeal.main_arg4) = m ((c.tc : Thread Cert.PointwiseIdeal.nD Cert.PointwiseIdeal.τ).loc Cert.PointwiseIdeal.main_arg4)) →
    ∃ (v0 : (c : Dev Cert.PointwiseIdeal.nD) → Buf (Elt Ideal) ((c.tc : Thread Cert.PointwiseIdeal.nD Cert.PointwiseIdeal.τ).loc Cert.PointwiseIdeal.main_v5)),
      θ_run (Cert.PointwiseIdeal.defs (F := Ideal)) (onTc (τ := Cert.PointwiseIdeal.τ) (Cert.PointwiseIdeal.main (F := Ideal))) ⟨m, fun _ => 0, g⟩ (fun r => ∀ c : Dev Cert.PointwiseIdeal.nD,
          r.2.mem ((c.tc : Thread Cert.PointwiseIdeal.nD Cert.PointwiseIdeal.τ).loc Cert.PointwiseIdeal.main_v5) = v0 c
          ∧ r.2.mem ((c.tc : Thread Cert.PointwiseIdeal.nD Cert.PointwiseIdeal.τ).loc Cert.PointwiseIdeal.main_arg0) = m ((c.tc : Thread Cert.PointwiseIdeal.nD Cert.PointwiseIdeal.τ).loc Cert.PointwiseIdeal.main_arg0)
          ∧ r.2.mem ((c.tc : Thread Cert.PointwiseIdeal.nD Cert.PointwiseIdeal.τ).loc Cert.PointwiseIdeal.main_arg1) = m ((c.tc : Thread Cert.PointwiseIdeal.nD Cert.PointwiseIdeal.τ).loc Cert.PointwiseIdeal.main_arg1)
          ∧ r.2.mem ((c.tc : Thread Cert.PointwiseIdeal.nD Cert.PointwiseIdeal.τ).loc Cert.PointwiseIdeal.main_arg2) = m ((c.tc : Thread Cert.PointwiseIdeal.nD Cert.PointwiseIdeal.τ).loc Cert.PointwiseIdeal.main_arg2)
          ∧ r.2.mem ((c.tc : Thread Cert.PointwiseIdeal.nD Cert.PointwiseIdeal.τ).loc Cert.PointwiseIdeal.main_arg3) = m ((c.tc : Thread Cert.PointwiseIdeal.nD Cert.PointwiseIdeal.τ).loc Cert.PointwiseIdeal.main_arg3)
          ∧ r.2.mem ((c.tc : Thread Cert.PointwiseIdeal.nD Cert.PointwiseIdeal.τ).loc Cert.PointwiseIdeal.main_arg4) = m ((c.tc : Thread Cert.PointwiseIdeal.nD Cert.PointwiseIdeal.τ).loc Cert.PointwiseIdeal.main_arg4))
      ∧ θ_run (Cert.PointwiseReferenceIdeal.defs (F := Ideal)) (onTc (τ := Cert.PointwiseReferenceIdeal.τ) (Cert.PointwiseReferenceIdeal.main (F := Ideal))) ⟨m', fun _ => 0, g'⟩ (fun r => ∀ c : Dev Cert.PointwiseReferenceIdeal.nD,
          r.2.mem ((c.tc : Thread Cert.PointwiseReferenceIdeal.nD Cert.PointwiseReferenceIdeal.τ).loc Cert.PointwiseReferenceIdeal.main_v37) = v0 c
          ∧ r.2.mem ((c.tc : Thread Cert.PointwiseReferenceIdeal.nD Cert.PointwiseReferenceIdeal.τ).loc Cert.PointwiseReferenceIdeal.main_arg0) = m' ((c.tc : Thread Cert.PointwiseReferenceIdeal.nD Cert.PointwiseReferenceIdeal.τ).loc Cert.PointwiseReferenceIdeal.main_arg0)
          ∧ r.2.mem ((c.tc : Thread Cert.PointwiseReferenceIdeal.nD Cert.PointwiseReferenceIdeal.τ).loc Cert.PointwiseReferenceIdeal.main_arg1) = m' ((c.tc : Thread Cert.PointwiseReferenceIdeal.nD Cert.PointwiseReferenceIdeal.τ).loc Cert.PointwiseReferenceIdeal.main_arg1)
          ∧ r.2.mem ((c.tc : Thread Cert.PointwiseReferenceIdeal.nD Cert.PointwiseReferenceIdeal.τ).loc Cert.PointwiseReferenceIdeal.main_arg2) = m' ((c.tc : Thread Cert.PointwiseReferenceIdeal.nD Cert.PointwiseReferenceIdeal.τ).loc Cert.PointwiseReferenceIdeal.main_arg2)
          ∧ r.2.mem ((c.tc : Thread Cert.PointwiseReferenceIdeal.nD Cert.PointwiseReferenceIdeal.τ).loc Cert.PointwiseReferenceIdeal.main_arg3) = m' ((c.tc : Thread Cert.PointwiseReferenceIdeal.nD Cert.PointwiseReferenceIdeal.τ).loc Cert.PointwiseReferenceIdeal.main_arg3)
          ∧ r.2.mem ((c.tc : Thread Cert.PointwiseReferenceIdeal.nD Cert.PointwiseReferenceIdeal.τ).loc Cert.PointwiseReferenceIdeal.main_arg4) = m' ((c.tc : Thread Cert.PointwiseReferenceIdeal.nD Cert.PointwiseReferenceIdeal.τ).loc Cert.PointwiseReferenceIdeal.main_arg4))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)) →
    ∃ (v0 : (c : Dev Cert.ProjectionIdeal.nD) → Buf (Elt Ideal) ((c.tc : Thread Cert.ProjectionIdeal.nD Cert.ProjectionIdeal.τ).loc Cert.ProjectionIdeal.main_v86_0)) (v1 : (c : Dev Cert.ProjectionIdeal.nD) → Buf (Elt Ideal) ((c.tc : Thread Cert.ProjectionIdeal.nD Cert.ProjectionIdeal.τ).loc Cert.ProjectionIdeal.main_v86_1)) (v2 : (c : Dev Cert.ProjectionIdeal.nD) → Buf (Elt Ideal) ((c.tc : Thread Cert.ProjectionIdeal.nD Cert.ProjectionIdeal.τ).loc Cert.ProjectionIdeal.main_v86_2)) (v3 : (c : Dev Cert.ProjectionIdeal.nD) → Buf (Elt Ideal) ((c.tc : Thread Cert.ProjectionIdeal.nD Cert.ProjectionIdeal.τ).loc Cert.ProjectionIdeal.main_v86_3)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v86_0) = v0 c
          ∧ r.2.mem ((c.tc : Thread Cert.ProjectionIdeal.nD Cert.ProjectionIdeal.τ).loc Cert.ProjectionIdeal.main_v86_1) = v1 c
          ∧ r.2.mem ((c.tc : Thread Cert.ProjectionIdeal.nD Cert.ProjectionIdeal.τ).loc Cert.ProjectionIdeal.main_v86_2) = v2 c
          ∧ r.2.mem ((c.tc : Thread Cert.ProjectionIdeal.nD Cert.ProjectionIdeal.τ).loc Cert.ProjectionIdeal.main_v86_3) = v3 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v132) = v0 c
          ∧ r.2.mem ((c.tc : Thread Cert.ProjectionReferenceIdeal.nD Cert.ProjectionReferenceIdeal.τ).loc Cert.ProjectionReferenceIdeal.main_v136) = v1 c
          ∧ r.2.mem ((c.tc : Thread Cert.ProjectionReferenceIdeal.nD Cert.ProjectionReferenceIdeal.τ).loc Cert.ProjectionReferenceIdeal.main_v140) = v2 c
          ∧ r.2.mem ((c.tc : Thread Cert.ProjectionReferenceIdeal.nD Cert.ProjectionReferenceIdeal.τ).loc Cert.ProjectionReferenceIdeal.main_v130) = v3 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hPointwise : Cert.Pointwise.Facts) (hPointwiseIdeal : Cert.PointwiseIdeal.Facts) (hPointwiseReferenceIdeal : Cert.PointwiseReferenceIdeal.Facts) (hProjection : Cert.Projection.Facts) (hProjectionIdeal : Cert.ProjectionIdeal.Facts) (hProjectionReferenceIdeal : Cert.ProjectionReferenceIdeal.Facts) (hPre_finite : Cert.Pre_finite.Facts) (hPre_experts_named : Cert.Pre_experts_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_experts_named := hPre_experts_named)
    ∧ quiescent_ExpertsIdeal (hExpertsIdeal := hExpertsIdeal) (hPre_experts_named := hPre_experts_named)
    ∧ quiescent_ExpertsReferenceIdeal (hExpertsReferenceIdeal := hExpertsReferenceIdeal)
    ∧ quiescent_ExpertsReferenceIdeal_pre_experts_named (hExpertsReferenceIdeal := hExpertsReferenceIdeal) (hPre_experts_named := hPre_experts_named)
    ∧ quiescent_Pointwise (hPointwise := hPointwise)
    ∧ quiescent_PointwiseIdeal (hPointwiseIdeal := hPointwiseIdeal)
    ∧ quiescent_PointwiseReferenceIdeal (hPointwiseReferenceIdeal := hPointwiseReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_experts_named := hPre_experts_named)
    ∧ preserves_Pointwise_PointwiseIdeal
    ∧ algebraic_PointwiseIdeal_PointwiseReferenceIdeal (hPointwiseIdeal := hPointwiseIdeal) (hPointwiseReferenceIdeal := hPointwiseReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_experts_named.lean ====
abbrev S448 : Shape := ⟨1, ![448]⟩
abbrev S1 : Shape := ⟨1, ![1]⟩
abbrev S917504x128 : Shape := ⟨2, ![917504, 128]⟩
abbrev S2x64x1024x512 : Shape := ⟨4, ![2, 64, 1024, 512]⟩
abbrev S2x64x512x1024 : Shape := ⟨4, ![2, 64, 512, 1024]⟩
abbrev S_ : Shape := ⟨0, ![]⟩

class Facts : Prop where
  bcast_S_S448 : S_.BroadcastsInDim S448 (![] : Fin 0 → Fin S448.rank)
  reducesTo_S448_S_d0 : S448.ReducesTo [0] S_
  h_S_ : 0 < S_.numel

variable [Facts]

def fn {F : FTy → Type} [FloatOps F] (main_arg0 : IVec S448 32) (main_arg1 : IVec S1 32) (main_arg2 : FVec F S917504x128 .f32) (main_arg3 : FVec F S2x64x1024x512 .f32) (main_arg4 : FVec F S2x64x1024x512 .f32) (main_arg5 : FVec F S2x64x512x1024 .f32) : IVec S_ 1 :=
  let main_c : IVec S_ 32 := constantI S_ 32 0#32
  let main_v0 : IVec S448 32 := broadcastInDim S448 ![] bcast_S_S448 main_c
  let main_v1 : IVec S448 1 := cmpi .sge main_arg0 main_v0
  let main_c_0 : IVec S_ 32 := constantI S_ 32 64#32
  let main_v2 : IVec S448 32 := broadcastInDim S448 ![] bcast_S_S448 main_c_0
  let main_v3 : IVec S448 1 := cmpi .slt main_arg0 main_v2
  let main_v4 : IVec S448 1 := andi main_v1 main_v3
  let main_c_1 : IVec S_ 1 := constantI S_ 1 1#1
  let main_v5 : IVec S_ 1 := (fun x v => Host.reduce IntOp.andi x v reducesTo_S448_S_d0 h_S_) main_v4 main_c_1
  main_v5
-- ==== Pre_finite.lean ====
abbrev S24x2048x8x64 : Shape := ⟨4, ![24, 2048, 8, 64]⟩
abbrev S24x2048x2x64 : Shape := ⟨4, ![24, 2048, 2, 64]⟩
abbrev S8 : Shape := ⟨1, ![8]⟩
abbrev S_ : Shape := ⟨0, ![]⟩

class Facts : Prop where
  bcast_S_S24x2048x8x64 : S_.BroadcastsInDim S24x2048x8x64 (![] : Fin 0 → Fin S24x2048x8x64.rank)
  reducesTo_S24x2048x8x64_S_d0_1_2_3 : S24x2048x8x64.ReducesTo [0, 1, 2, 3] S_
  h_S_ : 0 < S_.numel
  bcast_S_S24x2048x2x64 : S_.BroadcastsInDim S24x2048x2x64 (![] : Fin 0 → Fin S24x2048x2x64.rank)
  reducesTo_S24x2048x2x64_S_d0_1_2_3 : S24x2048x2x64.ReducesTo [0, 1, 2, 3] S_
  bcast_S_S8 : S_.BroadcastsInDim S8 (![] : Fin 0 → Fin S8.rank)
  reducesTo_S8_S_d0 : S8.ReducesTo [0] S_

variable [Facts]

def fn {F : FTy → Type} [FloatOps F] (main_arg0 : FVec F S24x2048x8x64 .f32) (main_arg1 : FVec F S24x2048x2x64 .f32) (main_arg2 : FVec F S24x2048x2x64 .f32) (main_arg3 : FVec F S8 .f32) : IVec S_ 1 :=
  let main_v0 : FVec F S24x2048x8x64 .f32 := Host.absf main_arg0
  let main_cst : FVec F S_ .f32 := constant S_ .f32 0x7F800000#32
  let main_v1 : FVec F S24x2048x8x64 .f32 := broadcastInDim S24x2048x8x64 ![] bcast_S_S24x2048x8x64 main_cst
  let main_v2 : IVec S24x2048x8x64 1 := cmpf .olt main_v0 main_v1
  let main_c : IVec S_ 1 := constantI S_ 1 1#1
  let main_v3 : IVec S_ 1 := (fun x v => Host.reduce IntOp.andi x v reducesTo_S24x2048x8x64_S_d0_1_2_3 h_S_) main_v2 main_c
  let main_v4 : FVec F S24x2048x2x64 .f32 := Host.absf main_arg1
  let main_cst_0 : FVec F S_ .f32 := constant S_ .f32 0x7F800000#32
  let main_v5 : FVec F S24x2048x2x64 .f32 := broadcastInDim S24x2048x2x64 ![] bcast_S_S24x2048x2x64 main_cst_0
  let main_v6 : IVec S24x2048x2x64 1 := cmpf .olt main_v4 main_v5
  let main_c_1 : IVec S_ 1 := constantI S_ 1 1#1
  let main_v7 : IVec S_ 1 := (fun x v => Host.reduce IntOp.andi x v reducesTo_S24x2048x2x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S24x2048x8x64 : Shape := ⟨4, ![24, 2048, 8, 64]⟩
abbrev S24x2048x2x64 : Shape := ⟨4, ![24, 2048, 2, 64]⟩
abbrev S8 : Shape := ⟨1, ![8]⟩
abbrev S_ : Shape := ⟨0, ![]⟩
abbrev S49152x512 : Shape := ⟨2, ![49152, 512]⟩
abbrev S24x2048x2x1x64 : Shape := ⟨5, ![24, 2048, 2, 1, 64]⟩
abbrev S24x2048x2x2x64 : Shape := ⟨5, ![24, 2048, 2, 2, 64]⟩
abbrev S49152x256 : Shape := ⟨2, ![49152, 256]⟩
abbrev S256x512 : Shape := ⟨2, ![256, 512]⟩
abbrev S2048x256 : Shape := ⟨2, ![2048, 256]⟩
abbrev S384x256 : Shape := ⟨2, ![384, 256]⟩
abbrev S384x128 : Shape := ⟨2, ![384, 128]⟩
abbrev S128x384 : Shape := ⟨2, ![128, 384]⟩
abbrev S128x128 : Shape := ⟨2, ![128, 128]⟩
abbrev S1 : Shape := ⟨1, ![1]⟩
abbrev S128 : Shape := ⟨1, ![128]⟩
abbrev S128x1 : Shape := ⟨2, ![128, 1]⟩

abbrev nBuf : Space → Nat
  | .hbm => 18
  | .vmem => 8
  | .smem => 1
  | _ => 0

abbrev bufTy : (tb : Table) → Fin (tcTables nBuf tb) → BufTy
  | .hbm, ⟨0, _⟩ => ⟨S24x2048x8x64, .f32⟩
  | .hbm, ⟨1, _⟩ => ⟨S24x2048x2x64, .f32⟩
  | .hbm, ⟨2, _⟩ => ⟨S24x2048x2x64, .f32⟩
  | .hbm, ⟨3, _⟩ => ⟨S8, .f32⟩
  | .hbm, ⟨4, _⟩ => ⟨S_, .f32⟩
  | .hbm, ⟨5, _⟩ => ⟨S24x2048x8x64, .f32⟩
  | .hbm, ⟨6, _⟩ => ⟨S24x2048x8x64, .f32⟩
  | .hbm, ⟨7, _⟩ => ⟨S24x2048x8x64, .bf16⟩
  | .hbm, ⟨8, _⟩ => ⟨S49152x512, .bf16⟩
  | .hbm, ⟨9, _⟩ => ⟨S24x2048x2x1x64, .f32⟩
  | .hbm, ⟨10, _⟩ => ⟨S24x2048x2x2x64, .f32⟩
  | .hbm, ⟨11, _⟩ => ⟨S24x2048x2x2x64, .bf16⟩
  | .hbm, ⟨12, _⟩ => ⟨S49152x256, .bf16⟩
  | .hbm, ⟨13, _⟩ => ⟨S24x2048x2x1x64, .f32⟩
  | .hbm, ⟨14, _⟩ => ⟨S24x2048x2x2x64, .f32⟩
  | .hbm, ⟨15, _⟩ => ⟨S24x2048x2x2x64, .bf16⟩
  | .hbm, ⟨16, _⟩ => ⟨S49152x256, .bf16⟩
  | .hbm, ⟨17, _⟩ => ⟨S49152x512, .bf16⟩
  | .local _ .vmem, ⟨0, _⟩ => ⟨S256x512, .bf16⟩
  | .local _ .vmem, ⟨1, _⟩ => ⟨S256x512, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x512, .bf16⟩
  | .local _ .vmem, ⟨7, _⟩ => ⟨S256x512, .bf16⟩
  | .local _ .smem, ⟨0, _⟩ => ⟨S8, .f32⟩
  | _, _ => ⟨S24x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![24, 8], ![false, false]⟩

def k0_mult1 (i : grid0.Coords) : BitVec 32 :=
  let c1664_i32 : BitVec 32 := 1664#32
  let c0_i32_0 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c1664_i32 v4
  v5
def k0_off1 (i : grid0.Coords) (c0_i32 : BitVec 32) : Fin 2 → Nat :=
  let c1664_i32 : BitVec 32 := 1664#32
  let c0_i32_0 : BitVec 32 := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c1664_i32 v4
  let v6 : BitVec 32 := v5
  let v7 : Index := Scalar.indexCast v6
  let c0 : Index := 0#32
  ![v7.toNat, 0]
def k0_mult2 (i : grid0.Coords) : BitVec 32 :=
  let c1664_i32_63 : BitVec 32 := 1664#32
  let c0_i32_62 : BitVec 32 := 0#32
  let arg1 : BitVec 32 := BitVec.ofNat 32 (i 1).val
  let c2_i32_58 : BitVec 32 := 2#32
  let v228 : BitVec 32 := Scalar.muli arg1 c2_i32_58
  let c1_i32_59 : BitVec 32 := 1#32
  let v229 : BitVec 32 := Scalar.addi v228 c1_i32_59
  let c1_i32_60 : BitVec 32 := 1#32
  let v230 : BitVec 32 := Scalar.subi v229 c1_i32_60
  let c128_i32_61 : BitVec 32 := 128#32
  let v231 : BitVec 32 := Scalar.muli v230 c128_i32_61
  let v232 : BitVec 32 := Scalar.maxsi c0_i32_62 v231
  let v233 : BitVec 32 := Scalar.minsi c1664_i32_63 v232
  v233
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S24x2048x8x64 : Shape := ⟨4, ![24, 2048, 8, 64]⟩
abbrev S24x2048x2x64 : Shape := ⟨4, ![24, 2048, 2, 64]⟩
abbrev S8 : Shape := ⟨1, ![8]⟩
abbrev S24x16x128x2x4x64 : Shape := ⟨6, ![24, 16, 128, 2, 4, 64]⟩
abbrev S_ : Shape := ⟨0, ![]⟩
abbrev S24x2304x2x64 : Shape := ⟨4, ![24, 2304, 2, 64]⟩
abbrev S24x18x128x2x64 : Shape := ⟨5, ![24, 18, 128, 2, 64]⟩
abbrev S24x16x128x2x64 : Shape := ⟨5, ![24, 16, 128, 2, 64]⟩
abbrev S24x16x384x2x64 : Shape := ⟨5, ![24, 16, 384, 2, 64]⟩
abbrev S24x16x2x384x128x4 : Shape := ⟨6, ![24, 16, 2, 384, 128, 4]⟩
abbrev S24x16x2x4x128x384 : Shape := ⟨6, ![24, 16, 2, 4, 128, 384]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x1x384 : Shape := ⟨3, ![16, 1, 384]⟩
abbrev S16x128x1 : Shape := ⟨3, ![16, 128, 1]⟩
abbrev S16x128x384 : Shape := ⟨3, ![16, 128, 384]⟩
abbrev S1x16x1x1x128x384 : Shape := ⟨6, ![1, 16, 1, 1, 128, 384]⟩
abbrev S2x4 : Shape := ⟨2, ![2, 4]⟩
abbrev S1x1x2x4x1x1 : Shape := ⟨6, ![1, 1, 2, 4, 1, 1]⟩
abbrev S24x16x2x4x128 : Shape := ⟨5, ![24, 16, 2, 4, 128]⟩
abbrev S24x16x2x4x128x1 : Shape := ⟨6, ![24, 16, 2, 4, 128, 1]⟩
abbrev S24x16x2x64x4x128 : Shape := ⟨6, ![24, 16, 2, 64, 4, 128]⟩
abbrev S49152x512 : Shape := ⟨2, ![49152, 512]⟩

abbrev nBuf : Space → Nat
  | .hbm => 94
  | .vmem => 0
  | .smem => 0
  | _ => 0

abbrev bufTy : (tb : Table) → Fin (tcTables nBuf tb) → BufTy
  | .hbm, ⟨0, _⟩ => ⟨S24x2048x8x64, .f32⟩
  | .hbm, ⟨1, _⟩ => ⟨S24x2048x2x64, .f32⟩
  | .hbm, ⟨2, _⟩ => ⟨S24x2048x2x64, .f32⟩
  | .hbm, ⟨3, _⟩ => ⟨S8, .f32⟩
  | .hbm, ⟨4, _⟩ => ⟨S24x16x128x2x4x64, .f32⟩
  | .hbm, ⟨5, _⟩ => ⟨S_, .i32⟩
  | .hbm, ⟨6, _⟩ => ⟨S_, .f32⟩
  | .hbm, ⟨7, _⟩ => ⟨S24x2304x2x64, .f32⟩
  | .hbm, ⟨8, _⟩ => ⟨S24x18x128x2x64, .f32⟩
  | .hbm, ⟨9, _⟩ => ⟨S24x16x128x2x64, .f32⟩
  | .hbm, ⟨10, _⟩ => ⟨S24x16x128x2x64, .f32⟩
  | .hbm, ⟨11, _⟩ => ⟨S24x16x128x2x64, .f32⟩
  | .hbm, ⟨12, _⟩ => ⟨S24x16x384x2x64, .f32⟩
  | .hbm, ⟨13, _⟩ => ⟨S_, .i32⟩
  | .hbm, ⟨14, _⟩ => ⟨S_, .f32⟩
  | .hbm, ⟨15, _⟩ => ⟨S24x2304x2x64, .f32⟩
  | .hbm, ⟨16, _⟩ => ⟨S24x18x128x2x64, .f32⟩
  | .hbm, ⟨17, _⟩ => ⟨S24x16x128x2x64, .f32⟩
  | .hbm, ⟨18, _⟩ => ⟨S24x16x128x2x64, .f32⟩
  | .hbm, ⟨19, _⟩ => ⟨S24x16x128x2x64, .f32⟩
  | .hbm, ⟨20, _⟩ => ⟨S24x16x384x2x64, .f32⟩
  | .hbm, ⟨21, _⟩ => ⟨S24x16x2x384x128x4, .f32⟩
  | .hbm, ⟨22, _⟩ => ⟨S24x16x2x4x128x384, .f32⟩
  | .hbm, ⟨23, _⟩ => ⟨S_, .f32⟩
  | .hbm, ⟨24, _⟩ => ⟨S24x16x2x4x128x384, .f32⟩
  | .hbm, ⟨25, _⟩ => ⟨S24x16x2x4x128x384, .f32⟩
  | .hbm, ⟨26, _⟩ => ⟨S16, .i32⟩
  | .hbm, ⟨27, _⟩ => ⟨S16x1, .i32⟩
  | .hbm, ⟨28, _⟩ => ⟨S_, .i32⟩
  | .hbm, ⟨29, _⟩ => ⟨S16x1, .i32⟩
  | .hbm, ⟨30, _⟩ => ⟨S16x1, .i32⟩
  | .hbm, ⟨31, _⟩ => ⟨S128, .i32⟩
  | .hbm, ⟨32, _⟩ => ⟨S1x128, .i32⟩
  | .hbm, ⟨33, _⟩ => ⟨S16x128, .i32⟩
  | .hbm, ⟨34, _⟩ => ⟨S16x128, .i32⟩
  | .hbm, ⟨35, _⟩ => ⟨S16x128, .i32⟩
  | .hbm, ⟨36, _⟩ => ⟨S_, .i32⟩
  | .hbm, ⟨37, _⟩ => ⟨S16x1, .i32⟩
  | .hbm, ⟨38, _⟩ => ⟨S16x1, .i32⟩
  | .hbm, ⟨39, _⟩ => ⟨S384, .i32⟩
  | .hbm, ⟨40, _⟩ => ⟨S1x384, .i32⟩
  | .hbm, ⟨41, _⟩ => ⟨S16x384, .i32⟩
  | .hbm, ⟨42, _⟩ => ⟨S16x384, .i32⟩
  | .hbm, ⟨43, _⟩ => ⟨S16x384, .i32⟩
  | .hbm, ⟨44, _⟩ => ⟨S16x1x384, .i32⟩
  | .hbm, ⟨45, _⟩ => ⟨S16x128x1, .i32⟩
  | .hbm, ⟨46, _⟩ => ⟨S16x128x384, .i32⟩
  | .hbm, ⟨47, _⟩ => ⟨S16x128x384, .i32⟩
  | .hbm, ⟨48, _⟩ => ⟨S16x128x384, .i32⟩
  | .hbm, ⟨49, _⟩ => ⟨S16x128x384, .i32⟩
  | .hbm, ⟨50, _⟩ => ⟨S_, .i32⟩
  | .hbm, ⟨51, _⟩ => ⟨S16x128x384, .i32⟩
  | .hbm, ⟨52, _⟩ => ⟨S16x128x384, .i1⟩
  | .hbm, ⟨53, _⟩ => ⟨S16x1x384, .i32⟩
  | .hbm, ⟨54, _⟩ => ⟨S_, .i32⟩
  | .hbm, ⟨55, _⟩ => ⟨S16x1x384, .i32⟩
  | .hbm, ⟨56, _⟩ => ⟨S16x1x384, .i1⟩
  | .hbm, ⟨57, _⟩ => ⟨S16x128x384, .i1⟩
  | .hbm, ⟨58, _⟩ => ⟨S16x128x384, .i1⟩
  | .hbm, ⟨59, _⟩ => ⟨S16x1x384, .i32⟩
  | .hbm, ⟨60, _⟩ => ⟨S_, .i32⟩
  | .hbm, ⟨61, _⟩ => ⟨S16x1x384, .i32⟩
  | .hbm, ⟨62, _⟩ => ⟨S16x1x384, .i1⟩
  | .hbm, ⟨63, _⟩ => ⟨S16x128x384, .i1⟩
  | .hbm, ⟨64, _⟩ => ⟨S16x128x384, .i1⟩
  | .hbm, ⟨65, _⟩ => ⟨S1x16x1x1x128x384, .i1⟩
  | .hbm, ⟨66, _⟩ => ⟨S_, .f32⟩
  | .hbm, ⟨67, _⟩ => ⟨S_, .f32⟩
  | .hbm, ⟨68, _⟩ => ⟨S24x16x2x4x128x384, .i1⟩
  | .hbm, ⟨69, _⟩ => ⟨S24x16x2x4x128x384, .f32⟩
  | .hbm, ⟨70, _⟩ => ⟨S24x16x2x4x128x384, .f32⟩
  | .hbm, ⟨71, _⟩ => ⟨S2x4, .f32⟩
  | .hbm, ⟨72, _⟩ => ⟨S1x1x2x4x1x1, .f32⟩
  | .hbm, ⟨73, _⟩ => ⟨S_, .f32⟩
  | .hbm, ⟨74, _⟩ => ⟨S24x16x2x4x128, .f32⟩
  | .hbm, ⟨75, _⟩ => ⟨S24x16x2x4x128x1, .f32⟩
  | .hbm, ⟨76, _⟩ => ⟨S24x16x2x4x128x1, .f32⟩
  | .hbm, ⟨77, _⟩ => ⟨S24x16x2x4x128x1, .f32⟩
  | .hbm, ⟨78, _⟩ => ⟨S24x16x2x4x128x384, .f32⟩
  | .hbm, ⟨79, _⟩ => ⟨S24x16x2x4x128x384, .f32⟩
  | .hbm, ⟨80, _⟩ => ⟨S24x16x2x4x128x384, .f32⟩
  | .hbm, ⟨81, _⟩ => ⟨S_, .f32⟩
  | .hbm, ⟨82, _⟩ => ⟨S24x16x2x4x128, .f32⟩
  | .hbm, ⟨83, _⟩ => ⟨S24x16x2x4x128x1, .f32⟩
  | .hbm, ⟨84, _⟩ => ⟨S24x16x2x4x128x1, .f32⟩
  | .hbm, ⟨85, _⟩ => ⟨S24x16x2x4x128x1, .f32⟩
  | .hbm, ⟨86, _⟩ => ⟨S24x16x2x4x128x1, .f32⟩
  | .hbm, ⟨87, _⟩ => ⟨S24x16x2x4x128x1, .f32⟩
  | .hbm, ⟨88, _⟩ => ⟨S24x16x2x4x128x384, .f32⟩
  | .hbm, ⟨89, _⟩ => ⟨S24x16x2x4x128x384, .f32⟩
  | .hbm, ⟨90, _⟩ => ⟨S24x16x2x64x4x128, .f32⟩
  | .hbm, ⟨91, _⟩ => ⟨S24x16x128x2x4x64, .f32⟩
  | .hbm, ⟨92, _⟩ => ⟨S49152x512, .f32⟩
  | .hbm, ⟨93, _⟩ => ⟨S49152x512, .bf16⟩
  | _, _ => ⟨S24x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Experts.lean ====
abbrev S448 : Shape := ⟨1, ![448]⟩
abbrev S1 : Shape := ⟨1, ![1]⟩
abbrev S917504x128 : Shape := ⟨2, ![917504, 128]⟩
abbrev S2x64x1024x512 : Shape := ⟨4, ![2, 64, 1024, 512]⟩
abbrev S2x64x512x1024 : Shape := ⟨4, ![2, 64, 512, 1024]⟩
abbrev S2048x128 : Shape := ⟨2, ![2048, 128]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S256x128 : Shape := ⟨2, ![256, 128]⟩
abbrev S256x1024 : Shape := ⟨2, ![256, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S917504x128, .f32⟩
  | .hbm, ⟨1, _⟩ => ⟨S2x64x1024x512, .f32⟩
  | .hbm, ⟨2, _⟩ => ⟨S2x64x1024x512, .f32⟩
  | .hbm, ⟨3, _⟩ => ⟨S2x64x512x1024, .f32⟩
  | .hbm, ⟨4, _⟩ => ⟨S917504x128, .f32⟩
  | .local _ .vmem, ⟨0, _⟩ => ⟨S2048x128, .f32⟩
  | .local _ .vmem, ⟨1, _⟩ => ⟨S2048x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S2048x128, .f32⟩
  | .local _ .vmem, ⟨9, _⟩ => ⟨S2048x128, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S448, .i32⟩
  | .local _ .smem, ⟨1, _⟩ => ⟨S1, .i32⟩
  | _, _ => ⟨S917504x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![448], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S448.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S448.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S448.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S448 : Shape := ⟨1, ![448]⟩
abbrev S1 : Shape := ⟨1, ![1]⟩
abbrev S917504x128 : Shape := ⟨2, ![917504, 128]⟩
abbrev S2x64x1024x512 : Shape := ⟨4, ![2, 64, 1024, 512]⟩
abbrev S2x64x512x1024 : Shape := ⟨4, ![2, 64, 512, 1024]⟩
abbrev S1x64x1024x512 : Shape := ⟨4, ![1, 64, 1024, 512]⟩
abbrev S64x1024x512 : Shape := ⟨3, ![64, 1024, 512]⟩
abbrev S1x64x512x1024 : Shape := ⟨4, ![1, 64, 512, 1024]⟩
abbrev S64x512x1024 : Shape := ⟨3, ![64, 512, 1024]⟩
abbrev S448x256x1024 : Shape := ⟨3, ![448, 256, 1024]⟩
abbrev S_ : Shape := ⟨0, ![]⟩
abbrev S448x1 : Shape := ⟨2, ![448, 1]⟩
abbrev S448x3 : Shape := ⟨2, ![448, 3]⟩
abbrev S448x1x1024x512 : Shape := ⟨4, ![448, 1, 1024, 512]⟩
abbrev S448x1024x512 : Shape := ⟨3, ![448, 1024, 512]⟩
abbrev S448x256x512 : Shape := ⟨3, ![448, 256, 512]⟩
abbrev S448x1x512x1024 : Shape := ⟨4, ![448, 1, 512, 1024]⟩
abbrev S448x512x1024 : Shape := ⟨3, ![448, 512, 1024]⟩
abbrev S448x1x1 : Shape := ⟨3, ![448, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S448, .i32⟩
  | .hbm, ⟨1, _⟩ => ⟨S1, .i32⟩
  | .hbm, ⟨2, _⟩ => ⟨S917504x128, .f32⟩
  | .hbm, ⟨3, _⟩ => ⟨S2x64x1024x512, .f32⟩
  | .hbm, ⟨4, _⟩ => ⟨S2x64x1024x512, .f32⟩
  | .hbm, ⟨5, _⟩ => ⟨S2x64x512x1024, .f32⟩
  | .hbm, ⟨6, _⟩ => ⟨S1x64x1024x512, .f32⟩
  | .hbm, ⟨7, _⟩ => ⟨S64x1024x512, .f32⟩
  | .hbm, ⟨8, _⟩ => ⟨S1x64x1024x512, .f32⟩
  | .hbm, ⟨9, _⟩ => ⟨S64x1024x512, .f32⟩
  | .hbm, ⟨10, _⟩ => ⟨S1x64x512x1024, .f32⟩
  | .hbm, ⟨11, _⟩ => ⟨S64x512x1024, .f32⟩
  | .hbm, ⟨12, _⟩ => ⟨S448x256x1024, .f32⟩
  | .hbm, ⟨13, _⟩ => ⟨S_, .i32⟩
  | .hbm, ⟨14, _⟩ => ⟨S448, .i32⟩
  | .hbm, ⟨15, _⟩ => ⟨S448, .i1⟩
  | .hbm, ⟨16, _⟩ => ⟨S_, .i32⟩
  | .hbm, ⟨17, _⟩ => ⟨S448, .i32⟩
  | .hbm, ⟨18, _⟩ => ⟨S448, .i32⟩
  | .hbm, ⟨19, _⟩ => ⟨S448, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S448x1, .i32⟩
  | .hbm, ⟨37, _⟩ => ⟨S448x1, .i32⟩
  | .hbm, ⟨38, _⟩ => ⟨S448x1, .i32⟩
  | .hbm, ⟨39, _⟩ => ⟨S448x3, .i32⟩
  | .hbm, ⟨40, _⟩ => ⟨S448x1x1024x512, .f32⟩
  | .hbm, ⟨41, _⟩ => ⟨S448x1024x512, .f32⟩
  | .hbm, ⟨42, _⟩ => ⟨S448x256x512, .f32⟩
  | .hbm, ⟨43, _⟩ => ⟨S448x256x512, .f32⟩
  | .hbm, ⟨44, _⟩ => ⟨S448x256x512, .f32⟩
  | .hbm, ⟨45, _⟩ => ⟨S_, .f32⟩
  | .hbm, ⟨46, _⟩ => ⟨S448x256x512, .f32⟩
  | .hbm, ⟨47, _⟩ => ⟨S448x256x512, .f32⟩
  | .hbm, ⟨48, _⟩ => ⟨S_, .f32⟩
  | .hbm, ⟨49, _⟩ => ⟨S448x256x512, .f32⟩
  | .hbm, ⟨50, _⟩ => ⟨S448x256x512, .f32⟩
  | .hbm, ⟨51, _⟩ => ⟨S448x256x512, .f32⟩
  | .hbm, ⟨52, _⟩ => ⟨S_, .i32⟩
  | .hbm, ⟨53, _⟩ => ⟨S448, .i32⟩
  | .hbm, ⟨54, _⟩ => ⟨S448, .i1⟩
  | .hbm, ⟨55, _⟩ => ⟨S_, .i32⟩
  | .hbm, ⟨56, _⟩ => ⟨S448, .i32⟩
  | .hbm, ⟨57, _⟩ => ⟨S448, .i32⟩
  | .hbm, ⟨58, _⟩ => ⟨S448, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S448x1, .i32⟩
  | .hbm, ⟨76, _⟩ => ⟨S448x1, .i32⟩
  | .hbm, ⟨77, _⟩ => ⟨S448x1, .i32⟩
  | .hbm, ⟨78, _⟩ => ⟨S448x3, .i32⟩
  | .hbm, ⟨79, _⟩ => ⟨S448x1x1024x512, .f32⟩
  | .hbm, ⟨80, _⟩ => ⟨S448x1024x512, .f32⟩
  | .hbm, ⟨81, _⟩ => ⟨S448x256x512, .f32⟩
  | .hbm, ⟨82, _⟩ => ⟨S448x256x512, .f32⟩
  | .hbm, ⟨83, _⟩ => ⟨S_, .i32⟩
  | .hbm, ⟨84, _⟩ => ⟨S448, .i32⟩
  | .hbm, ⟨85, _⟩ => ⟨S448, .i1⟩
  | .hbm, ⟨86, _⟩ => ⟨S_, .i32⟩
  | .hbm, ⟨87, _⟩ => ⟨S448, .i32⟩
  | .hbm, ⟨88, _⟩ => ⟨S448, .i32⟩
  | .hbm, ⟨89, _⟩ => ⟨S448, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S448x1, .i32⟩
  | .hbm, ⟨107, _⟩ => ⟨S448x1, .i32⟩
  | .hbm, ⟨108, _⟩ => ⟨S448x1, .i32⟩
  | .hbm, ⟨109, _⟩ => ⟨S448x3, .i32⟩
  | .hbm, ⟨110, _⟩ => ⟨S448x1x512x1024, .f32⟩
  | .hbm, ⟨111, _⟩ => ⟨S448x512x1024, .f32⟩
  | .hbm, ⟨112, _⟩ => ⟨S448x256x1024, .f32⟩
  | .hbm, ⟨113, _⟩ => ⟨S448, .i32⟩
  | .hbm, ⟨114, _⟩ => ⟨S_, .i32⟩
  | .hbm, ⟨115, _⟩ => ⟨S448, .i32⟩
  | .hbm, ⟨116, _⟩ => ⟨S448, .i1⟩
  | .hbm, ⟨117, _⟩ => ⟨S448x1x1, .i1⟩
  | .hbm, ⟨118, _⟩ => ⟨S_, .f32⟩
  | .hbm, ⟨119, _⟩ => ⟨S_, .f32⟩
  | .hbm, ⟨120, _⟩ => ⟨S448x256x1024, .i1⟩
  | .hbm, ⟨121, _⟩ => ⟨S448x256x1024, .f32⟩
  | .hbm, ⟨122, _⟩ => ⟨S448x256x1024, .f32⟩
  | .hbm, ⟨123, _⟩ => ⟨S917504x128, .f32⟩
  | _, _ => ⟨S448, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_c_2 : Ref sig .tc := ⟨.hbm, 21, rfl⟩
abbrev main_v12 : Ref sig .tc := ⟨.hbm, 22, rfl⟩
abbrev main_c_3 : Ref sig .tc := ⟨.hbm, 23, rfl⟩
abbrev main_c_4 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_c_6 : Ref sig .tc := ⟨.hbm, 28, rfl⟩
abbrev main_c_7 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_c_10 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v25 : Ref sig .tc := ⟨.hbm, 51, rfl⟩
abbrev main_c_11 : Ref sig .tc := ⟨.hbm, 52, rfl⟩
abbrev main_v26 : Ref sig .tc := ⟨.hbm, 53, rfl⟩
abbrev main_v27 : Ref sig .tc := ⟨.hbm, 54, rfl⟩
abbrev main_c_12 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_13 : Ref sig .tc := ⟨.hbm, 59, rfl⟩
abbrev main_c_14 : Ref sig .tc := ⟨.hbm, 60, rfl⟩
abbrev main_v31 : Ref sig .tc := ⟨.hbm, 61, rfl⟩
abbrev main_c_15 : Ref sig .tc := ⟨.hbm, 62, rfl⟩
abbrev main_c_16 : Ref sig .tc := ⟨.hbm, 63, rfl⟩
abbrev main_v32 : Ref sig .tc := ⟨.hbm, 64, rfl⟩
abbrev main_c_17 : Ref sig .tc := ⟨.hbm, 65, rfl⟩
abbrev main_v33 : Ref sig .tc := ⟨.hbm, 66, rfl⟩
abbrev main_c_18 : Ref sig .tc := ⟨.hbm, 67, rfl⟩
abbrev main_c_19 : Ref sig .tc := ⟨.hbm, 68, rfl⟩
abbrev main_v34 : Ref sig .tc := ⟨.hbm, 69, rfl⟩
abbrev main_c_20 : Ref sig .tc := ⟨.hbm, 70, rfl⟩
abbrev main_c_21 : Ref sig .tc := ⟨.hbm, 71, rfl⟩
abbrev main_v35 : Ref sig .tc := ⟨.hbm, 72, rfl⟩
abbrev main_c_22 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_23 : Ref sig .tc := ⟨.hbm, 83, rfl⟩
abbrev main_v45 : Ref sig .tc := ⟨.hbm, 84, rfl⟩
abbrev main_v46 : Ref sig .tc := ⟨.hbm, 85, rfl⟩
abbrev main_c_24 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_25 : Ref sig .tc := ⟨.hbm, 90, rfl⟩
abbrev main_c_26 : Ref sig .tc := ⟨.hbm, 91, rfl⟩
abbrev main_v50 : Ref sig .tc := ⟨.hbm, 92, rfl⟩
abbrev main_c_27 : Ref sig .tc := ⟨.hbm, 93, rfl⟩
abbrev main_c_28 : Ref sig .tc := ⟨.hbm, 94, rfl⟩
abbrev main_v51 : Ref sig .tc := ⟨.hbm, 95, rfl⟩
abbrev main_c_29 : Ref sig .tc := ⟨.hbm, 96, rfl⟩
abbrev main_v52 : Ref sig .tc := ⟨.hbm, 97, rfl⟩
abbrev main_c_30 : Ref sig .tc := ⟨.hbm, 98, rfl⟩
abbrev main_c_31 : Ref sig .tc := ⟨.hbm, 99, rfl⟩
abbrev main_v53 : Ref sig .tc := ⟨.hbm, 100, rfl⟩
abbrev main_c_32 : Ref sig .tc := ⟨.hbm, 101, rfl⟩
abbrev main_c_33 : Ref sig .tc := ⟨.hbm, 102, rfl⟩
abbrev main_v54 : Ref sig .tc := ⟨.hbm, 103, rfl⟩
abbrev main_c_34 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v68 : Ref sig .tc := ⟨.hbm, 122, rfl⟩
abbrev main_v69 : Ref sig .tc := ⟨.hbm, 123, rfl⟩

abbrev nD : Nat := 1
abbrev τ : Topo := Topo.v7x

variable {F : FTy → Type} [FloatOps F]
-- ==== Pointwise.lean ====
abbrev S24x2048x1024 : Shape := ⟨3, ![24, 2048, 1024]⟩
abbrev S24x6144 : Shape := ⟨2, ![24, 6144]⟩
abbrev S1024 : Shape := ⟨1, ![1024]⟩
abbrev S1024x2048 : Shape := ⟨2, ![1024, 2048]⟩
abbrev S2048 : Shape := ⟨1, ![2048]⟩
abbrev S49152x1024 : Shape := ⟨2, ![49152, 1024]⟩
abbrev S24x1x6144 : Shape := ⟨3, ![24, 1, 6144]⟩
abbrev S1x1024 : Shape := ⟨2, ![1, 1024]⟩
abbrev S1x2048 : Shape := ⟨2, ![1, 2048]⟩
abbrev S512x1024 : Shape := ⟨2, ![512, 1024]⟩
abbrev S1x1x6144 : Shape := ⟨3, ![1, 1, 6144]⟩
abbrev S1x6144 : Shape := ⟨2, ![1, 6144]⟩
abbrev S512 : Shape := ⟨1, ![512]⟩
abbrev S512x1 : Shape := ⟨2, ![512, 1]⟩
abbrev S512x2048 : Shape := ⟨2, ![512, 2048]⟩

abbrev nBuf : Space → Nat
  | .hbm => 11
  | .vmem => 9
  | .smem => 0
  | _ => 0

abbrev bufTy : (tb : Table) → Fin (tcTables nBuf tb) → BufTy
  | .hbm, ⟨0, _⟩ => ⟨S24x2048x1024, .f32⟩
  | .hbm, ⟨1, _⟩ => ⟨S24x6144, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S49152x1024, .f32⟩
  | .hbm, ⟨6, _⟩ => ⟨S24x1x6144, .f32⟩
  | .hbm, ⟨7, _⟩ => ⟨S1x1024, .f32⟩
  | .hbm, ⟨8, _⟩ => ⟨S1024x2048, .bf16⟩
  | .hbm, ⟨9, _⟩ => ⟨S1x2048, .f32⟩
  | .hbm, ⟨10, _⟩ => ⟨S49152x1024, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2048, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | _, _ => ⟨S24x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PointwiseReferenceIdeal.lean ====
abbrev S24x2048x1024 : Shape := ⟨3, ![24, 2048, 1024]⟩
abbrev S24x6144 : Shape := ⟨2, ![24, 6144]⟩
abbrev S1024 : Shape := ⟨1, ![1024]⟩
abbrev S1024x2048 : Shape := ⟨2, ![1024, 2048]⟩
abbrev S2048 : Shape := ⟨1, ![2048]⟩
abbrev S24x1024 : Shape := ⟨2, ![24, 1024]⟩
abbrev S_ : Shape := ⟨0, ![]⟩
abbrev S24x2048 : Shape := ⟨2, ![24, 2048]⟩
abbrev S24x2048x1 : Shape := ⟨3, ![24, 2048, 1]⟩
abbrev S1x1x1024 : Shape := ⟨3, ![1, 1, 1024]⟩
abbrev S24x1x1024 : Shape := ⟨3, ![24, 1, 1024]⟩
abbrev S24x2048x2048 : Shape := ⟨3, ![24, 2048, 2048]⟩
abbrev S1x1x2048 : Shape := ⟨3, ![1, 1, 2048]⟩
abbrev S49152x1024 : Shape := ⟨2, ![49152, 1024]⟩

abbrev nBuf : Space → Nat
  | .hbm => 49
  | .vmem => 0
  | .smem => 0
  | _ => 0

abbrev bufTy : (tb : Table) → Fin (tcTables nBuf tb) → BufTy
  | .hbm, ⟨0, _⟩ => ⟨S24x2048x1024, .f32⟩
  | .hbm, ⟨1, _⟩ => ⟨S24x6144, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S24x1024, .f32⟩
  | .hbm, ⟨6, _⟩ => ⟨S24x1024, .f32⟩
  | .hbm, ⟨7, _⟩ => ⟨S24x2048x1024, .f32⟩
  | .hbm, ⟨8, _⟩ => ⟨S_, .f32⟩
  | .hbm, ⟨9, _⟩ => ⟨S24x2048, .f32⟩
  | .hbm, ⟨10, _⟩ => ⟨S24x2048x1, .f32⟩
  | .hbm, ⟨11, _⟩ => ⟨S_, .f32⟩
  | .hbm, ⟨12, _⟩ => ⟨S24x2048x1, .f32⟩
  | .hbm, ⟨13, _⟩ => ⟨S24x2048x1, .f32⟩
  | .hbm, ⟨14, _⟩ => ⟨S_, .f32⟩
  | .hbm, ⟨15, _⟩ => ⟨S24x2048x1, .f32⟩
  | .hbm, ⟨16, _⟩ => ⟨S24x2048x1, .f32⟩
  | .hbm, ⟨17, _⟩ => ⟨S24x2048x1, .f32⟩
  | .hbm, ⟨18, _⟩ => ⟨S24x2048x1024, .f32⟩
  | .hbm, ⟨19, _⟩ => ⟨S24x2048x1024, .f32⟩
  | .hbm, ⟨20, _⟩ => ⟨S1x1x1024, .f32⟩
  | .hbm, ⟨21, _⟩ => ⟨S24x2048x1024, .f32⟩
  | .hbm, ⟨22, _⟩ => ⟨S24x2048x1024, .f32⟩
  | .hbm, ⟨23, _⟩ => ⟨S24x1x1024, .f32⟩
  | .hbm, ⟨24, _⟩ => ⟨S_, .f32⟩
  | .hbm, ⟨25, _⟩ => ⟨S24x1x1024, .f32⟩
  | .hbm, ⟨26, _⟩ => ⟨S24x1x1024, .f32⟩
  | .hbm, ⟨27, _⟩ => ⟨S24x2048x1024, .f32⟩
  | .hbm, ⟨28, _⟩ => ⟨S24x2048x1024, .f32⟩
  | .hbm, ⟨29, _⟩ => ⟨S24x1x1024, .f32⟩
  | .hbm, ⟨30, _⟩ => ⟨S24x2048x1024, .f32⟩
  | .hbm, ⟨31, _⟩ => ⟨S24x2048x1024, .f32⟩
  | .hbm, ⟨32, _⟩ => ⟨S24x2048x2048, .f32⟩
  | .hbm, ⟨33, _⟩ => ⟨S1x1x2048, .f32⟩
  | .hbm, ⟨34, _⟩ => ⟨S24x2048x2048, .f32⟩
  | .hbm, ⟨35, _⟩ => ⟨S24x2048x2048, .f32⟩
  | .hbm, ⟨36, _⟩ => ⟨S24x2048x1024, .f32⟩
  | .hbm, ⟨37, _⟩ => ⟨S24x2048x1024, .f32⟩
  | .hbm, ⟨38, _⟩ => ⟨S24x2048x1024, .f32⟩
  | .hbm, ⟨39, _⟩ => ⟨S24x2048x1024, .f32⟩
  | .hbm, ⟨40, _⟩ => ⟨S_, .f32⟩
  | .hbm, ⟨41, _⟩ => ⟨S24x2048x1024, .f32⟩
  | .hbm, ⟨42, _⟩ => ⟨S24x2048x1024, .f32⟩
  | .hbm, ⟨43, _⟩ => ⟨S_, .f32⟩
  | .hbm, ⟨44, _⟩ => ⟨S24x2048x1024, .f32⟩
  | .hbm, ⟨45, _⟩ => ⟨S24x2048x1024, .f32⟩
  | .hbm, ⟨46, _⟩ => ⟨S24x2048x1024, .f32⟩
  | .hbm, ⟨47, _⟩ => ⟨S49152x1024, .f32⟩
  | .hbm, ⟨48, _⟩ => ⟨S49152x1024, .bf16⟩
  | _, _ => ⟨S24x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Projection.lean ====
abbrev S8x2048x1024 : Shape := ⟨3, ![8, 2048, 1024]⟩
abbrev S16x2048x1024 : Shape := ⟨3, ![16, 2048, 1024]⟩
abbrev S24x6144 : Shape := ⟨2, ![24, 6144]⟩
abbrev S1024 : Shape := ⟨1, ![1024]⟩
abbrev S1024x2304 : Shape := ⟨2, ![1024, 2304]⟩
abbrev S64 : Shape := ⟨1, ![64]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S512 : Shape := ⟨1, ![512]⟩
abbrev S512x1 : Shape := ⟨2, ![512, 1]⟩
abbrev S2048x512 : Shape := ⟨2, ![2048, 512]⟩
abbrev S1x512 : Shape := ⟨2, ![1, 512]⟩
abbrev S512x512 : Shape := ⟨2, ![512, 512]⟩
abbrev S1024x512 : Shape := ⟨2, ![1024, 512]⟩
abbrev S1024x128 : Shape := ⟨2, ![1024, 128]⟩
abbrev S1024x2x1x64 : Shape := ⟨4, ![1024, 2, 1, 64]⟩
abbrev S1024x2x2x64 : Shape := ⟨4, ![1024, 2, 2, 64]⟩
abbrev S1024x256 : Shape := ⟨2, ![1024, 256]⟩
abbrev S1024x1536 : Shape := ⟨2, ![1024, 1536]⟩
abbrev S1024x2560 : Shape := ⟨2, ![1024, 2560]⟩
abbrev S16384x1024 : Shape := ⟨2, ![16384, 1024]⟩
abbrev S32768x1024 : Shape := ⟨2, ![32768, 1024]⟩
abbrev S24x1x6144 : Shape := ⟨3, ![24, 1, 6144]⟩
abbrev S1x1024 : Shape := ⟨2, ![1, 1024]⟩
abbrev S1x64 : Shape := ⟨2, ![1, 64]⟩
abbrev S8x64 : Shape := ⟨2, ![8, 64]⟩
abbrev S4x64 : Shape := ⟨2, ![4, 64]⟩
abbrev S256 : Shape := ⟨1, ![256]⟩
abbrev S1x256 : Shape := ⟨2, ![1, 256]⟩
abbrev S49152x512 : Shape := ⟨2, ![49152, 512]⟩
abbrev S49152x256 : Shape := ⟨2, ![49152, 256]⟩
abbrev S49152x1536 : Shape := ⟨2, ![49152, 1536]⟩
abbrev S512x1024 : Shape := ⟨2, ![512, 1024]⟩
abbrev S1x1x6144 : Shape := ⟨3, ![1, 1, 6144]⟩
abbrev S512x256 : Shape := ⟨2, ![512, 256]⟩
abbrev S512x1536 : Shape := ⟨2, ![512, 1536]⟩
abbrev S1x6144 : Shape := ⟨2, ![1, 6144]⟩
abbrev S512x2560 : Shape := ⟨2, ![512, 2560]⟩
abbrev S256x256 : Shape := ⟨2, ![256, 256]⟩

abbrev nBuf : Space → Nat
  | .hbm => 185
  | .vmem => 25
  | .smem => 0
  | _ => 0

abbrev hbmTy0_0 (i : Nat) : BufTy := match i % 128 with
  | 0 => ⟨S8x2048x1024, .f32⟩
  | 1 => ⟨S16x2048x1024, .f32⟩
  | 2 => ⟨S24x6144, .f32⟩
  | 3 => ⟨S1024, .f32⟩
  | 4 => ⟨S1024x2304, .f32⟩
  | 5 => ⟨S64, .f32⟩
  | 6 => ⟨S64, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S2048, .f32⟩
  | 19 => ⟨S2048x1, .f32⟩
  | 20 => ⟨S1x8, .f32⟩
  | 21 => ⟨S2048x8, .f32⟩
  | 22 => ⟨S2048x8, .f32⟩
  | 23 => ⟨S2048x8, .f32⟩
  | 24 => ⟨S2048x8, .f32⟩
  | 25 => ⟨S2048x8, .f32⟩
  | 26 => ⟨S512, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S512, .i32⟩
  | 34 => ⟨S512, .i32⟩
  | 35 => ⟨S_, .i32⟩
  | 36 => ⟨S512, .i32⟩
  | 37 => ⟨S512, .i1⟩
  | 38 => ⟨S_, .i32⟩
  | 39 => ⟨S512, .i32⟩
  | 40 => ⟨S512, .i1⟩
  | 41 => ⟨S_, .i32⟩
  | 42 => ⟨S_, .i1⟩
  | 43 => ⟨S512, .i1⟩
  | 44 => ⟨S512, .i1⟩
  | 45 => ⟨S512, .i1⟩
  | 46 => ⟨S512, .i32⟩
  | 47 => ⟨S512, .i32⟩
  | 48 => ⟨S512, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S512, .i32⟩
  | 56 => ⟨S512, .i32⟩
  | 57 => ⟨S_, .i32⟩
  | 58 => ⟨S512, .i32⟩
  | 59 => ⟨S512, .i1⟩
  | 60 => ⟨S_, .i32⟩
  | 61 => ⟨S512, .i32⟩
  | 62 => ⟨S512, .i1⟩
  | 63 => ⟨S_, .i32⟩
  | 64 => ⟨S_, .i1⟩
  | 65 => ⟨S512, .i1⟩
  | 66 => ⟨S512, .i1⟩
  | 67 => ⟨S512, .i1⟩
  | 68 => ⟨S512, .i32⟩
  | 69 => ⟨S512, .i32⟩
  | 70 => ⟨S512, .i32⟩
  | 71 => ⟨S_, .i32⟩
  | 72 => ⟨S512, .i32⟩
  | 73 => ⟨S512, .i1⟩
  | 74 => ⟨S_, .i32⟩
  | 75 => ⟨S512, .i32⟩
  | 76 => ⟨S512, .i1⟩
  | 77 => ⟨S_, .i32⟩
  | 78 => ⟨S512, .i32⟩
  | 79 => ⟨S512, .i32⟩
  | 80 => ⟨S512, .i32⟩
  | 81 => ⟨S512x1, .i32⟩
  | 82 => ⟨S2048x512, .f32⟩
  | 83 => ⟨S_, .f32⟩
  | 84 => ⟨S_, .f32⟩
  | 85 => ⟨S2048x512, .i1⟩
  | 86 => ⟨S2048x512, .f32⟩
  | 87 => ⟨S2048x512, .f32⟩
  | 88 => ⟨S_, .i32⟩
  | 89 => ⟨S512, .i32⟩
  | 90 => ⟨S512, .i1⟩
  | 91 => ⟨S_, .i32⟩
  | 92 => ⟨S512, .i32⟩
  | 93 => ⟨S512, .i1⟩
  | 94 => ⟨S512, .i1⟩
  | 95 => ⟨S_, .i32⟩
  | 96 => ⟨S512, .i32⟩
  | 97 => ⟨S512, .i1⟩
  | 98 => ⟨S_, .i32⟩
  | 99 => ⟨S512, .i32⟩
  | 100 => ⟨S512, .i32⟩
  | 101 => ⟨S512, .i32⟩
  | 102 => ⟨S512x1, .i32⟩
  | 103 => ⟨S2048x512, .f32⟩
  | 104 => ⟨S_, .f32⟩
  | 105 => ⟨S_, .f32⟩
  | 106 => ⟨S2048x512, .i1⟩
  | 107 => ⟨S2048x512, .f32⟩
  | 108 => ⟨S2048x512, .f32⟩
  | 109 => ⟨S_, .i32⟩
  | 110 => ⟨S512, .i32⟩
  | 111 => ⟨S512, .i1⟩
  | 112 => ⟨S_, .i32⟩
  | 113 => ⟨S512, .i32⟩
  | 114 => ⟨S512, .i1⟩
  | 115 => ⟨S_, .i32⟩
  | 116 => ⟨S512, .i32⟩
  | 117 => ⟨S512, .i32⟩
  | 118 => ⟨S512, .i32⟩
  | 119 => ⟨S512x1, .i32⟩
  | 120 => ⟨S2048x512, .f32⟩
  | 121 => ⟨S2048x512, .f32⟩
  | 122 => ⟨S_, .f32⟩
  | 123 => ⟨S_, .f32⟩
  | 124 => ⟨S2048x512, .i1⟩
  | 125 => ⟨S2048x512, .f32⟩
  | 126 => ⟨S2048x512, .f32⟩
  | 127 => ⟨S512, .i32⟩
  | _ => ⟨S8x2048x1024, .f32⟩

abbrev hbmTy0_1 (i : Nat) : BufTy := match i % 128 with
  | 0 => ⟨S_, .i32⟩
  | 1 => ⟨S_, .i32⟩
  | 2 => ⟨S512, .i32⟩
  | 3 => ⟨S512, .i32⟩
  | 4 => ⟨S512, .i32⟩
  | 5 => ⟨S_, .i32⟩
  | 6 => ⟨S512, .i32⟩
  | 7 => ⟨S512, .i1⟩
  | 8 => ⟨S512, .i32⟩
  | 9 => ⟨S512, .i32⟩
  | 10 => ⟨S_, .i32⟩
  | 11 => ⟨S512, .i32⟩
  | 12 => ⟨S512, .i1⟩
  | 13 => ⟨S512, .i1⟩
  | 14 => ⟨S_, .i32⟩
  | 15 => ⟨S512, .i32⟩
  | 16 => ⟨S512, .i32⟩
  | 17 => ⟨S512, .i32⟩
  | 18 => ⟨S512x1, .i32⟩
  | 19 => ⟨S1x512, .i32⟩
  | 20 => ⟨S512x512, .i32⟩
  | 21 => ⟨S512x512, .i32⟩
  | 22 => ⟨S512x512, .i1⟩
  | 23 => ⟨S_, .f32⟩
  | 24 => ⟨S_, .f32⟩
  | 25 => ⟨S512x512, .f32⟩
  | 26 => ⟨S512x512, .f32⟩
  | 27 => ⟨S512x512, .f32⟩
  | 28 => ⟨S512x512, .bf16⟩
  | 29 => ⟨S1024x512, .f32⟩
  | 30 => ⟨S1024x128, .f32⟩
  | 31 => ⟨S1024x2x1x64, .f32⟩
  | 32 => ⟨S1024x2x2x64, .f32⟩
  | 33 => ⟨S1024x256, .f32⟩
  | 34 => ⟨S1024x128, .f32⟩
  | 35 => ⟨S1024x2x1x64, .f32⟩
  | 36 => ⟨S1024x2x2x64, .f32⟩
  | 37 => ⟨S1024x256, .f32⟩
  | 38 => ⟨S1024x1536, .f32⟩
  | 39 => ⟨S1024x2560, .f32⟩
  | 40 => ⟨S1024x2560, .bf16⟩
  | 41 => ⟨S16384x1024, .f32⟩
  | 42 => ⟨S32768x1024, .f32⟩
  | 43 => ⟨S24x1x6144, .f32⟩
  | 44 => ⟨S1x1024, .f32⟩
  | 45 => ⟨S1x64, .f32⟩
  | 46 => ⟨S8x64, .f32⟩
  | 47 => ⟨S512, .f32⟩
  | 48 => ⟨S1x512, .f32⟩
  | 49 => ⟨S1x64, .f32⟩
  | 50 => ⟨S4x64, .f32⟩
  | 51 => ⟨S256, .f32⟩
  | 52 => ⟨S1x256, .f32⟩
  | 53 => ⟨S49152x512, .bf16⟩
  | 54 => ⟨S49152x256, .bf16⟩
  | 55 => ⟨S49152x256, .bf16⟩
  | 56 => ⟨S49152x1536, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1024x2560, .bf16⟩
  | .local _ .vmem, ⟨8, _⟩ => ⟨S1x512, .f32⟩
  | .local _ .vmem, ⟨9, _⟩ => ⟨S1x256, .f32⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x1536, .bf16⟩
  | .local _ .vmem, ⟨24, _⟩ => ⟨S512x1536, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_1 : Ref sig .tc := ⟨.hbm, 35, rfl⟩
abbrev main_call0_v5 : Ref sig .tc := ⟨.hbm, 36, rfl⟩
abbrev main_call0_v6 : Ref sig .tc := ⟨.hbm, 37, rfl⟩
abbrev main_call0_c_2 : Ref sig .tc := ⟨.hbm, 38, rfl⟩
abbrev main_call0_v7 : Ref sig .tc := ⟨.hbm, 39, rfl⟩
abbrev main_call0_v8 : Ref sig .tc := ⟨.hbm, 40, rfl⟩
abbrev main_call0_c_3 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_v17 : Ref sig .tc := ⟨.hbm, 48, rfl⟩
abbrev main_c_2 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v18 : Ref sig .tc := ⟨.hbm, 70, rfl⟩
abbrev main_c_3 : Ref sig .tc := ⟨.hbm, 71, rfl⟩
abbrev main_v19 : Ref sig .tc := ⟨.hbm, 72, rfl⟩
abbrev main_v20 : Ref sig .tc := ⟨.hbm, 73, rfl⟩
abbrev main_c_4 : Ref sig .tc := ⟨.hbm, 74, rfl⟩
abbrev main_v21 : Ref sig .tc := ⟨.hbm, 75, rfl⟩
abbrev main_v22 : Ref sig .tc := ⟨.hbm, 76, rfl⟩
abbrev main_c_5 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_cst_6 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v28 : Ref sig .tc := ⟨.hbm, 87, rfl⟩
abbrev main_c_7 : Ref sig .tc := ⟨.hbm, 88, rfl⟩
abbrev main_v29 : Ref sig .tc := ⟨.hbm, 89, rfl⟩
abbrev main_v30 : Ref sig .tc := ⟨.hbm, 90, rfl⟩
abbrev main_c_8 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_c_9 : Ref sig .tc := ⟨.hbm, 95, rfl⟩
abbrev main_v34 : Ref sig .tc := ⟨.hbm, 96, rfl⟩
abbrev main_v35 : Ref sig .tc := ⟨.hbm, 97, rfl⟩
abbrev main_c_10 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_cst_11 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v41 : Ref sig .tc := ⟨.hbm, 108, rfl⟩
abbrev main_c_12 : Ref sig .tc := ⟨.hbm, 109, rfl⟩
abbrev main_v42 : Ref sig .tc := ⟨.hbm, 110, rfl⟩
abbrev main_v43 : Ref sig .tc := ⟨.hbm, 111, rfl⟩
abbrev main_c_13 : Ref sig .tc := ⟨.hbm, 112, rfl⟩
abbrev main_v44 : Ref sig .tc := ⟨.hbm, 113, rfl⟩
abbrev main_v45 : Ref sig .tc := ⟨.hbm, 114, rfl⟩
abbrev main_c_14 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_cst_15 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v52 : Ref sig .tc := ⟨.hbm, 126, rfl⟩
abbrev main_v53 : Ref sig .tc := ⟨.hbm, 127, rfl⟩
abbrev main_c_16 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_v5 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_c : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_0 : Ref sig .tc := ⟨.hbm, 142, rfl⟩
abbrev main_call5_v12 : Ref sig .tc := ⟨.hbm, 143, rfl⟩
abbrev main_call5_v13 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_cst_17 : Ref sig .tc := ⟨.hbm, 151, rfl⟩
abbrev main_cst_18 : Ref sig .tc := ⟨.hbm, 152, rfl⟩
abbrev main_call6_v0 : Ref sig .tc := ⟨.hbm, 153, rfl⟩
abbrev main_call6_v1 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86_0 : Ref sig .tc := ⟨.hbm, 181, rfl⟩
abbrev main_v86_1 : Ref sig .tc := ⟨.hbm, 182, rfl⟩
abbrev main_v86_2 : Ref sig .tc := ⟨.hbm, 183, rfl⟩
abbrev main_v86_3 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjectionReferenceIdeal.lean ====
abbrev S8x2048x1024 : Shape := ⟨3, ![8, 2048, 1024]⟩
abbrev S16x2048x1024 : Shape := ⟨3, ![16, 2048, 1024]⟩
abbrev S24x6144 : Shape := ⟨2, ![24, 6144]⟩
abbrev S1024 : Shape := ⟨1, ![1024]⟩
abbrev S1024x2304 : Shape := ⟨2, ![1024, 2304]⟩
abbrev S64 : Shape := ⟨1, ![64]⟩
abbrev S24x2048x1024 : Shape := ⟨3, ![24, 2048, 1024]⟩
abbrev S24x1024 : Shape := ⟨2, ![24, 1024]⟩
abbrev S_ : Shape := ⟨0, ![]⟩
abbrev S24x2048 : Shape := ⟨2, ![24, 2048]⟩
abbrev S24x2048x1 : Shape := ⟨3, ![24, 2048, 1]⟩
abbrev S1x1x1024 : Shape := ⟨3, ![1, 1, 1024]⟩
abbrev S24x1x1024 : Shape := ⟨3, ![24, 1, 1024]⟩
abbrev S24x2048x2304 : Shape := ⟨3, ![24, 2048, 2304]⟩
abbrev S2048 : Shape := ⟨1, ![2048]⟩
abbrev S24x2048x512 : Shape := ⟨3, ![24, 2048, 512]⟩
abbrev S24x2048x8x64 : Shape := ⟨4, ![24, 2048, 8, 64]⟩
abbrev S24x2048x128 : Shape := ⟨3, ![24, 2048, 128]⟩
abbrev S24x2048x2x64 : Shape := ⟨4, ![24, 2048, 2, 64]⟩
abbrev S24x2048x8 : Shape := ⟨3, ![24, 2048, 8]⟩
abbrev S24x2048x8x1 : Shape := ⟨4, ![24, 2048, 8, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S24x2048x8x16 : Shape := ⟨4, ![24, 2048, 8, 16]⟩
abbrev S24x2048x8x8 : Shape := ⟨4, ![24, 2048, 8, 8]⟩
abbrev S24x2048x8x48 : Shape := ⟨4, ![24, 2048, 8, 48]⟩
abbrev S24x2048x2 : Shape := ⟨3, ![24, 2048, 2]⟩
abbrev S24x2048x2x1 : Shape := ⟨4, ![24, 2048, 2, 1]⟩
abbrev S24x2048x2x16 : Shape := ⟨4, ![24, 2048, 2, 16]⟩
abbrev S24x2048x2x8 : Shape := ⟨4, ![24, 2048, 2, 8]⟩
abbrev S24x2048x2x48 : Shape := ⟨4, ![24, 2048, 2, 48]⟩
abbrev S24x2048x1536 : Shape := ⟨3, ![24, 2048, 1536]⟩
abbrev S49152x1536 : Shape := ⟨2, ![49152, 1536]⟩
abbrev S49152x512 : Shape := ⟨2, ![49152, 512]⟩
abbrev S24x2048x2x1x64 : Shape := ⟨5, ![24, 2048, 2, 1, 64]⟩
abbrev S24x2048x2x2x64 : Shape := ⟨5, ![24, 2048, 2, 2, 64]⟩
abbrev S49152x256 : Shape := ⟨2, ![49152, 256]⟩

abbrev nBuf : Space → Nat
  | .hbm => 165
  | .vmem => 0
  | .smem => 0
  | _ => 0

abbrev hbmTy0_0 (i : Nat) : BufTy := match i % 128 with
  | 0 => ⟨S8x2048x1024, .f32⟩
  | 1 => ⟨S16x2048x1024, .f32⟩
  | 2 => ⟨S24x6144, .f32⟩
  | 3 => ⟨S1024, .f32⟩
  | 4 => ⟨S1024x2304, .f32⟩
  | 5 => ⟨S64, .f32⟩
  | 6 => ⟨S64, .f32⟩
  | 7 => ⟨S24x2048x1024, .f32⟩
  | 8 => ⟨S24x1024, .f32⟩
  | 9 => ⟨S24x1024, .f32⟩
  | 10 => ⟨S24x2048x1024, .f32⟩
  | 11 => ⟨S_, .f32⟩
  | 12 => ⟨S24x2048, .f32⟩
  | 13 => ⟨S24x2048x1, .f32⟩
  | 14 => ⟨S_, .f32⟩
  | 15 => ⟨S24x2048x1, .f32⟩
  | 16 => ⟨S24x2048x1, .f32⟩
  | 17 => ⟨S_, .f32⟩
  | 18 => ⟨S24x2048x1, .f32⟩
  | 19 => ⟨S24x2048x1, .f32⟩
  | 20 => ⟨S24x2048x1, .f32⟩
  | 21 => ⟨S24x2048x1024, .f32⟩
  | 22 => ⟨S24x2048x1024, .f32⟩
  | 23 => ⟨S1x1x1024, .f32⟩
  | 24 => ⟨S24x2048x1024, .f32⟩
  | 25 => ⟨S24x2048x1024, .f32⟩
  | 26 => ⟨S24x1x1024, .f32⟩
  | 27 => ⟨S_, .f32⟩
  | 28 => ⟨S24x1x1024, .f32⟩
  | 29 => ⟨S24x1x1024, .f32⟩
  | 30 => ⟨S24x2048x1024, .f32⟩
  | 31 => ⟨S24x2048x1024, .f32⟩
  | 32 => ⟨S24x1x1024, .f32⟩
  | 33 => ⟨S24x2048x1024, .f32⟩
  | 34 => ⟨S24x2048x1024, .f32⟩
  | 35 => ⟨S24x2048x2304, .f32⟩
  | 36 => ⟨S2048, .i32⟩
  | 37 => ⟨S24x2048x512, .f32⟩
  | 38 => ⟨S24x2048x8x64, .f32⟩
  | 39 => ⟨S24x2048x128, .f32⟩
  | 40 => ⟨S24x2048x2x64, .f32⟩
  | 41 => ⟨S24x2048x128, .f32⟩
  | 42 => ⟨S24x2048x2x64, .f32⟩
  | 43 => ⟨S24x2048x8x64, .f32⟩
  | 44 => ⟨S_, .f32⟩
  | 45 => ⟨S24x2048x8, .f32⟩
  | 46 => ⟨S24x2048x8x1, .f32⟩
  | 47 => ⟨S_, .f32⟩
  | 48 => ⟨S24x2048x8x1, .f32⟩
  | 49 => ⟨S24x2048x8x1, .f32⟩
  | 50 => ⟨S_, .f32⟩
  | 51 => ⟨S24x2048x8x1, .f32⟩
  | 52 => ⟨S24x2048x8x1, .f32⟩
  | 53 => ⟨S24x2048x8x1, .f32⟩
  | 54 => ⟨S24x2048x8x64, .f32⟩
  | 55 => ⟨S24x2048x8x64, .f32⟩
  | 56 => ⟨S1x1x1x64, .f32⟩
  | 57 => ⟨S24x2048x8x64, .f32⟩
  | 58 => ⟨S24x2048x8x64, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S2048, .f32⟩
  | 71 => ⟨S2048x1, .f32⟩
  | 72 => ⟨S1x8, .f32⟩
  | 73 => ⟨S2048x8, .f32⟩
  | 74 => ⟨S2048x8, .f32⟩
  | 75 => ⟨S2048x8, .f32⟩
  | 76 => ⟨S2048x8, .f32⟩
  | 77 => ⟨S1x2048x1x8, .f32⟩
  | 78 => ⟨S2048x8, .f32⟩
  | 79 => ⟨S1x2048x1x8, .f32⟩
  | 80 => ⟨S24x2048x8x16, .f32⟩
  | 81 => ⟨S24x2048x8x8, .f32⟩
  | 82 => ⟨S24x2048x8x8, .f32⟩
  | 83 => ⟨S24x2048x8x8, .f32⟩
  | 84 => ⟨S24x2048x8x8, .f32⟩
  | 85 => ⟨S24x2048x8x8, .f32⟩
  | 86 => ⟨S24x2048x8x8, .f32⟩
  | 87 => ⟨S24x2048x8x8, .f32⟩
  | 88 => ⟨S24x2048x8x8, .f32⟩
  | 89 => ⟨S24x2048x8x8, .f32⟩
  | 90 => ⟨S24x2048x8x8, .f32⟩
  | 91 => ⟨S24x2048x8x8, .f32⟩
  | 92 => ⟨S24x2048x8x8, .f32⟩
  | 93 => ⟨S24x2048x8x16, .f32⟩
  | 94 => ⟨S24x2048x8x48, .f32⟩
  | 95 => ⟨S24x2048x8x64, .f32⟩
  | 96 => ⟨S_, .f32⟩
  | 97 => ⟨S24x2048x8x64, .f32⟩
  | 98 => ⟨S24x2048x8x64, .f32⟩
  | 99 => ⟨S24x2048x2x64, .f32⟩
  | 100 => ⟨S_, .f32⟩
  | 101 => ⟨S24x2048x2, .f32⟩
  | 102 => ⟨S24x2048x2x1, .f32⟩
  | 103 => ⟨S_, .f32⟩
  | 104 => ⟨S24x2048x2x1, .f32⟩
  | 105 => ⟨S24x2048x2x1, .f32⟩
  | 106 => ⟨S_, .f32⟩
  | 107 => ⟨S24x2048x2x1, .f32⟩
  | 108 => ⟨S24x2048x2x1, .f32⟩
  | 109 => ⟨S24x2048x2x1, .f32⟩
  | 110 => ⟨S24x2048x2x64, .f32⟩
  | 111 => ⟨S24x2048x2x64, .f32⟩
  | 112 => ⟨S1x1x1x64, .f32⟩
  | 113 => ⟨S24x2048x2x64, .f32⟩
  | 114 => ⟨S24x2048x2x64, .f32⟩
  | 115 => ⟨S8, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S_, .f32⟩
  | 124 => ⟨S8, .f32⟩
  | 125 => ⟨S8, .f32⟩
  | 126 => ⟨S2048, .f32⟩
  | 127 => ⟨S2048x1, .f32⟩
  | _ => ⟨S8x2048x1024, .f32⟩

abbrev hbmTy0_1 (i : Nat) : BufTy := match i % 128 with
  | 0 => ⟨S1x8, .f32⟩
  | 1 => ⟨S2048x8, .f32⟩
  | 2 => ⟨S2048x8, .f32⟩
  | 3 => ⟨S2048x8, .f32⟩
  | 4 => ⟨S2048x8, .f32⟩
  | 5 => ⟨S1x2048x1x8, .f32⟩
  | 6 => ⟨S2048x8, .f32⟩
  | 7 => ⟨S1x2048x1x8, .f32⟩
  | 8 => ⟨S24x2048x2x16, .f32⟩
  | 9 => ⟨S24x2048x2x8, .f32⟩
  | 10 => ⟨S24x2048x2x8, .f32⟩
  | 11 => ⟨S24x2048x2x8, .f32⟩
  | 12 => ⟨S24x2048x2x8, .f32⟩
  | 13 => ⟨S24x2048x2x8, .f32⟩
  | 14 => ⟨S24x2048x2x8, .f32⟩
  | 15 => ⟨S24x2048x2x8, .f32⟩
  | 16 => ⟨S24x2048x2x8, .f32⟩
  | 17 => ⟨S24x2048x2x8, .f32⟩
  | 18 => ⟨S24x2048x2x8, .f32⟩
  | 19 => ⟨S24x2048x2x8, .f32⟩
  | 20 => ⟨S24x2048x2x8, .f32⟩
  | 21 => ⟨S24x2048x2x16, .f32⟩
  | 22 => ⟨S24x2048x2x48, .f32⟩
  | 23 => ⟨S24x2048x2x64, .f32⟩
  | 24 => ⟨S24x2048x1536, .f32⟩
  | 25 => ⟨S49152x1536, .f32⟩
  | 26 => ⟨S49152x1536, .bf16⟩
  | 27 => ⟨S49152x512, .f32⟩
  | 28 => ⟨S49152x512, .bf16⟩
  | 29 => ⟨S24x2048x2x1x64, .f32⟩
  | 30 => ⟨S24x2048x2x2x64, .f32⟩
  | 31 => ⟨S49152x256, .f32⟩
  | 32 => ⟨S49152x256, .bf16⟩
  | 33 => ⟨S24x2048x2x1x64, .f32⟩
  | 34 => ⟨S24x2048x2x2x64, .f32⟩
  | 35 => ⟨S49152x256, .f32⟩
  | 36 => ⟨S49152x256, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_10 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_13 : Ref sig .tc := ⟨.hbm, 117, rfl⟩
abbrev main_v96 : Ref sig .tc := ⟨.hbm, 118, rfl⟩
abbrev main_v97 : Ref sig .tc := ⟨.hbm, 119, rfl⟩
abbrev main_cst_14 : Ref sig .tc := ⟨.hbm, 120, rfl⟩
abbrev main_v98 : Ref sig .tc := ⟨.hbm, 121, rfl⟩
abbrev main_v99 : Ref sig .tc := ⟨.hbm, 122, rfl⟩
abbrev main_cst_15 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩

abbrev nD : Nat := 1
abbrev τ : Topo := Topo.v7x

variable {F : FTy → Type} [FloatOps F]
-- ==== Proof.AttnBlock.lean ====
module

public import proofs.«01_k».proof.Proof.Gen.KernelIdeal.Value
public import Idealize.ShloMosaic.Lib.Pointwise

@[expose] public section

set_option maxRecDepth 16384

noncomputable section

/-! What one grid point of the windowed attention stores, as eight pieces (two query blocks, four pairs of heads), each
    spelt with the same two definitions `HEAD` and `PAIR`. -/

namespace Cert.KernelIdeal.Attn

open Cert.KernelIdeal Cert.KernelIdeal.Gen Idealize.ShloMosaic Idealize.ShloMosaic.TcCoe Idealize.SL.Sem

/-- The masked scores of one head: the products of the query rows with the window's keys, the mask word elsewhere. -/
def SCO (msk : IVec S128x384 1) (q : FVec Ideal S128x128 .bf16) (kh : FVec Ideal S384x128 .bf16) : FVec Ideal S128x384 .f32 :=
  select msk (matmul dot_S128x128_S384x128_S128x384_1_1_0_0_n_n none q kh (constant S128x384 .f32 0x00000000#32))
    (broadcast S128x384 (Named.named κ "mask" 0xF149F2CA#32))

/-- The larger of a row's largest score and the head's sink. -/
def TOP (msk : IVec S128x384 1) (q : FVec Ideal S128x128 .bf16) (kh : FVec Ideal S384x128 .bf16) (sk : Elt Ideal .f32) : FVec Ideal S128x1 .f32 :=
  maximumf (shapeCast S128x1 (multiReduction .maximumf [1] S128 (SCO msk q kh) 0xFF800000#32 reduces_S128x384_S128 (.inl rfl) rfl) shapeCasts_S128_S128x1)
    (broadcast S128x1 sk)

/-- The exponentials of the scores less the row's top. -/
def EXS (msk : IVec S128x384 1) (q : FVec Ideal S128x128 .bf16) (kh : FVec Ideal S384x128 .bf16) (sk : Elt Ideal .f32) : FVec Ideal S128x384 .f32 :=
  exp (subf (SCO msk q kh) (broadcastTo S128x384 (TOP msk q kh sk) broadcasts_S128x1_S128x384))

/-- The row's denominator: the sum of its exponentials and the sink's. -/
def DEN (msk : IVec S128x384 1) (q : FVec Ideal S128x128 .bf16) (kh : FVec Ideal S384x128 .bf16) (sk : Elt Ideal .f32) : FVec Ideal S128x1 .f32 :=
  addf (shapeCast S128x1 (multiReduction .add [1] S128 (EXS msk q kh sk) 0x00000000#32 reduces_S128x384_S128 (.inl rfl) rfl) shapeCasts_S128_S128x1)
    (exp (subf (broadcast S128x1 sk) (TOP msk q kh sk)))

/-- One head's output on the 128 lanes of its pair. -/
def HEAD (msk : IVec S128x384 1) (q : FVec Ideal S128x128 .bf16) (kh vh : FVec Ideal S384x128 .bf16) (sk : Elt Ideal .f32) : FVec Ideal S128x128 .f32 :=
  matmul dot_S128x384_S384x128_S128x128_1_0_0_1_n_n none
    (truncf .bf16 (divf (EXS msk q kh sk) (broadcastTo S128x384 (DEN msk q kh sk) broadcasts_S128x1_S128x384)) bitsLt_bf16_f32) vh
    (constant S128x128 .f32 0x00000000#32)

/-- A pair of heads: the sum of the two, the first on the lower 64 lanes and the second on the upper. -/
def PAIR (msk : IVec S128x384 1) (qv : Vec Ideal S128x128 .bf16) (ka kb va vb : FVec Ideal S384x128 .bf16) (sa sb : Elt Ideal .f32) : FVec Ideal S128x128 .bf16 :=
  truncf .bf16 (addf (HEAD msk (shapeCast S128x128 qv shapeCasts_S128x128_S128x128) ka va sa)
    (HEAD msk (shapeCast S128x128 qv shapeCasts_S128x128_S128x128) kb vb sb)) bitsLt_bf16_f32

/-- The 384 rows of a key or value block that query block `s` of point `i` reads. -/
def WIN (i : grid0.Coords) (s : Fin 2) (x : Vec Ideal S2048x256 .bf16) : Vec Ideal S384x256 .bf16 :=
  View.ld x (Rect.unit (s := S2048x256) (k0_off1 i (BitVec.ofNat 32 s.val)) S384x256.size (k0_off1_inb i s))

/-- The second query block's mask. -/
def MSK1 (i : grid0.Coords) : IVec S128x384 1 := k0_pay51 (k0_pay50 (BitVec.ofNat 32 (i 1).val)) 128#32

theorem pay21_eq (m : IVec S128x384 1) (q : Vec Ideal S128x128 .bf16) (w : Vec Ideal S384x256 .bf16) (kb va vb : FVec Ideal S384x128 .bf16) (sa sb : Elt Ideal .f32) :
    k0_pay21 kb va vb m (k0_pay19 q) (k0_pay20 w q) sa sb = PAIR m q (k0_pay7 w) kb va vb sa sb := rfl

theorem pay22_eq (m : IVec S128x384 1) (q : Vec Ideal S128x128 .bf16) (ka kb va vb : FVec Ideal S384x128 .bf16) (sa sb : Elt Ideal .f32) :
    k0_pay22 ka kb va vb m q sa sb = PAIR m q ka kb va vb sa sb := rfl

theorem pay26_eq (m : IVec S128x384 1) (q : Vec Ideal S128x128 .bf16) (ka kb va vb : FVec Ideal S384x128 .bf16) (sa sb : Elt Ideal .f32) :
    k0_pay26 (k0_pay24 ka va m q sa) (k0_pay25 kb vb m q sb) = PAIR m q ka kb va vb sa sb := rfl

theorem pay33_eq (m : IVec S128x384 1) (q : Vec Ideal S128x128 .bf16) (ka kb va vb : FVec Ideal S384x128 .bf16) (sa sb : Elt Ideal .f32) :
    k0_pay33 vb (k0_pay28 ka va m q sa) (k0_pay31 kb m q sb) (k0_pay32 kb m q sb) = PAIR m q ka kb va vb sa sb := rfl

theorem pay55_eq (d : IVec S128x384 32) (q : Vec Ideal S128x128 .bf16) (ka kb va vb : FVec Ideal S384x128 .bf16) (sa sb : Elt Ideal .f32) :
    k0_pay55 (k0_pay53 ka va d 128#32 q sa) (k0_pay54 kb vb d 128#32 q sb) = PAIR (k0_pay51 d 128#32) q ka kb va vb sa sb := rfl

theorem pay62_eq (m : IVec S128x384 1) (q : Vec Ideal S128x128 .bf16) (ka kb va vb : FVec Ideal S384x128 .bf16) (sa sb : Elt Ideal .f32) :
    k0_pay62 vb (k0_pay57 ka va m q sa) (k0_pay60 kb m q sb) (k0_pay61 kb m q sb) = PAIR m q ka kb va vb sa sb := rfl

theorem pay70_eq (m : IVec S128x384 1) (q : Vec Ideal S128x128 .bf16) (ka kb va vb : FVec Ideal S384x128 .bf16) (sa sb : Elt Ideal .f32) :
    k0_pay70 vb (k0_pay64 ka va m q sa) (k0_pay66 kb m q sb) (k0_pay67 kb m q sb) (k0_pay68 kb m q sb) (k0_pay69 sb) = PAIR m q ka kb va vb sa sb := rfl

theorem pay1_eq (m : IVec S128x384 1) (q : Vec Ideal S128x128 .bf16) (ka kb va vb : FVec Ideal S384x128 .bf16) (sa sb : Elt Ideal .f32) :
    k0_pay1 vb (k0_pay72 ka va m q sa) sb (k0_pay74 kb m q sb) (k0_pay75 kb m q sb) = PAIR m q ka kb va vb sa sb := rfl

theorem ld_sink (x0 : Vec Ideal S8 .f32) (n : Nat) (hn : n < 8) (inb : ∀ a, (![n] : Fin 1 → Nat) a + (![1] : Fin 1 → Nat) a ≤ S8.size a)
    (j : (Rect.unit (s := S8) ![n] ![1] inb).shape.Idx) :
    View.ld x0 (Rect.unit (s := S8) ![n] ![1] inb) j = x0 (ix1 ⟨n, hn⟩) := by
  refine congrArg x0 (funext fun a => Fin.ext ?_)
  match a with
  | ⟨0, _⟩ => show n + 1 * (j (0 : Fin 1)).val = n; have := (j (0 : Fin 1)).isLt; have h2 : (j (0 : Fin 1)).val < 1 := this; omega

/-- The pieces a point stores, last first. -/
def PIECES (i : grid0.Coords) (x0 : Vec Ideal S8 .f32) (x1 : Vec Ideal S256x512 .bf16) (x2 : Vec Ideal S2048x256 .bf16) (x3 : Vec Ideal S2048x256 .bf16) :
    List (View.Piece (Elt Ideal) S256x512 .bf16) :=
  [⟨Rect.unit (s := S256x512) ![128, 384] S128x128.size inb_S256x512_S128x128_128_384,
        PAIR (MSK1 i) (View.ld x1 (Rect.unit (s := S256x512) ![128, 384] S128x128.size inb_S256x512_S128x128_128_384)) (k0_pay10 (WIN i 1 x2)) (k0_pay11 (WIN i 1 x2)) (k0_pay16 (WIN i 1 x3)) (k0_pay17 (WIN i 1 x3))
          (x0 (ix1 ⟨6, by decide⟩)) (x0 (ix1 ⟨7, by decide⟩))⟩,
    ⟨Rect.unit (s := S256x512) ![128, 256] S128x128.size inb_S256x512_S128x128_128_256,
        PAIR (MSK1 i) (View.ld x1 (Rect.unit (s := S256x512) ![128, 256] S128x128.size inb_S256x512_S128x128_128_256)) (k0_pay10 (WIN i 1 x2)) (k0_pay11 (WIN i 1 x2)) (k0_pay16 (WIN i 1 x3)) (k0_pay17 (WIN i 1 x3))
          (x0 (ix1 ⟨4, by decide⟩)) (x0 (ix1 ⟨5, by decide⟩))⟩,
    ⟨Rect.unit (s := S256x512) ![128, 128] S128x128.size inb_S256x512_S128x128_128_128,
        PAIR (MSK1 i) (View.ld x1 (Rect.unit (s := S256x512) ![128, 128] S128x128.size inb_S256x512_S128x128_128_128)) (k0_pay7 (WIN i 1 x2)) (k0_pay8 (WIN i 1 x2)) (k0_pay13 (WIN i 1 x3)) (k0_pay14 (WIN i 1 x3))
          (x0 (ix1 ⟨2, by decide⟩)) (x0 (ix1 ⟨3, by decide⟩))⟩,
    ⟨Rect.unit (s := S256x512) ![128, 0] S128x128.size inb_S256x512_S128x128_128_0,
        PAIR (MSK1 i) (View.ld x1 (Rect.unit (s := S256x512) ![128, 0] S128x128.size inb_S256x512_S128x128_128_0)) (k0_pay7 (WIN i 1 x2)) (k0_pay8 (WIN i 1 x2)) (k0_pay13 (WIN i 1 x3)) (k0_pay14 (WIN i 1 x3))
          (x0 (ix1 ⟨0, by decide⟩)) (x0 (ix1 ⟨1, by decide⟩))⟩,
    ⟨Rect.unit (s := S256x512) ![0, 384] S128x128.size inb_S256x512_S128x128_0_384,
        PAIR (k0_pay18 i) (View.ld x1 (Rect.unit (s := S256x512) ![0, 384] S128x128.size inb_S256x512_S128x128_0_384)) (k0_pay10 (WIN i 0 x2)) (k0_pay11 (WIN i 0 x2)) (k0_pay16 (WIN i 0 x3)) (k0_pay17 (WIN i 0 x3))
          (x0 (ix1 ⟨6, by decide⟩)) (x0 (ix1 ⟨7, by decide⟩))⟩,
    ⟨Rect.unit (s := S256x512) ![0, 256] S128x128.size inb_S256x512_S128x128_0_256,
        PAIR (k0_pay18 i) (View.ld x1 (Rect.unit (s := S256x512) ![0, 256] S128x128.size inb_S256x512_S128x128_0_256)) (k0_pay10 (WIN i 0 x2)) (k0_pay11 (WIN i 0 x2)) (k0_pay16 (WIN i 0 x3)) (k0_pay17 (WIN i 0 x3))
          (x0 (ix1 ⟨4, by decide⟩)) (x0 (ix1 ⟨5, by decide⟩))⟩,
    ⟨Rect.unit (s := S256x512) ![0, 128] S128x128.size inb_S256x512_S128x128_0_128,
        PAIR (k0_pay18 i) (View.ld x1 (Rect.unit (s := S256x512) ![0, 128] S128x128.size inb_S256x512_S128x128_0_128)) (k0_pay7 (WIN i 0 x2)) (k0_pay8 (WIN i 0 x2)) (k0_pay13 (WIN i 0 x3)) (k0_pay14 (WIN i 0 x3))
          (x0 (ix1 ⟨2, by decide⟩)) (x0 (ix1 ⟨3, by decide⟩))⟩,
    ⟨Rect.unit (s := S256x512) ![0, 0] S128x128.size inb_S256x512_S128x128_0_0,
        PAIR (k0_pay18 i) (View.ld x1 (Rect.unit (s := S256x512) ![0, 0] S128x128.size inb_S256x512_S128x128_0_0)) (k0_pay7 (WIN i 0 x2)) (k0_pay8 (WIN i 0 x2)) (k0_pay13 (WIN i 0 x3)) (k0_pay14 (WIN i 0 x3))
          (x0 (ix1 ⟨0, by decide⟩)) (x0 (ix1 ⟨1, by decide⟩))⟩]

/-- What a point leaves in its output block is its pieces read back. -/
theorem block_eq (c : Dev nD) (i : grid0.Coords) (arg2 : Memref sig .tc .smem S8 .f32) (harg2 : arg2.IsWhole) (arg3 : Memref sig .tc .vmem S256x512 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S256x512 .bf16) (harg6 : arg6.IsWhole)
    (x0 : Vec Ideal S8 .f32) (x1 : Vec Ideal S256x512 .bf16) (x2 : Vec Ideal S2048x256 .bf16) (x3 : Vec Ideal S2048x256 .bf16) :
    out0_A_4 c i arg2 harg2 arg3 harg3 arg4 harg4 arg5 harg5 arg6 harg6 x0 x1 x2 x3 = View.canon (PIECES i x0 x1 x2 x3) := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  simp only [View.readAt_eq_ld, harg2.read_unread, harg3.read_unread, harg4.read_unread, harg5.read_unread]
  simp only [pay21_eq, pay22_eq, pay26_eq, pay33_eq, pay55_eq, pay62_eq, pay70_eq, pay1_eq]
  have hs : ∀ n (hn : n < 8), ∀ inb j, View.ld x0 (Rect.unit (s := S8) ![n] ![1] inb) j = x0 (ix1 ⟨n, hn⟩) := fun n hn inb j => ld_sink x0 n hn inb j
  rw [hs 0 (by decide), hs 1 (by decide), hs 2 (by decide), hs 3 (by decide), hs 4 (by decide), hs 5 (by decide), hs 6 (by decide), hs 7 (by decide)]
  rfl

end Cert.KernelIdeal.Attn

end
-- ==== Proof.AttnMath.lean ====
module

public import Idealize.ShloMosaic.Lib.Pointwise

@[expose] public section

noncomputable section

/-! A row of attention with a sink, as a function of its scores and its values, and why keys whose score is `⊥` may be
    left out of it. -/

namespace Cert.Attn

open Idealize.ShloMosaic

/-- The larger of the largest score and the sink. -/
def top {ι : Type} [Fintype ι] (S : ι → EReal) (sk : EReal) : EReal := max (Finset.univ.sup S) sk

/-- The denominator. -/
def den {ι : Type} [Fintype ι] (S : ι → EReal) (sk : EReal) : EReal :=
  (∑ x, Ideal.exp (S x - top S sk)) + Ideal.exp (sk - top S sk)

/-- The attention row: the values weighed by the scores' exponentials over the denominator. -/
def soft {ι : Type} [Fintype ι] (S V : ι → EReal) (sk : EReal) : EReal :=
  ∑ x, Ideal.div (Ideal.exp (S x - top S sk)) (den S sk) * V x

theorem fold_max_eq_sup {ι : Type} [Fintype ι] (S : ι → EReal) (b : EReal) (hb : b = ⊥) :
    Finset.fold max b S Finset.univ = Finset.univ.sup S := by
  subst hb; rfl

theorem exp_nonneg (x : EReal) : 0 ≤ Ideal.exp x := by
  induction x with
  | bot => simp
  | top => simp
  | coe r => simp only [Ideal.exp_coe]; exact_mod_cast (Real.exp_pos r).le

theorem exp_pos_of_ne_bot (x : EReal) (h : x ≠ ⊥) : 0 < Ideal.exp x := by
  induction x with
  | bot => exact absurd rfl h
  | top => simp
  | coe r => simp only [Ideal.exp_coe]; exact_mod_cast Real.exp_pos r

theorem bot_sub (m : EReal) : (⊥ : EReal) - m = ⊥ := by
  rw [sub_eq_add_neg]; exact EReal.bot_add _

theorem div_zero_left (d : EReal) (hd : d ≠ 0) : Ideal.div 0 d = 0 := by
  unfold Ideal.div; rw [if_neg hd, zero_mul]

theorem top_ne_top {ι : Type} [Fintype ι] (S : ι → EReal) (sk : EReal) (hS : ∀ x, S x ≠ ⊤) (hsk : sk ≠ ⊤) : top S sk ≠ ⊤ := by
  unfold top
  have h1 : Finset.univ.sup S < ⊤ := (Finset.sup_lt_iff (by simp)).2 fun x _ => lt_top_iff_ne_top.2 (hS x)
  exact (max_lt h1 (lt_top_iff_ne_top.2 hsk)).ne

theorem den_ne_zero {ι : Type} [Fintype ι] (S : ι → EReal) (sk : EReal) (hS : ∀ x, S x ≠ ⊤) (hsk : sk ≠ ⊤) (hsb : sk ≠ ⊥) : den S sk ≠ 0 := by
  have hm := top_ne_top S sk hS hsk
  have h1 : (0 : EReal) ≤ ∑ x, Ideal.exp (S x - top S sk) := Finset.sum_nonneg fun x _ => exp_nonneg _
  have h2 : 0 < Ideal.exp (sk - top S sk) := by
    apply exp_pos_of_ne_bot
    have hb : top S sk ≠ ⊥ := fun h => hsb (le_bot_iff.1 (h ▸ le_max_right _ _))
    lift sk to ℝ using ⟨hsk, hsb⟩
    generalize top S (sk : EReal) = t at *
    lift t to ℝ using ⟨hm, hb⟩
    exact_mod_cast EReal.coe_ne_bot (sk - t)
  unfold den
  exact ne_of_gt (lt_of_lt_of_le h2 (by simpa using add_le_add_left h1 _))

/-- Scores and values agreeing along a map `e` that is injective on the keys of `P`, the scores of all other keys `⊥` on
    both sides: the same row. -/
theorem soft_congr {ι κ : Type} [Fintype ι] [Fintype κ] (P : ι → Prop) (e : ι → κ) (S V : ι → EReal) (S' V' : κ → EReal) (sk : EReal)
    (hinj : ∀ x y, P x → P y → e x = e y → x = y)
    (hS : ∀ x, P x → S x = S' (e x)) (hV : ∀ x, P x → V x = V' (e x)) (hb : ∀ x, ¬ P x → S x = ⊥)
    (hb' : ∀ j, (∀ x, P x → e x ≠ j) → S' j = ⊥)
    (hT : ∀ j, S' j ≠ ⊤) (hsk : sk ≠ ⊤) (hsb : sk ≠ ⊥) : soft S V sk = soft S' V' sk := by
  classical
  have hT0 : ∀ x, S x ≠ ⊤ := fun x => by
    by_cases h : P x
    · rw [hS x h]; exact hT _
    · rw [hb x h]; exact bot_ne_top
  have hsup : Finset.univ.sup S = Finset.univ.sup S' := by
    apply le_antisymm
    · refine Finset.sup_le fun x _ => ?_
      by_cases h : P x
      · rw [hS x h]; exact Finset.le_sup (Finset.mem_univ _)
      · rw [hb x h]; exact bot_le
    · refine Finset.sup_le fun j _ => ?_
      by_cases h : ∃ x, P x ∧ e x = j
      · obtain ⟨x, hx, rfl⟩ := h
        rw [← hS x hx]; exact Finset.le_sup (Finset.mem_univ _)
      · rw [hb' j fun x hx hj => h ⟨x, hx, hj⟩]; exact bot_le
  have htop : top S sk = top S' sk := by unfold top; rw [hsup]
  have key : ∀ (f : ι → EReal) (g : κ → EReal), (∀ x, P x → f x = g (e x)) → (∀ x, ¬ P x → f x = 0) →
      (∀ j, (∀ x, P x → e x ≠ j) → g j = 0) → ∑ x, f x = ∑ j, g j := by
    intro f g h1 h2 h3
    rw [← Finset.sum_subset (Finset.filter_subset P Finset.univ) (fun x _ hx => h2 x (by simpa using hx))]
    refine Finset.sum_of_injOn e ?_ (fun _ _ => Finset.mem_coe.2 (Finset.mem_univ _)) ?_ ?_
    · intro x hx y hy hxy
      exact hinj x y (by simpa using hx) (by simpa using hy) hxy
    · intro j _ hj
      refine h3 j fun x hx hxj => hj ⟨x, by simpa using hx, hxj⟩
    · intro x hx
      exact h1 x (by simpa using hx)
  have hden : den S sk = den S' sk := by
    unfold den
    rw [htop]
    congr 1
    refine key _ _ (fun x h => by rw [hS x h]) (fun x h => by rw [hb x h, bot_sub, Ideal.exp_bot])
      (fun j h => by rw [hb' j h, bot_sub, Ideal.exp_bot])
  have hd := den_ne_zero S' sk hT hsk hsb
  unfold soft
  rw [htop, hden]
  refine key _ _ (fun x h => by rw [hS x h, hV x h])
    (fun x h => by rw [hb x h, bot_sub, Ideal.exp_bot, div_zero_left _ hd, zero_mul])
    (fun j h => by rw [hb' j h, bot_sub, Ideal.exp_bot, div_zero_left _ hd, zero_mul])

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A sum of products of reals is real. -/
theorem sum_mul_coe {ι : Type} [Fintype ι] (a b : ι → ℝ) : ∑ x, (a x : EReal) * (b x : EReal) = ((∑ x, a x * b x : ℝ) : EReal) := by
  rw [coe_sum]
  exact Finset.sum_congr rfl fun x _ => (EReal.coe_mul _ _).symm

/-- A product of real rows, one of them scaled beforehand, is the scaled product. -/
theorem sum_scaled (q k : Fin 64 → EReal) (c : ℝ) (hq : ∀ x, q x ≠ ⊥ ∧ q x ≠ ⊤) (hk : ∀ x, k x ≠ ⊥ ∧ k x ≠ ⊤) :
    ∑ x, (q x * (c : EReal)) * k x = (∑ x, q x * k x) * (c : EReal) := by
  obtain ⟨q', rfl⟩ : ∃ q' : Fin 64 → ℝ, q = fun x => (q' x : EReal) := ⟨fun x => (q x).toReal, funext fun x => (EReal.coe_toReal (hq x).2 (hq x).1).symm⟩
  obtain ⟨k', rfl⟩ : ∃ k' : Fin 64 → ℝ, k = fun x => (k' x : EReal) := ⟨fun x => (k x).toReal, funext fun x => (EReal.coe_toReal (hk x).2 (hk x).1).symm⟩
  simp only [← EReal.coe_mul]
  rw [← coe_sum, ← coe_sum, ← EReal.coe_mul, Finset.sum_mul]
  exact congrArg _ (Finset.sum_congr rfl fun x _ => by ring)

theorem sum_mul_ne_top (q k : Fin 64 → EReal) (c : ℝ) (hq : ∀ x, q x ≠ ⊥ ∧ q x ≠ ⊤) (hk : ∀ x, k x ≠ ⊥ ∧ k x ≠ ⊤) :
    (∑ x, q x * k x) * (c : EReal) ≠ ⊤ := by
  obtain ⟨q', rfl⟩ : ∃ q' : Fin 64 → ℝ, q = fun x => (q' x : EReal) := ⟨fun x => (q x).toReal, funext fun x => (EReal.coe_toReal (hq x).2 (hq x).1).symm⟩
  obtain ⟨k', rfl⟩ : ∃ k' : Fin 64 → ℝ, k = fun x => (k' x : EReal) := ⟨fun x => (k x).toReal, funext fun x => (EReal.coe_toReal (hk x).2 (hk x).1).symm⟩
  simp only [← EReal.coe_mul]
  rw [← coe_sum, ← EReal.coe_mul]
  exact EReal.coe_ne_top _

/-- A sum over 128 lanes of which one half of 64 counts. -/
theorem sum_half (r : Fin 2) (f : Fin 128 → EReal) (h : ∀ x : Fin 128, x.val / 64 ≠ r.val → f x = 0) :
    ∑ x, f x = ∑ d : Fin 64, f ⟨r.val * 64 + d.val, by have := r.isLt; have := d.isLt; omega⟩ := by
  symm
  refine Finset.sum_of_injOn (fun d : Fin 64 => (⟨r.val * 64 + d.val, by have := r.isLt; have := d.isLt; omega⟩ : Fin 128)) ?_ ?_ ?_ ?_
  · intro a _ b _ hab
    have : r.val * 64 + a.val = r.val * 64 + b.val := congrArg Fin.val hab
    exact Fin.ext (by omega)
  · intro d _; exact Finset.mem_coe.2 (Finset.mem_univ _)
  · intro x _ hx
    refine h x fun hr => hx ⟨⟨x.val % 64, Nat.mod_lt _ (by decide)⟩, by simp, Fin.ext ?_⟩
    show r.val * 64 + x.val % 64 = x.val
    omega
  · intro d _; rfl

/-- An array of rank four at four numbers, each taken modulo its extent. -/
def at4 {α : Type} {A B C D : ℕ} [NeZero A] [NeZero B] [NeZero C] [NeZero D] (x : (⟨4, ![A, B, C, D]⟩ : Shape).Idx → α) (a b c d : ℕ) : α :=
  x (ix4 (Fin.ofNat A a) (Fin.ofNat B b) (Fin.ofNat C c) (Fin.ofNat D d))

theorem at4_eq {α : Type} {A B C D : ℕ} [NeZero A] [NeZero B] [NeZero C] [NeZero D] (x : (⟨4, ![A, B, C, D]⟩ : Shape).Idx → α) (a : Fin A) (b : Fin B) (c : Fin C) (d : Fin D)
    (a' b' c' d' : ℕ) (ha : a' = a.val) (hb : b' = b.val) (hc : c' = c.val) (hd : d' = d.val) : x (ix4 a b c d) = at4 x a' b' c' d' := by
  subst ha hb hc hd
  unfold at4
  rw [Fin.ofNat_val_eq_self, Fin.ofNat_val_eq_self, Fin.ofNat_val_eq_self, Fin.ofNat_val_eq_self]

/-- The word `1/8`. -/
theorem eighth : Ideal.ofBits .f32 0x3E000000#32 = ((1 / 8 : ℝ) : EReal) := by
  simp [Ideal.ofBits, Ideal.ieee]
  rw [← EReal.coe_mul]
  norm_num

/-- The scores of query `R` of head `hd` of sample `b` against all the sample's keys: those further than 128 are `⊥`. -/
def score (q : (⟨4, ![24, 2048, 8, 64]⟩ : Shape).Idx → EReal) (k : (⟨4, ![24, 2048, 2, 64]⟩ : Shape).Idx → EReal) (b R hd : ℕ) (j : Fin 2048) : EReal :=
  if (j.val ≤ R + 128 ∧ R ≤ j.val + 128) then (∑ d : Fin 64, at4 q b R hd d.val * at4 k b j.val (hd / 4) d.val) * ((1 / 8 : ℝ) : EReal) else ⊥

/-- The attention's result at query `R`, head `hd`, lane `d` of sample `b`. -/
def out (q : (⟨4, ![24, 2048, 8, 64]⟩ : Shape).Idx → EReal) (k v : (⟨4, ![24, 2048, 2, 64]⟩ : Shape).Idx → EReal) (sk : (⟨1, ![8]⟩ : Shape).Idx → EReal)
    (b R hd d : ℕ) : EReal :=
  soft (score q k b R hd) (fun j => at4 v b j.val (hd / 4) d) (sk (ix1 (Fin.ofNat 8 hd)))

theorem score_ne_top (q : (⟨4, ![24, 2048, 8, 64]⟩ : Shape).Idx → EReal) (k : (⟨4, ![24, 2048, 2, 64]⟩ : Shape).Idx → EReal) (b R hd : ℕ) (j : Fin 2048)
    (hq : ∀ i, q i ≠ ⊥ ∧ q i ≠ ⊤) (hk : ∀ i, k i ≠ ⊥ ∧ k i ≠ ⊤) : score q k b R hd j ≠ ⊤ := by
  unfold score
  split
  · exact sum_mul_ne_top _ _ _ (fun _ => hq _) (fun _ => hk _)
  · exact bot_ne_top

/-- A window of 384 keys, of which those at the positions `P` names hold the query's neighbours, gives the row. -/
theorem window_eq (q : (⟨4, ![24, 2048, 8, 64]⟩ : Shape).Idx → EReal) (k v : (⟨4, ![24, 2048, 2, 64]⟩ : Shape).Idx → EReal) (sk : (⟨1, ![8]⟩ : Shape).Idx → EReal)
    (hq : ∀ i, q i ≠ ⊥ ∧ q i ≠ ⊤) (hk : ∀ i, k i ≠ ⊥ ∧ k i ≠ ⊤) (hs : ∀ i, sk i ≠ ⊥ ∧ sk i ≠ ⊤) (b R hd d : ℕ) (w : ℤ) (P : Fin 384 → Prop)
    (hP : ∀ x, P x ↔ (0 ≤ w + x.val ∧ w + x.val < 2048 ∧ w + x.val ≤ R + 128 ∧ (R : ℤ) ≤ w + x.val + 128))
    (hw : ∀ j : ℕ, j < 2048 → j ≤ R + 128 → R ≤ j + 128 → 0 ≤ (j : ℤ) - w ∧ (j : ℤ) - w < 384)
    (S V : Fin 384 → EReal)
    (hS : ∀ x, P x → S x = (∑ d : Fin 64, at4 q b R hd d.val * at4 k b (w + x.val).toNat (hd / 4) d.val) * ((1 / 8 : ℝ) : EReal))
    (hV : ∀ x, P x → V x = at4 v b (w + x.val).toNat (hd / 4) d) (hb : ∀ x, ¬ P x → S x = ⊥) :
    soft S V (sk (ix1 (Fin.ofNat 8 hd))) = out q k v sk b R hd d := by
  unfold out
  refine soft_congr P (fun x => Fin.ofNat 2048 (w + x.val).toNat) S V _ _ _ ?_ ?_ ?_ hb ?_ (fun j => score_ne_top q k b R hd j hq hk) (hs _).2 (hs _).1
  · intro x y hx hy hxy
    have h := congrArg Fin.val hxy
    simp only [Fin.val_ofNat] at h
    rw [hP] at hx hy
    rw [Nat.mod_eq_of_lt (by omega), Nat.mod_eq_of_lt (by omega)] at h
    exact Fin.ext (by omega)
  · intro x hx
    rw [hS x hx]
    rw [hP] at hx
    have hm : (Fin.ofNat 2048 (w + x.val).toNat).val = (w + x.val).toNat := by
      rw [Fin.val_ofNat, Nat.mod_eq_of_lt (by omega)]
    unfold score
    rw [hm, if_pos (by omega)]
  · intro x hx
    rw [hV x hx]
    rw [hP] at hx
    have hm : (Fin.ofNat 2048 (w + x.val).toNat).val = (w + x.val).toNat := by
      rw [Fin.val_ofNat, Nat.mod_eq_of_lt (by omega)]
    rw [hm]
  · intro j hj
    unfold score
    refine if_neg fun hc => ?_
    have h := hw j.val j.isLt hc.1 hc.2
    refine hj ⟨((j.val : ℤ) - w).toNat, by omega⟩ ((hP _).2 ?_) (Fin.ext ?_)
    · have := j.isLt
      dsimp only
      omega
    · rw [Fin.val_ofNat, Nat.mod_eq_of_lt]
      · dsimp only; omega
      · have := j.isLt; dsimp only; omega

end Cert.Attn

end
-- ==== Proof.AttnKernel.lean ====
module

public import proofs.«01_k».proof.Proof.AttnBlock
public import proofs.«01_k».proof.Proof.AttnMath
public import Idealize.ShloMosaic.Lib.WordArith

@[expose] public section

set_option maxRecDepth 16384

noncomputable section

/-! The pieces a grid point of the windowed attention stores, read at an index: the attention's row of the query. -/

namespace Cert.KernelIdeal.Attn

open Cert.KernelIdeal Cert.KernelIdeal.Gen Idealize.ShloMosaic Idealize.ShloMosaic.TcCoe Idealize.SL.Sem Cert.Attn

/-- The first key of the window of query block `n`. -/
def ws (n : ℕ) : ℕ := min 1664 ((n - 1) * 128)

theorem off_eq (i : grid0.Coords) (s : Fin 2) : k0_off1 i (BitVec.ofNat 32 s.val) = ![ws (2 * (i 1).val + s.val), 0] := by
  unfold k0_off1
  generalize (i 1) = j
  revert s
  revert j
  show ∀ (j : Fin 8) (s : Fin 2), _
  decide

theorem near (a b : ℕ) (ha : a < 4096) (hb : b < 4096) :
    IntOp.cmpi .sle (IntOp.absi (IntOp.subi (BitVec.ofNat 32 a) (BitVec.ofNat 32 b))) 128#32 = 1#1 ↔ (a ≤ b + 128 ∧ b ≤ a + 128) := by
  have key : (IntOp.absi (IntOp.subi (BitVec.ofNat 32 a) (BitVec.ofNat 32 b))).toInt = |(a : ℤ) - b| := by
    have h : (BitVec.ofNat 32 a - BitVec.ofNat 32 b).toInt = (a : ℤ) - b := by
      rw [BitVec.toInt_eq_toNat_cond]
      simp only [BitVec.toNat_sub, BitVec.toNat_ofNat]
      split <;> omega
    unfold IntOp.absi IntOp.subi
    rw [BitVec.msb_eq_toInt, h]
    by_cases hab : (a : ℤ) - b < 0
    · rw [if_pos (by simpa using hab), abs_of_neg hab]
      rw [BitVec.toInt_neg, h]
      rw [Int.bmod_def]
      split <;> omega
    · rw [if_neg (by simpa using hab), abs_of_nonneg (by omega), h]
  have h2 : IntOp.cmpi .sle (IntOp.absi (IntOp.subi (BitVec.ofNat 32 a) (BitVec.ofNat 32 b))) 128#32
      = BitVec.ofBool ((IntOp.absi (IntOp.subi (BitVec.ofNat 32 a) (BitVec.ofNat 32 b))).sle 128#32) := rfl
  rw [h2, Idealize.ShloMosaic.WordArith.ofBool_eq_one_iff, BitVec.sle_iff_toInt_le, key]
  rw [show (128#32).toInt = 128 from by decide, abs_le]
  omega

theorem mask0 (i : grid0.Coords) (r : Fin 128) (s : Fin 384) :
    k0_pay18 i (ix2 r s) = 1#1 ↔ (ws (2 * (i 1).val) + s.val ≤ 2 * (i 1).val * 128 + r.val + 128 ∧ 2 * (i 1).val * 128 + r.val ≤ ws (2 * (i 1).val) + s.val + 128) := by
  pointwise [k0_pay18]
  have h1 : ∀ j : Fin 8, Scalar.minsi (1664#32) (Scalar.maxsi (0#32) (Scalar.muli (Scalar.subi (Scalar.addi (Scalar.muli (BitVec.ofNat 32 j.val) 2#32) 0#32) 1#32) 128#32)) = BitVec.ofNat 32 (ws (2 * j.val)) := by decide
  have h2 : ∀ j : Fin 8, Scalar.muli (Scalar.addi (Scalar.muli (BitVec.ofNat 32 j.val) 2#32) 0#32) 128#32 = BitVec.ofNat 32 (2 * j.val * 128) := by decide
  have hj : (i 1).val < 8 := (i 1).isLt
  have hw : ws (2 * (i 1).val) ≤ 1664 := min_le_left _ _
  rw [h1 (i 1), h2 (i 1)]
  unfold IntOp.addi
  rw [← BitVec.ofNat_add, ← BitVec.ofNat_add]
  exact near _ _ (by have := s.isLt; omega) (by have := r.isLt; omega)

theorem mask1 (i : grid0.Coords) (r : Fin 128) (s : Fin 384) :
    MSK1 i (ix2 r s) = 1#1 ↔ (ws (2 * (i 1).val + 1) + s.val ≤ (2 * (i 1).val + 1) * 128 + r.val + 128 ∧ (2 * (i 1).val + 1) * 128 + r.val ≤ ws (2 * (i 1).val + 1) + s.val + 128) := by
  pointwise [MSK1, k0_pay51, k0_pay50]
  have h1 : ∀ j : Fin 8, Scalar.minsi (1664#32) (Scalar.maxsi (0#32) (Scalar.muli (Scalar.subi (Scalar.addi (Scalar.muli (BitVec.ofNat 32 j.val) 2#32) 1#32) 1#32) 128#32)) = BitVec.ofNat 32 (ws (2 * j.val + 1)) := by decide
  have h2 : ∀ j : Fin 8, Scalar.muli (Scalar.addi (Scalar.muli (BitVec.ofNat 32 j.val) 2#32) 1#32) 128#32 = BitVec.ofNat 32 ((2 * j.val + 1) * 128) := by decide
  have hj : (i 1).val < 8 := (i 1).isLt
  have hw : ws (2 * (i 1).val + 1) ≤ 1664 := min_le_left _ _
  rw [h1 (i 1), h2 (i 1)]
  unfold IntOp.addi
  rw [← BitVec.ofNat_add, ← BitVec.ofNat_add]
  exact near _ _ (by have := s.isLt; omega) (by have := r.isLt; omega)

theorem mask_bot : (Named.named κ "mask" 0xF149F2CA#32 : Ideal .f32) = ⊥ := rfl

theorem SCO_apply (msk : IVec S128x384 1) (q : FVec Ideal S128x128 .bf16) (kh : FVec Ideal S384x128 .bf16) (r : Fin 128) (s : Fin 384) :
    SCO msk q kh (ix2 r s) = if msk (ix2 r s) = 1#1 then ∑ x, q (ix2 r x) * kh (ix2 s x) else ⊥ := by
  pointwise [SCO, dot_S128x128_S384x128_S128x384_1_1_0_0_n_n]
  rw [mask_bot]
  rfl

theorem HEAD_apply (msk : IVec S128x384 1) (q : FVec Ideal S128x128 .bf16) (kh vh : FVec Ideal S384x128 .bf16) (sk : Elt Ideal .f32) (r l : Fin 128) :
    HEAD msk q kh vh sk (ix2 r l) = soft (fun s => SCO msk q kh (ix2 r s)) (fun s => vh (ix2 s l)) sk := by
  have ht : TOP msk q kh sk (ix2 r 0) = top (fun s => SCO msk q kh (ix2 r s)) sk := by
    pointwise [TOP]
    rw [fold_max_eq_sup _ _ (by simp [Ideal.ofBits, Ideal.ieee])]
    rfl
  have hd : DEN msk q kh sk (ix2 r 0) = den (fun s => SCO msk q kh (ix2 r s)) sk := by
    pointwise [DEN, EXS]
    rw [ht]
    rfl
  pointwise [HEAD, dot_S128x384_S384x128_S128x128_1_0_0_1_n_n, EXS]
  rw [ht, hd]
  rfl

section

variable (q : (⟨4, ![24, 2048, 8, 64]⟩ : Shape).Idx → EReal) (k v : (⟨4, ![24, 2048, 2, 64]⟩ : Shape).Idx → EReal) (sk : (⟨1, ![8]⟩ : Shape).Idx → EReal)
  (hq : ∀ i, q i ≠ ⊥ ∧ q i ≠ ⊤) (hk : ∀ i, k i ≠ ⊥ ∧ k i ≠ ⊤) (hs : ∀ i, sk i ≠ ⊥ ∧ sk i ≠ ⊤) (b n p : ℕ) (hn : n < 16)
  (msk : IVec S128x384 1) (hm : ∀ r s, msk (ix2 r s) = 1#1 ↔ (ws n + s.val ≤ n * 128 + r.val + 128 ∧ n * 128 + r.val ≤ ws n + s.val + 128))
  (qv : Vec Ideal S128x128 .bf16) (hqv : ∀ r l, qv (ix2 r l) = at4 q b (n * 128 + r.val) (2 * p + l.val / 64) (l.val % 64) * ((1 / 8 : ℝ) : EReal))

include hq hk hs hn hm hqv in
/-- One head on the lanes of its pair: its rows on its own half, zero on the other. -/
theorem head_eq (e : Fin 2) (kh vh : FVec Ideal S384x128 .bf16)
    (hkh : ∀ s l, kh (ix2 s l) = if l.val / 64 = e.val then at4 k b (ws n + s.val) (p / 2) (l.val % 64) else 0)
    (hvh : ∀ s l, vh (ix2 s l) = if l.val / 64 = e.val then at4 v b (ws n + s.val) (p / 2) (l.val % 64) else 0) (r l : Fin 128) :
    HEAD msk (shapeCast S128x128 qv shapeCasts_S128x128_S128x128) kh vh (sk (ix1 (Fin.ofNat 8 (2 * p + e.val)))) (ix2 r l)
      = if l.val / 64 = e.val then out q k v sk b (n * 128 + r.val) (2 * p + e.val) (l.val % 64) else 0 := by
  rw [HEAD_apply]
  have he := e.isLt
  have hg : (2 * p + e.val) / 4 = p / 2 := by omega
  by_cases hl : l.val / 64 = e.val
  · rw [if_pos hl]
    have hwle : ws n ≤ 1664 := min_le_left _ _
    have hwc : ws n = 1664 ∨ ws n = (n - 1) * 128 := by unfold ws; omega
    have hwn : ws n ≤ (n - 1) * 128 := min_le_right _ _
    refine window_eq q k v sk hq hk hs b (n * 128 + r.val) (2 * p + e.val) (l.val % 64) (ws n : ℤ) (fun s => msk (ix2 r s) = 1#1) ?_ ?_ _ _ ?_ ?_ ?_
    · intro s
      rw [hm]
      have := s.isLt; have := r.isLt
      constructor <;> intro h <;> omega
    · intro j hj h1 h2
      have := r.isLt
      omega
    · intro s hms
      rw [SCO_apply, if_pos hms]
      rw [sum_half e _ (fun x hx => by rw [hkh, if_neg hx, mul_zero])]
      have hcast : ((ws n : ℤ) + s.val).toNat = ws n + s.val := by omega
      rw [hcast, hg]
      refine Eq.trans ?_ (sum_scaled (fun d => at4 q b (n * 128 + r.val) (2 * p + e.val) d.val) (fun d => at4 k b (ws n + s.val) (p / 2) d.val) (1 / 8)
        (fun _ => hq _) (fun _ => hk _))
      refine Finset.sum_congr rfl fun d _ => ?_
      have hd := d.isLt
      have h1 : (e.val * 64 + d.val) / 64 = e.val := by omega
      have h2 : (e.val * 64 + d.val) % 64 = d.val := by omega
      rw [hkh]
      simp only [h1, h2, if_true]
      refine congrArg (· * _) ?_
      rw [shapeCast_self, hqv]
      simp only [h1, h2]
    · intro s hms
      have hcast : ((ws n : ℤ) + s.val).toNat = ws n + s.val := by omega
      rw [hcast, hg, hvh, if_pos hl]
    · intro s hms
      rw [SCO_apply, if_neg hms]
  · rw [if_neg hl]
    unfold soft
    refine Finset.sum_eq_zero fun s _ => ?_
    show _ * vh (ix2 s l) = 0
    rw [hvh, if_neg hl, mul_zero]

include hq hk hs hn hm hqv in
/-- A pair of heads on its 128 lanes. -/
theorem pair_eq (ka kb va vb : FVec Ideal S384x128 .bf16)
    (hka : ∀ s l, ka (ix2 s l) = if l.val / 64 = 0 then at4 k b (ws n + s.val) (p / 2) (l.val % 64) else 0)
    (hkb : ∀ s l, kb (ix2 s l) = if l.val / 64 = 1 then at4 k b (ws n + s.val) (p / 2) (l.val % 64) else 0)
    (hva : ∀ s l, va (ix2 s l) = if l.val / 64 = 0 then at4 v b (ws n + s.val) (p / 2) (l.val % 64) else 0)
    (hvb : ∀ s l, vb (ix2 s l) = if l.val / 64 = 1 then at4 v b (ws n + s.val) (p / 2) (l.val % 64) else 0) (r l : Fin 128) (sa sb : Elt Ideal .f32)
    (hsa : sa = sk (ix1 (Fin.ofNat 8 (2 * p)))) (hsb : sb = sk (ix1 (Fin.ofNat 8 (2 * p + 1)))) :
    PAIR msk qv ka kb va vb sa sb (ix2 r l) = out q k v sk b (n * 128 + r.val) (2 * p + l.val / 64) (l.val % 64) := by
  subst hsa hsb
  have h0 := head_eq q k v sk hq hk hs b n p hn msk hm qv hqv 0 ka va hka hva r l
  have h1 := head_eq q k v sk hq hk hs b n p hn msk hm qv hqv 1 kb vb hkb hvb r l
  show HEAD msk _ ka va (sk (ix1 (Fin.ofNat 8 (2 * p + (0 : Fin 2).val)))) (ix2 r l) + HEAD msk _ kb vb (sk (ix1 (Fin.ofNat 8 (2 * p + (1 : Fin 2).val)))) (ix2 r l) = _
  rw [h0, h1]
  have hl := l.isLt
  by_cases h : l.val / 64 = 0
  · rw [if_pos (by rw [h]; rfl), if_neg (by rw [h]; decide), h, add_zero]; rfl
  · have h' : l.val / 64 = 1 := by omega
    rw [if_neg (by rw [h']; decide), if_pos (by rw [h']; rfl), h', zero_add]; rfl

end

end Cert.KernelIdeal.Attn

end
-- ==== Proof.AttnValue.lean ====
module

public import proofs.«01_k».proof.Proof.AttnKernel

@[expose] public section

set_option maxRecDepth 16384

noncomputable section

/-! A grid point's output block is the attention of its 256 queries. -/

namespace Cert.KernelIdeal.Attn

open Cert.KernelIdeal Cert.KernelIdeal.Gen Idealize.ShloMosaic Idealize.ShloMosaic.TcCoe Idealize.SL.Sem Cert.Attn

theorem ws_le (n : ℕ) : ws n ≤ 1664 := min_le_left _ _

theorem WIN_apply (i : grid0.Coords) (s : Fin 2) (x : Vec Ideal S2048x256 .bf16) (a : Fin 384) (c : Fin 256) :
    WIN i s x (ix2 a c) = x (ix2 ⟨ws (2 * (i 1).val + s.val) + a.val, by have := ws_le (2 * (i 1).val + s.val); have := a.isLt; omega⟩ c) := by
  have h := off_eq i s
  refine congrArg x (funext fun d => Fin.ext ?_)
  match d with
  | ⟨0, _⟩ =>
    show k0_off1 i (BitVec.ofNat 32 s.val) 0 + 1 * a.val = _
    rw [h]
    show ws _ + 1 * a.val = ws _ + a.val
    omega
  | ⟨1, _⟩ =>
    show k0_off1 i (BitVec.ofNat 32 s.val) 1 + 1 * c.val = _
    rw [h]
    show 0 + 1 * c.val = c.val
    omega

theorem lane_lt (l : Fin 128) (A B : Ideal .bf16) :
    Scalar.select (IntOp.cmpi .slt (BitVec.ofNat 32 l.val) 64#32) A B = if l.val / 64 = 0 then A else B := by
  revert l A B
  have h : ∀ l : Fin 128, (IntOp.cmpi .slt (BitVec.ofNat 32 l.val) 64#32 = 1#1) ↔ l.val / 64 = 0 := by decide
  intro l A B
  unfold Scalar.select
  by_cases hl : l.val / 64 = 0
  · rw [if_pos hl]; exact if_pos ((h l).2 hl)
  · rw [if_neg hl]; exact if_neg fun hc => hl ((h l).1 hc)

theorem zero_bf16 : (Ideal.ofBits .bf16 0x0000#16 : EReal) = 0 := by simp [Ideal.ofBits, Ideal.ieee]

theorem half_a0 (w : Vec Ideal S384x256 .bf16) (s : Fin 384) (l : Fin 128) :
    k0_pay7 w (ix2 s l) = if l.val / 64 = 0 then w (ix2 s ⟨l.val, by have := l.isLt; omega⟩) else 0 := by
  pointwise [k0_pay7, k0_pay4, k0_pay6, k0_pay2, k0_pay5]
  exact lane_lt l _ _

theorem half_b0 (w : Vec Ideal S384x256 .bf16) (s : Fin 384) (l : Fin 128) :
    k0_pay8 w (ix2 s l) = if l.val / 64 = 1 then w (ix2 s ⟨l.val, by have := l.isLt; omega⟩) else 0 := by
  pointwise [k0_pay8, k0_pay4, k0_pay6, k0_pay2, k0_pay5]
  rw [lane_lt]
  have := l.isLt
  by_cases h : l.val / 64 = 0
  · rw [if_pos h, if_neg (by omega)]
  · rw [if_neg h, if_pos (by omega)]

theorem half_a1 (w : Vec Ideal S384x256 .bf16) (s : Fin 384) (l : Fin 128) :
    k0_pay10 w (ix2 s l) = if l.val / 64 = 0 then w (ix2 s ⟨128 + l.val, by have := l.isLt; omega⟩) else 0 := by
  pointwise [k0_pay10, k0_pay4, k0_pay9, k0_pay2, k0_pay5]
  exact lane_lt l _ _

theorem half_b1 (w : Vec Ideal S384x256 .bf16) (s : Fin 384) (l : Fin 128) :
    k0_pay11 w (ix2 s l) = if l.val / 64 = 1 then w (ix2 s ⟨128 + l.val, by have := l.isLt; omega⟩) else 0 := by
  pointwise [k0_pay11, k0_pay4, k0_pay9, k0_pay2, k0_pay5]
  rw [lane_lt]
  have := l.isLt
  by_cases h : l.val / 64 = 0
  · rw [if_pos h, if_neg (by omega)]
  · rw [if_neg h, if_pos (by omega)]

theorem val_a0 : @k0_pay13 Ideal _ = k0_pay7 := rfl
theorem val_b0 : @k0_pay14 Ideal _ = k0_pay8 := rfl
theorem val_a1 : @k0_pay16 Ideal _ = k0_pay10 := rfl
theorem val_b1 : @k0_pay17 Ideal _ = k0_pay11 := rfl

section

variable (q : (⟨4, ![24, 2048, 8, 64]⟩ : Shape).Idx → EReal) (k v : (⟨4, ![24, 2048, 2, 64]⟩ : Shape).Idx → EReal) (sk : (⟨1, ![8]⟩ : Shape).Idx → EReal)
  (hq : ∀ i, q i ≠ ⊥ ∧ q i ≠ ⊤) (hk : ∀ i, k i ≠ ⊥ ∧ k i ≠ ⊤) (hs : ∀ i, sk i ≠ ⊥ ∧ sk i ≠ ⊤) (b : ℕ) (i : grid0.Coords)
  (x0 : Vec Ideal S8 .f32) (x1 : Vec Ideal S256x512 .bf16) (x2 : Vec Ideal S2048x256 .bf16) (x3 : Vec Ideal S2048x256 .bf16)
  (h0 : ∀ h : Fin 8, x0 (ix1 h) = sk (ix1 h))
  (h1 : ∀ (R : Fin 256) (c : Fin 512), x1 (ix2 R c) = at4 q b ((i 1).val * 256 + R.val) (c.val / 64) (c.val % 64) * ((1 / 8 : ℝ) : EReal))
  (h2 : ∀ (j : Fin 2048) (c : Fin 256), x2 (ix2 j c) = at4 k b j.val (c.val / 128) (c.val % 64))
  (h3 : ∀ (j : Fin 2048) (c : Fin 256), x3 (ix2 j c) = at4 v b j.val (c.val / 128) (c.val % 64))

/-- The block's value. -/
def blockG (y : S256x512.Idx) : EReal := out q k v sk b ((i 1).val * 256 + (y 0).val) ((y 1).val / 64) ((y 1).val % 64)

/-- A half of a window, in the array's own coordinates. -/
theorem win_half (x : Vec Ideal S2048x256 .bf16) (a : (⟨4, ![24, 2048, 2, 64]⟩ : Shape).Idx → EReal)
    (hx : ∀ (j : Fin 2048) (c : Fin 256), x (ix2 j c) = at4 a b j.val (c.val / 128) (c.val % 64)) (sub : Fin 2) (e : ℕ) (s : Fin 384) (l : Fin 128)
    (g o : ℕ) (ho : o = g * 128) (hg : g < 2) :
    (if l.val / 64 = e then WIN i sub x (ix2 s ⟨o + l.val, by have := l.isLt; omega⟩) else 0)
      = if l.val / 64 = e then at4 a b (ws (2 * (i 1).val + sub.val) + s.val) g (l.val % 64) else 0 := by
  have := l.isLt
  rw [WIN_apply, hx]
  subst ho
  have e1 : (g * 128 + l.val) / 128 = g := by omega
  have e2 : (g * 128 + l.val) % 64 = l.val % 64 := by omega
  simp only [e1, e2]

theorem win_half0 (x : Vec Ideal S2048x256 .bf16) (a : (⟨4, ![24, 2048, 2, 64]⟩ : Shape).Idx → EReal)
    (hx : ∀ (j : Fin 2048) (c : Fin 256), x (ix2 j c) = at4 a b j.val (c.val / 128) (c.val % 64)) (sub : Fin 2) (e : ℕ) (s : Fin 384) (l : Fin 128) :
    (if l.val / 64 = e then WIN i sub x (ix2 s ⟨l.val, by have := l.isLt; omega⟩) else 0)
      = if l.val / 64 = e then at4 a b (ws (2 * (i 1).val + sub.val) + s.val) 0 (l.val % 64) else 0 := by
  have := l.isLt
  rw [WIN_apply, hx]
  have e1 : l.val / 128 = 0 := by omega
  simp only [e1]

include hq hk hs h0 h1 h2 h3 in
theorem piece_eq (sub : Fin 2) (p : ℕ) (hp : p < 4) (o0 o1 : ℕ) (ho0 : o0 = 128 * sub.val) (ho1 : o1 = 128 * p)
    (inb : ∀ a, (![o0, o1] : Fin 2 → ℕ) a + S128x128.size a ≤ S256x512.size a)
    (msk : IVec S128x384 1) (hm : ∀ r s, msk (ix2 r s) = 1#1 ↔ (ws (2 * (i 1).val + sub.val) + s.val ≤ (2 * (i 1).val + sub.val) * 128 + r.val + 128 ∧ (2 * (i 1).val + sub.val) * 128 + r.val ≤ ws (2 * (i 1).val + sub.val) + s.val + 128))
    (ka kb va vb : FVec Ideal S384x128 .bf16)
    (hka : ∀ s l, ka (ix2 s l) = if l.val / 64 = 0 then at4 k b (ws (2 * (i 1).val + sub.val) + s.val) (p / 2) (l.val % 64) else 0)
    (hkb : ∀ s l, kb (ix2 s l) = if l.val / 64 = 1 then at4 k b (ws (2 * (i 1).val + sub.val) + s.val) (p / 2) (l.val % 64) else 0)
    (hva : ∀ s l, va (ix2 s l) = if l.val / 64 = 0 then at4 v b (ws (2 * (i 1).val + sub.val) + s.val) (p / 2) (l.val % 64) else 0)
    (hvb : ∀ s l, vb (ix2 s l) = if l.val / 64 = 1 then at4 v b (ws (2 * (i 1).val + sub.val) + s.val) (p / 2) (l.val % 64) else 0)
    (sa sb : Elt Ideal .f32) (hsa : sa = sk (ix1 (Fin.ofNat 8 (2 * p)))) (hsb : sb = sk (ix1 (Fin.ofNat 8 (2 * p + 1))))
    (x : S128x128.Idx) :
    PAIR msk (View.ld x1 (Rect.unit (s := S256x512) ![o0, o1] S128x128.size inb)) ka kb va vb sa sb x
      = blockG q k v sk b i ((Rect.unit (s := S256x512) ![o0, o1] S128x128.size inb).emb x) := by
  obtain ⟨r, l, rfl⟩ : ∃ r l, x = ix2 r l := ⟨x 0, x 1, by funext d; match d with | ⟨0, _⟩ => rfl | ⟨1, _⟩ => rfl⟩
  have hr := r.isLt
  have hl := l.isLt
  have hsub := sub.isLt
  have hi : (i 1).val < 8 := (i 1).isLt
  rw [pair_eq q k v sk hq hk hs b (2 * (i 1).val + sub.val) p (by omega) msk hm _ ?_ ka kb va vb hka hkb hva hvb r l sa sb hsa hsb]
  · unfold blockG
    have e0 : ((Rect.unit (s := S256x512) ![o0, o1] S128x128.size inb).emb (ix2 r l) 0).val = o0 + r.val := by
      show o0 + 1 * r.val = _; omega
    have e1 : ((Rect.unit (s := S256x512) ![o0, o1] S128x128.size inb).emb (ix2 r l) 1).val = o1 + l.val := by
      show o1 + 1 * l.val = _; omega
    rw [e0, e1, ho0, ho1]
    congr 1 <;> omega
  · intro r l
    have hr := r.isLt
    have hl := l.isLt
    have e : View.ld x1 (Rect.unit (s := S256x512) ![o0, o1] S128x128.size inb) (ix2 r l)
        = x1 (ix2 ⟨o0 + r.val, by omega⟩ ⟨o1 + l.val, by omega⟩) := by
      refine congrArg x1 (funext fun d => Fin.ext ?_)
      match d with
      | ⟨0, _⟩ => show o0 + 1 * r.val = o0 + r.val; omega
      | ⟨1, _⟩ => show o1 + 1 * l.val = o1 + l.val; omega
    rw [e, h1]
    congr 1
    show at4 q b ((i 1).val * 256 + (o0 + r.val)) ((o1 + l.val) / 64) ((o1 + l.val) % 64) = _
    congr 1 <;> omega

include hq hk hs h0 h1 h2 h3 in
theorem pieces_eq (y : S256x512.Idx) (hy : ∃ pc ∈ PIECES i x0 x1 x2 x3, y ∈ pc.1.set) :
    View.canon (PIECES i x0 x1 x2 x3) y = blockG q k v sk b i y := by
  refine View.canon_apply_of_pieces (blockG q k v sk b i) _ ?_ y hy
  have m0 : ∀ r s, k0_pay18 i (ix2 r s) = 1#1 ↔ _ := mask0 i
  have m1 : ∀ r s, MSK1 i (ix2 r s) = 1#1 ↔ _ := mask1 i
  unfold PIECES
  simp only [List.forall_mem_cons, val_a0, val_b0, val_a1, val_b1]
  refine ⟨?_, ?_, ?_, ?_, ?_, ?_, ?_, ?_, by simp⟩
  · exact piece_eq q k v sk hq hk hs b i x0 x1 x2 x3 h0 h1 h2 h3 1 3 (by decide) 128 384 rfl rfl _ _ m1 _ _ _ _
      (fun s l => (half_a1 _ s l).trans (win_half b i x2 k h2 1 0 s l 1 128 rfl (by decide))) (fun s l => (half_b1 _ s l).trans (win_half b i x2 k h2 1 1 s l 1 128 rfl (by decide)))
      (fun s l => (half_a1 _ s l).trans (win_half b i x3 v h3 1 0 s l 1 128 rfl (by decide))) (fun s l => (half_b1 _ s l).trans (win_half b i x3 v h3 1 1 s l 1 128 rfl (by decide)))
      _ _ (h0 6) (h0 7)
  · exact piece_eq q k v sk hq hk hs b i x0 x1 x2 x3 h0 h1 h2 h3 1 2 (by decide) 128 256 rfl rfl _ _ m1 _ _ _ _
      (fun s l => (half_a1 _ s l).trans (win_half b i x2 k h2 1 0 s l 1 128 rfl (by decide))) (fun s l => (half_b1 _ s l).trans (win_half b i x2 k h2 1 1 s l 1 128 rfl (by decide)))
      (fun s l => (half_a1 _ s l).trans (win_half b i x3 v h3 1 0 s l 1 128 rfl (by decide))) (fun s l => (half_b1 _ s l).trans (win_half b i x3 v h3 1 1 s l 1 128 rfl (by decide)))
      _ _ (h0 4) (h0 5)
  · exact piece_eq q k v sk hq hk hs b i x0 x1 x2 x3 h0 h1 h2 h3 1 1 (by decide) 128 128 rfl rfl _ _ m1 _ _ _ _
      (fun s l => (half_a0 _ s l).trans ((win_half0 b i x2 k h2 1 0 s l))) (fun s l => (half_b0 _ s l).trans ((win_half0 b i x2 k h2 1 1 s l)))
      (fun s l => (half_a0 _ s l).trans ((win_half0 b i x3 v h3 1 0 s l))) (fun s l => (half_b0 _ s l).trans ((win_half0 b i x3 v h3 1 1 s l)))
      _ _ (h0 2) (h0 3)
  · exact piece_eq q k v sk hq hk hs b i x0 x1 x2 x3 h0 h1 h2 h3 1 0 (by decide) 128 0 rfl rfl _ _ m1 _ _ _ _
      (fun s l => (half_a0 _ s l).trans ((win_half0 b i x2 k h2 1 0 s l))) (fun s l => (half_b0 _ s l).trans ((win_half0 b i x2 k h2 1 1 s l)))
      (fun s l => (half_a0 _ s l).trans ((win_half0 b i x3 v h3 1 0 s l))) (fun s l => (half_b0 _ s l).trans ((win_half0 b i x3 v h3 1 1 s l)))
      _ _ (h0 0) (h0 1)
  · exact piece_eq q k v sk hq hk hs b i x0 x1 x2 x3 h0 h1 h2 h3 0 3 (by decide) 0 384 rfl rfl _ _ m0 _ _ _ _
      (fun s l => (half_a1 _ s l).trans (win_half b i x2 k h2 0 0 s l 1 128 rfl (by decide))) (fun s l => (half_b1 _ s l).trans (win_half b i x2 k h2 0 1 s l 1 128 rfl (by decide)))
      (fun s l => (half_a1 _ s l).trans (win_half b i x3 v h3 0 0 s l 1 128 rfl (by decide))) (fun s l => (half_b1 _ s l).trans (win_half b i x3 v h3 0 1 s l 1 128 rfl (by decide)))
      _ _ (h0 6) (h0 7)
  · exact piece_eq q k v sk hq hk hs b i x0 x1 x2 x3 h0 h1 h2 h3 0 2 (by decide) 0 256 rfl rfl _ _ m0 _ _ _ _
      (fun s l => (half_a1 _ s l).trans (win_half b i x2 k h2 0 0 s l 1 128 rfl (by decide))) (fun s l => (half_b1 _ s l).trans (win_half b i x2 k h2 0 1 s l 1 128 rfl (by decide)))
      (fun s l => (half_a1 _ s l).trans (win_half b i x3 v h3 0 0 s l 1 128 rfl (by decide))) (fun s l => (half_b1 _ s l).trans (win_half b i x3 v h3 0 1 s l 1 128 rfl (by decide)))
      _ _ (h0 4) (h0 5)
  · exact piece_eq q k v sk hq hk hs b i x0 x1 x2 x3 h0 h1 h2 h3 0 1 (by decide) 0 128 rfl rfl _ _ m0 _ _ _ _
      (fun s l => (half_a0 _ s l).trans ((win_half0 b i x2 k h2 0 0 s l))) (fun s l => (half_b0 _ s l).trans ((win_half0 b i x2 k h2 0 1 s l)))
      (fun s l => (half_a0 _ s l).trans ((win_half0 b i x3 v h3 0 0 s l))) (fun s l => (half_b0 _ s l).trans ((win_half0 b i x3 v h3 0 1 s l)))
      _ _ (h0 2) (h0 3)
  · exact piece_eq q k v sk hq hk hs b i x0 x1 x2 x3 h0 h1 h2 h3 0 0 (by decide) 0 0 rfl rfl _ _ m0 _ _ _ _
      (fun s l => (half_a0 _ s l).trans ((win_half0 b i x2 k h2 0 0 s l))) (fun s l => (half_b0 _ s l).trans ((win_half0 b i x2 k h2 0 1 s l)))
      (fun s l => (half_a0 _ s l).trans ((win_half0 b i x3 v h3 0 0 s l))) (fun s l => (half_b0 _ s l).trans ((win_half0 b i x3 v h3 0 1 s l)))
      _ _ (h0 0) (h0 1)

end

/-- Membership in one of the eight rectangles. -/
theorem mem_rect (o0 o1 : ℕ) (inb : ∀ a, (![o0, o1] : Fin 2 → ℕ) a + S128x128.size a ≤ S256x512.size a) (y : S256x512.Idx)
    (h0 : o0 ≤ (y 0).val ∧ (y 0).val < o0 + 128) (h1 : o1 ≤ (y 1).val ∧ (y 1).val < o1 + 128) :
    y ∈ (Rect.unit (s := S256x512) ![o0, o1] S128x128.size inb).set := by
  rw [Rect.mem_set_unit]
  intro a
  match a with
  | ⟨0, _⟩ => exact h0
  | ⟨1, _⟩ => exact h1

theorem pieces_cover (i : grid0.Coords) (x0 : Vec Ideal S8 .f32) (x1 : Vec Ideal S256x512 .bf16) (x2 : Vec Ideal S2048x256 .bf16) (x3 : Vec Ideal S2048x256 .bf16)
    (y : S256x512.Idx) : ∃ pc ∈ PIECES i x0 x1 x2 x3, y ∈ pc.1.set := by
  have h0 : (y 0).val < 256 := (y 0).isLt
  have h1 : (y 1).val < 512 := (y 1).isLt
  unfold PIECES
  simp only [List.exists_mem_cons_iff]
  rcases (by omega : (y 0).val < 128 ∨ 128 ≤ (y 0).val) with a | a <;>
    rcases (by omega : (y 1).val < 128 ∨ (128 ≤ (y 1).val ∧ (y 1).val < 256) ∨ (256 ≤ (y 1).val ∧ (y 1).val < 384) ∨ 384 ≤ (y 1).val) with b | b | b | b
  · exact Or.inr (Or.inr (Or.inr (Or.inr (Or.inr (Or.inr (Or.inr (Or.inl (mem_rect 0 0 _ y (by omega) (by omega)))))))))
  · exact Or.inr (Or.inr (Or.inr (Or.inr (Or.inr (Or.inr (Or.inl (mem_rect 0 128 _ y (by omega) (by omega))))))))
  · exact Or.inr (Or.inr (Or.inr (Or.inr (Or.inr (Or.inl (mem_rect 0 256 _ y (by omega) (by omega)))))))
  · exact Or.inr (Or.inr (Or.inr (Or.inr (Or.inl (mem_rect 0 384 _ y (by omega) (by omega))))))
  · exact Or.inr (Or.inr (Or.inr (Or.inl (mem_rect 128 0 _ y (by omega) (by omega)))))
  · exact Or.inr (Or.inr (Or.inl (mem_rect 128 128 _ y (by omega) (by omega))))
  · exact Or.inr (Or.inl (mem_rect 128 256 _ y (by omega) (by omega)))
  · exact Or.inl (mem_rect 128 384 _ y (by omega) (by omega))

end Cert.KernelIdeal.Attn

end
-- ==== Proof.AttnHost.lean ====
module

public import proofs.«01_k».proof.Proof.AttnValue
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

/-! The attention's whole array after the kernel's run, as a function of the arguments. -/

namespace Cert.KernelIdeal.Attn

open Cert.KernelIdeal Cert.KernelIdeal.Gen Idealize.ShloMosaic Idealize.ShloMosaic.TcCoe Idealize.SL.Sem Cert.Attn

variable (m : (ℓ : Loc nD τ sig) → Buf (Elt Ideal) ℓ) (c : Dev nD)

abbrev Q : S24x2048x8x64.Idx → EReal := m ((c : Thread nD τ).loc main_arg0)
abbrev K : S24x2048x2x64.Idx → EReal := m ((c : Thread nD τ).loc main_arg1)
abbrev W : S24x2048x2x64.Idx → EReal := m ((c : Thread nD τ).loc main_arg2)
abbrev SK : S8.Idx → EReal := m ((c : Thread nD τ).loc main_arg3)

/-- The scaled queries as the kernel finds them. -/
theorem V3_apply (R : Fin 49152) (l : Fin 512) :
    V m c main_v3 (ix2 R l) = at4 (Q m c) (R.val / 2048) (R.val % 2048) (l.val / 64) (l.val % 64) * ((1 / 8 : ℝ) : EReal) := by
  unfold V
  after_reads_at
  rw [eighth]
  exact congrArg (· * _) (at4_eq (Q m c) _ _ _ _ _ _ _ _ rfl rfl rfl rfl)

/-- The keys, each group's twice. -/
theorem V7_apply (R : Fin 49152) (l : Fin 256) :
    V m c main_v7 (ix2 R l) = at4 (K m c) (R.val / 2048) (R.val % 2048) (l.val / 128) (l.val % 64) := by
  unfold V
  after_reads_at
  exact at4_eq (K m c) _ _ _ _ _ _ _ _ rfl rfl rfl rfl

/-- The values, each group's twice. -/
theorem V11_apply (R : Fin 49152) (l : Fin 256) :
    V m c main_v11 (ix2 R l) = at4 (W m c) (R.val / 2048) (R.val % 2048) (l.val / 128) (l.val % 64) := by
  unfold V
  after_reads_at
  exact at4_eq (W m c) _ _ _ _ _ _ _ _ rfl rfl rfl rfl

theorem idx1 : ∀ t : Fin cfg0.N, win0_1.index t = ![t.val, 0] := (by decide +kernel : ∀ t : Fin grid0.N, win0_1.index t = ![t.val, 0])
theorem idx2 : ∀ t : Fin cfg0.N, win0_2.index t = ![t.val / 8, 0] := (by decide +kernel : ∀ t : Fin grid0.N, win0_2.index t = ![t.val / 8, 0])
theorem idx3 : ∀ t : Fin cfg0.N, win0_3.index t = ![t.val / 8, 0] := (by decide +kernel : ∀ t : Fin grid0.N, win0_3.index t = ![t.val / 8, 0])
theorem idx4 : ∀ t : Fin cfg0.N, win0_4.index t = ![t.val, 0] := (by decide +kernel : ∀ t : Fin grid0.N, win0_4.index t = ![t.val, 0])
theorem idx0 : ∀ t : Fin cfg0.N, win0_0.index t = ![0] := (by decide +kernel : ∀ t : Fin grid0.N, win0_0.index t = ![0])
theorem coord1 : ∀ t : Fin cfg0.N, (grid0.coords t 1).val = t.val % 8 := (by decide +kernel : ∀ t : Fin grid0.N, (grid0.coords t 1).val = t.val % 8)

theorem t_lt (t : Fin cfg0.N) : t.val < 192 := t.isLt

theorem blk0 (t : Fin cfg0.N) (h : Fin 8) : iblk m c 0 t (ix1 h) = SK m c (ix1 h) := by
  blk_ext [iblk, V_main_arg3, idx0 t]

theorem blk1 (t : Fin cfg0.N) (R : Fin 256) (l : Fin 512) :
    iblk m c 1 t (ix2 R l) = V m c main_v3 (ix2 ⟨t.val * 256 + R.val, by have := t_lt t; have := R.isLt; omega⟩ l) := by
  blk_ext [iblk, idx1 t]

theorem blk2 (t : Fin cfg0.N) (R : Fin 2048) (l : Fin 256) :
    iblk m c 2 t (ix2 R l) = V m c main_v7 (ix2 ⟨t.val / 8 * 2048 + R.val, by have := t_lt t; have := R.isLt; omega⟩ l) := by
  blk_ext [iblk, idx2 t]

theorem blk3 (t : Fin cfg0.N) (R : Fin 2048) (l : Fin 256) :
    iblk m c 3 t (ix2 R l) = V m c main_v11 (ix2 ⟨t.val / 8 * 2048 + R.val, by have := t_lt t; have := R.isLt; omega⟩ l) := by
  blk_ext [iblk, idx3 t]

/-- The attention of the whole batch, at a row and a lane of the result. -/
def OUT (q : S24x2048x8x64.Idx → EReal) (k v : S24x2048x2x64.Idx → EReal) (sk : S8.Idx → EReal) (y : S49152x512.Idx) : EReal :=
  out q k v sk ((y 0).val / 2048) ((y 0).val % 2048) ((y 1).val / 64) ((y 1).val % 64)

theorem blockG_eq (q : S24x2048x8x64.Idx → EReal) (k v : S24x2048x2x64.Idx → EReal) (sk : S8.Idx → EReal) (t : Fin cfg0.N) (y : S256x512.Idx)
    (z : S49152x512.Idx) (e0 : (z 0).val = t.val * 256 + (y 0).val) (e1 : (z 1).val = (y 1).val) :
    blockG q k v sk (t.val / 8) (grid0.coords t) y = OUT q k v sk z := by
  unfold blockG OUT
  have h0 : (y 0).val < 256 := (y 0).isLt
  rw [e0, e1, coord1]
  have a0 : (t.val * 256 + (y 0).val) / 2048 = t.val / 8 := by omega
  have a1 : (t.val * 256 + (y 0).val) % 2048 = t.val % 8 * 256 + (y 0).val := by omega
  rw [a0, a1]

theorem arr_eq (hq : ∀ i, Q m c i ≠ ⊥ ∧ Q m c i ≠ ⊤) (hk : ∀ i, K m c i ≠ ⊥ ∧ K m c i ≠ ⊤) (hs : ∀ i, SK m c i ≠ ⊥ ∧ SK m c i ≠ ⊤) :
    (dats m 0 c).arrAt 4 cfg0.N = OUT (Q m c) (K m c) (W m c) (SK m c) := by
  refine (dats m 0 c).arrAt_eq_of_covers 4 _ (by decide +kernel) fun t hf y => ?_
  blk_simp
  rw [after0_4]
  unfold outsAt0
  rw [block_eq]
  have ht := t_lt t
  have e := pieces_eq (Q m c) (K m c) (W m c) (SK m c) hq hk hs (t.val / 8) (grid0.coords t) (iblk m c 0 t) (iblk m c 1 t) (iblk m c 2 t) (iblk m c 3 t)
    (fun h => blk0 m c t h)
    (fun R l => by
      have := R.isLt
      rw [blk1, V3_apply, coord1]
      congr 1
      show at4 (Q m c) ((t.val * 256 + R.val) / 2048) ((t.val * 256 + R.val) % 2048) _ _ = _
      congr 1 <;> omega)
    (fun R l => by
      have := R.isLt
      rw [blk2, V7_apply]
      show at4 (K m c) ((t.val / 8 * 2048 + R.val) / 2048) ((t.val / 8 * 2048 + R.val) % 2048) _ _ = _
      congr 1 <;> omega)
    (fun R l => by
      have := R.isLt
      rw [blk3, V11_apply]
      show at4 (W m c) ((t.val / 8 * 2048 + R.val) / 2048) ((t.val / 8 * 2048 + R.val) % 2048) _ _ = _
      congr 1 <;> omega)
  refine (e y (pieces_cover _ _ _ _ _ y)).trans ?_
  refine blockG_eq _ _ _ _ t y _ ?_ ?_
  · blk_simp [idx4 t]
  · blk_simp [idx4 t]

end Cert.KernelIdeal.Attn

end
-- ==== Proof.AttnRef.lean ====
module

public import proofs.«01_k».proof.Proof.AttnMath
public import proofs.«01_k».proof.Proof.Gen.ReferenceIdeal.Read
public import Idealize.ShloMosaic.Lib.Pipeline.ValueKit
public import Idealize.ShloMosaic.Lib.WordArith

@[expose] public section

set_option maxRecDepth 16384

noncomputable section

/-! The reference's result at an index: the attention's row of the query. -/

namespace Cert.ReferenceIdeal.Attn

open Cert.ReferenceIdeal Cert.ReferenceIdeal.Gen Cert.ReferenceIdeal.Read Idealize.ShloMosaic Idealize.ShloMosaic.TcCoe Idealize.SL.Sem Cert.Attn

variable (x0 : FVec Ideal S24x2048x8x64 .f32) (x1 x2 : FVec Ideal S24x2048x2x64 .f32) (x3 : FVec Ideal S8 .f32)

/-- The first key of the band of query block `n`, which may lie before the array. -/
def w0 (n : ℕ) : ℤ := (n : ℤ) * 128 - 128

/-- A band of the padded array, where it lies inside the array. -/
theorem band_k (b : Fin 24) (n : Fin 16) (j : Fin 384) (g : Fin 2) (d : Fin 64) (h0 : 0 ≤ w0 n.val + j.val) (h1 : w0 n.val + j.val < 2048) :
    val_main_v6 (F := Ideal) x1 (ix5 b n j g d) = at4 x1 b.val (w0 n.val + j.val).toNat g.val d.val := by
  pointwise [val_main_v6, val_main_v3, val_main_v4, val_main_v5, val_main_v2, val_main_v1]
  have hj := j.isLt
  have hn := n.isLt
  unfold w0 at *
  by_cases a : j.val < 128
  · rw [dif_pos a, dif_pos (by omega)]
    exact at4_eq x1 _ _ _ _ _ _ _ _ rfl (by show _ = n.val * 128 + j.val - 128; omega) rfl rfl
  · rw [dif_neg a]
    by_cases a2 : j.val - 128 < 128
    · rw [dif_pos a2, dif_pos (by omega)]
      exact at4_eq x1 _ _ _ _ _ _ _ _ rfl (by show _ = (1 + n.val) * 128 + (j.val - 128) - 128; omega) rfl rfl
    · rw [dif_neg a2, dif_pos (by omega)]
      exact at4_eq x1 _ _ _ _ _ _ _ _ rfl (by show _ = (2 + n.val) * 128 + (j.val - 128 - 128) - 128; omega) rfl rfl

theorem band_v (b : Fin 24) (n : Fin 16) (j : Fin 384) (g : Fin 2) (d : Fin 64) (h0 : 0 ≤ w0 n.val + j.val) (h1 : w0 n.val + j.val < 2048) :
    val_main_v12 (F := Ideal) x2 (ix5 b n j g d) = at4 x2 b.val (w0 n.val + j.val).toNat g.val d.val := by
  pointwise [val_main_v12, val_main_v9, val_main_v10, val_main_v11, val_main_v8, val_main_v7]
  have hj := j.isLt
  have hn := n.isLt
  unfold w0 at *
  by_cases a : j.val < 128
  · rw [dif_pos a, dif_pos (by omega)]
    exact at4_eq x2 _ _ _ _ _ _ _ _ rfl (by show _ = n.val * 128 + j.val - 128; omega) rfl rfl
  · rw [dif_neg a]
    by_cases a2 : j.val - 128 < 128
    · rw [dif_pos a2, dif_pos (by omega)]
      exact at4_eq x2 _ _ _ _ _ _ _ _ rfl (by show _ = (1 + n.val) * 128 + (j.val - 128) - 128; omega) rfl rfl
    · rw [dif_neg a2, dif_pos (by omega)]
      exact at4_eq x2 _ _ _ _ _ _ _ _ rfl (by show _ = (2 + n.val) * 128 + (j.val - 128 - 128) - 128; omega) rfl rfl

theorem heads (b : Fin 24) (n : Fin 16) (r : Fin 128) (g : Fin 2) (h : Fin 4) (d : Fin 64) :
    val_main_v0 (F := Ideal) x0 (ix6 b n r g h d) = at4 x0 b.val (n.val * 128 + r.val) (g.val * 4 + h.val) d.val := by
  pointwise [val_main_v0]
  exact at4_eq x0 _ _ _ _ _ _ _ _ rfl rfl rfl rfl

theorem andi_one (x y : BitVec 1) : IntOp.andi x y = 1#1 ↔ x = 1#1 ∧ y = 1#1 := by
  revert x y; decide

/-- Which keys of its band a query attends to. -/
theorem valid (n : Fin 16) (r : Fin 128) (j : Fin 384) : val_main_v50 (F := Ideal) (ix3 n r j) = 1#1 ↔
    (0 ≤ w0 n.val + j.val ∧ w0 n.val + j.val < 2048 ∧ w0 n.val + j.val ≤ ((n.val * 128 + r.val : ℕ) : ℤ) + 128 ∧ ((n.val * 128 + r.val : ℕ) : ℤ) ≤ w0 n.val + j.val + 128) := by
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_c_1, val_main_c_2, val_main_c_3, val_main_c_4, val_main_c_5]
  have hj := j.isLt
  have hn := n.isLt
  have hr := r.isLt
  have hA : (IntOp.addi (IntOp.subi (IntOp.muli (BitVec.ofNat 32 n.val) 128#32) 128#32) (BitVec.ofNat 32 j.val)).toInt = w0 n.val + j.val := by
    unfold IntOp.addi IntOp.subi IntOp.muli w0
    rw [BitVec.toInt_eq_toNat_cond]
    simp only [BitVec.toNat_add, BitVec.toNat_sub, BitVec.toNat_mul, BitVec.toNat_ofNat]
    split <;> omega
  have hB : (IntOp.addi (IntOp.muli (BitVec.ofNat 32 n.val) 128#32) (BitVec.ofNat 32 r.val)).toInt = n.val * 128 + r.val := by
    unfold IntOp.addi IntOp.muli
    rw [BitVec.toInt_eq_toNat_cond]
    simp only [BitVec.toNat_add, BitVec.toNat_mul, BitVec.toNat_ofNat]
    split <;> omega
  generalize IntOp.addi (IntOp.subi (IntOp.muli (BitVec.ofNat 32 n.val) 128#32) 128#32) (BitVec.ofNat 32 j.val) = A at *
  generalize IntOp.addi (IntOp.muli (BitVec.ofNat 32 n.val) 128#32) (BitVec.ofNat 32 r.val) = B at *
  have hAB : (IntOp.absi (IntOp.subi A B)).toInt = |w0 n.val + j.val - (n.val * 128 + r.val)| := by
    have h : (A - B).toInt = w0 n.val + j.val - (n.val * 128 + r.val) := by
      rw [BitVec.toInt_sub, hA, hB, Int.bmod_def]
      unfold w0
      split <;> omega
    unfold IntOp.absi IntOp.subi
    rw [BitVec.msb_eq_toInt, h]
    by_cases hab : w0 n.val + j.val - ((n.val : ℤ) * 128 + r.val) < 0
    · rw [if_pos (by simpa using hab), abs_of_neg hab, BitVec.toInt_neg, h, Int.bmod_def]
      unfold w0
      split <;> omega
    · rw [if_neg (by simpa using hab), abs_of_nonneg (by omega), h]
  rw [andi_one, andi_one]
  have e1 : IntOp.cmpi .sle (IntOp.absi (IntOp.subi A B)) 128#32 = 1#1 ↔ |w0 n.val + j.val - (n.val * 128 + r.val)| ≤ 128 := by
    rw [show IntOp.cmpi .sle (IntOp.absi (IntOp.subi A B)) 128#32 = BitVec.ofBool ((IntOp.absi (IntOp.subi A B)).sle 128#32) from rfl,
      Idealize.ShloMosaic.WordArith.ofBool_eq_one_iff, BitVec.sle_iff_toInt_le, hAB, show (128#32).toInt = 128 from by decide]
  have e2 : IntOp.cmpi .sge A 0#32 = 1#1 ↔ 0 ≤ w0 n.val + j.val := by
    rw [show IntOp.cmpi .sge A 0#32 = BitVec.ofBool ((0#32).sle A) from rfl,
      Idealize.ShloMosaic.WordArith.ofBool_eq_one_iff, BitVec.sle_iff_toInt_le, hA, show (0#32).toInt = 0 from by decide]
  have e3 : IntOp.cmpi .slt A 2048#32 = 1#1 ↔ w0 n.val + j.val < 2048 := by
    rw [show IntOp.cmpi .slt A 2048#32 = BitVec.ofBool (A.slt 2048#32) from rfl,
      Idealize.ShloMosaic.WordArith.ofBool_eq_one_iff, BitVec.slt_iff_toInt_lt, hA, show (2048#32).toInt = 2048 from by decide]
  rw [e1, e2, e3, abs_le]
  push_cast
  constructor <;> intro h <;> omega

/-- A masked score. -/
theorem score_at (b : Fin 24) (n : Fin 16) (g : Fin 2) (h : Fin 4) (r : Fin 128) (j : Fin 384) :
    val_main_v52 (F := Ideal) x0 x1 (ix6 b n g h r j) = if val_main_v50 (F := Ideal) (ix3 n r j) = 1#1 then
      (∑ k : Fin 64, val_main_v6 (F := Ideal) x1 (ix5 b n j g k) * val_main_v0 (F := Ideal) x0 (ix6 b n r g h k)) * ((1 / 8 : ℝ) : EReal) else ⊥ := by
  have h1 : val_main_call2_v1 (F := Ideal) (ix6 b n g h r j) = val_main_v50 (F := Ideal) (ix3 n r j) := by
    pointwise [val_main_call2_v1, val_main_v51]
  have h2 : val_main_call2_v2 (F := Ideal) (ix6 b n g h r j) = ⊥ := by
    pointwise [val_main_call2_v2, val_main_call2_v0, val_main_cst_6]
    show Ideal.ofBits .f32 0xFF800000#32 = ⊥
    simp [Ideal.ofBits, Ideal.ieee]
  have h3 : val_main_v16 (F := Ideal) x0 x1 (ix6 b n g h r j) = val_main_v13 (F := Ideal) x0 x1 (ix6 b n g j r h) * ((1 / 8 : ℝ) : EReal) := by
    pointwise [val_main_v16, val_main_v15, val_main_cst, val_main_v14]
    rw [eighth]
  have h4 : val_main_v13 (F := Ideal) x0 x1 (ix6 b n g j r h) = ∑ k : Fin 64, val_main_v6 (F := Ideal) x1 (ix5 b n j g k) * val_main_v0 (F := Ideal) x0 (ix6 b n r g h k) := by
    rw [val_main_v13_apply]
    generalize val_main_v6 (F := Ideal) x1 = y1
    generalize val_main_v0 (F := Ideal) x0 = y0
    refine Finset.sum_congr rfl fun k _ => ?_
    have e1 : lidx_main_v13 (ix6 b n g j r h) k = ix5 b n j g k := funext fun a => Fin.ext (by match a with | ⟨0, _⟩ => rfl | ⟨1, _⟩ => rfl | ⟨2, _⟩ => rfl | ⟨3, _⟩ => rfl | ⟨4, _⟩ => rfl)
    have e2 : ridx_main_v13 (ix6 b n g j r h) k = ix6 b n r g h k := funext fun a => Fin.ext (by match a with | ⟨0, _⟩ => rfl | ⟨1, _⟩ => rfl | ⟨2, _⟩ => rfl | ⟨3, _⟩ => rfl | ⟨4, _⟩ => rfl | ⟨5, _⟩ => rfl)
    rw [e1, e2]
  rw [val_main_v52_apply, h1, h2, h3, h4]
  generalize (∑ k : Fin 64, val_main_v6 (F := Ideal) x1 (ix5 b n j g k) * val_main_v0 (F := Ideal) x0 (ix6 b n r g h k)) = s
  generalize val_main_v50 (F := Ideal) (ix3 n r j) = c
  rfl

/-- The largest score of a band. -/
theorem max_at (b : Fin 24) (n : Fin 16) (g : Fin 2) (h : Fin 4) (r : Fin 128) :
    val_main_v55 (F := Ideal) x0 x1 (ix5 b n g h r) = Finset.univ.sup fun j => val_main_v52 (F := Ideal) x0 x1 (ix6 b n g h r j) := by
  unfold val_main_v55
  generalize val_main_v52 (F := Ideal) x0 x1 = y0
  have hr : S24x16x2x4x128x384.Reduces [(5 : Fin 6)] S24x16x2x4x128 := by decide
  refine (Host.reduce_eq_fold_single (α := Ideal .f32) FloatOps.maximumf y0 _ reducesTo_S24x16x2x4x128x384_S24x16x2x4x128_d5 hr h_S_ _).trans ?_
  have hc : (y0 ∘ hr.lift (ix5 b n g h r)) = fun j : Fin 384 => y0 (ix6 b n g h r j) :=
    funext fun k => congrArg y0 (funext fun a => Fin.ext (by match a with | ⟨0, _⟩ => rfl | ⟨1, _⟩ => rfl | ⟨2, _⟩ => rfl | ⟨3, _⟩ => rfl | ⟨4, _⟩ => rfl | ⟨5, _⟩ => rfl))
  have hb : val_main_cst_7 (F := Ideal) (Shape.Idx.first h_S_) = ⊥ := by
    rw [val_main_cst_7_apply]
    show Ideal.ofBits .f32 0xFF800000#32 = ⊥
    simp [Ideal.ofBits, Ideal.ieee]
  rw [hb]
  refine (congrArg (fun f => Finset.fold (max : EReal → EReal → EReal) ⊥ f (Finset.univ : Finset (Fin 384))) hc).trans ?_
  exact fold_max_eq_sup _ _ rfl

theorem sink_at (b : Fin 24) (n : Fin 16) (g : Fin 2) (h : Fin 4) (r : Fin 128) :
    val_main_v57 (F := Ideal) x3 (ix6 b n g h r 0) = x3 (ix1 (Fin.ofNat 8 (g.val * 4 + h.val))) := by
  pointwise [val_main_v57, val_main_v54, val_main_v53]
  refine congrArg x3 (congrArg ix1 (Fin.ext ?_))
  have := g.isLt
  have := h.isLt
  show g.val * 4 + h.val = (g.val * 4 + h.val) % 8
  omega

theorem top_at (b : Fin 24) (n : Fin 16) (g : Fin 2) (h : Fin 4) (r : Fin 128) :
    val_main_v58 (F := Ideal) x0 x1 x3 (ix6 b n g h r 0)
      = top (fun j => val_main_v52 (F := Ideal) x0 x1 (ix6 b n g h r j)) (x3 (ix1 (Fin.ofNat 8 (g.val * 4 + h.val)))) := by
  have h1 : val_main_v56 (F := Ideal) x0 x1 (ix6 b n g h r 0) = val_main_v55 (F := Ideal) x0 x1 (ix5 b n g h r) := by
    unfold val_main_v56
    generalize val_main_v55 (F := Ideal) x0 x1 = y
    pointwise
  rw [val_main_v58_apply, h1, sink_at, max_at]
  rfl

theorem exp_at (b : Fin 24) (n : Fin 16) (g : Fin 2) (h : Fin 4) (r : Fin 128) (j : Fin 384) :
    val_main_v61 (F := Ideal) x0 x1 x3 (ix6 b n g h r j)
      = Ideal.exp (val_main_v52 (F := Ideal) x0 x1 (ix6 b n g h r j) - top (fun j => val_main_v52 (F := Ideal) x0 x1 (ix6 b n g h r j)) (x3 (ix1 (Fin.ofNat 8 (g.val * 4 + h.val))))) := by
  have h1 : val_main_v59 (F := Ideal) x0 x1 x3 (ix6 b n g h r j) = val_main_v58 (F := Ideal) x0 x1 x3 (ix6 b n g h r 0) := by
    unfold val_main_v59
    generalize val_main_v58 (F := Ideal) x0 x1 x3 = y
    pointwise
  rw [val_main_v61_apply, val_main_v60_apply, h1, top_at]
  rfl

theorem den_of (S : Fin 384 → EReal) (sk a : EReal) (ha : a = ∑ j, Ideal.exp (S j - top S sk)) :
    FloatOps.addf (F := Ideal) (φ := .f32) a (FloatOps.hostUnary (F := Ideal) (φ := .f32) .exp (FloatOps.subf (F := Ideal) (φ := .f32) sk (top S sk))) = den S sk := by
  rw [ha]
  rfl

theorem den_at (b : Fin 24) (n : Fin 16) (g : Fin 2) (h : Fin 4) (r : Fin 128) :
    val_main_v67 (F := Ideal) x0 x1 x3 (ix6 b n g h r 0)
      = den (fun j => val_main_v52 (F := Ideal) x0 x1 (ix6 b n g h r j)) (x3 (ix1 (Fin.ofNat 8 (g.val * 4 + h.val)))) := by
  have h1 : val_main_v63 (F := Ideal) x0 x1 x3 (ix6 b n g h r 0) = val_main_v62 (F := Ideal) x0 x1 x3 (ix5 b n g h r) := by
    unfold val_main_v63
    generalize val_main_v62 (F := Ideal) x0 x1 x3 = y
    pointwise
  have h2 : val_main_v64 (F := Ideal) x3 (ix6 b n g h r 0) = x3 (ix1 (Fin.ofNat 8 (g.val * 4 + h.val))) := sink_at x3 b n g h r
  have h3 : (val_main_cst_8 (F := Ideal)) (Shape.Idx.first h_S_) = 0 := by
    rw [val_main_cst_8_apply]
    show Ideal.ofBits .f32 0x00000000#32 = 0
    simp [Ideal.ofBits, Ideal.ieee]
  have h4 : val_main_v62 (F := Ideal) x0 x1 x3 (ix5 b n g h r) = ∑ j : Fin 384, val_main_v61 (F := Ideal) x0 x1 x3 (ix6 b n g h r j) := by
    rw [val_main_v62_apply, h3, zero_add]
    generalize val_main_v61 (F := Ideal) x0 x1 x3 = y
    refine Finset.sum_congr rfl fun k _ => ?_
    exact congrArg y (funext fun a => Fin.ext (by match a with | ⟨0, _⟩ => rfl | ⟨1, _⟩ => rfl | ⟨2, _⟩ => rfl | ⟨3, _⟩ => rfl | ⟨4, _⟩ => rfl | ⟨5, _⟩ => rfl))
  rw [val_main_v67_apply, val_main_v66_apply, val_main_v65_apply, h1, h2, top_at, h4]
  simp only [exp_at]
  exact den_of _ _ _ rfl

theorem prob_at (b : Fin 24) (n : Fin 16) (g : Fin 2) (h : Fin 4) (r : Fin 128) (j : Fin 384) :
    val_main_v69 (F := Ideal) x0 x1 x3 (ix6 b n g h r j)
      = Ideal.div (Ideal.exp (val_main_v52 (F := Ideal) x0 x1 (ix6 b n g h r j) - top (fun j => val_main_v52 (F := Ideal) x0 x1 (ix6 b n g h r j)) (x3 (ix1 (Fin.ofNat 8 (g.val * 4 + h.val))))))
          (den (fun j => val_main_v52 (F := Ideal) x0 x1 (ix6 b n g h r j)) (x3 (ix1 (Fin.ofNat 8 (g.val * 4 + h.val))))) := by
  have h1 : val_main_v68 (F := Ideal) x0 x1 x3 (ix6 b n g h r j) = val_main_v67 (F := Ideal) x0 x1 x3 (ix6 b n g h r 0) := by
    unfold val_main_v68
    generalize val_main_v67 (F := Ideal) x0 x1 x3 = y
    pointwise
  rw [val_main_v69_apply, h1, den_at, exp_at]
  rfl

theorem row_at (b : Fin 24) (n : Fin 16) (g : Fin 2) (d : Fin 64) (h : Fin 4) (r : Fin 128) :
    val_main_v70 (F := Ideal) x0 x1 x2 x3 (ix6 b n g d h r)
      = soft (fun j => val_main_v52 (F := Ideal) x0 x1 (ix6 b n g h r j)) (fun j => val_main_v12 (F := Ideal) x2 (ix5 b n j g d)) (x3 (ix1 (Fin.ofNat 8 (g.val * 4 + h.val)))) := by
  have h1 : val_main_v70 (F := Ideal) x0 x1 x2 x3 (ix6 b n g d h r)
      = ∑ j : Fin 384, val_main_v69 (F := Ideal) x0 x1 x3 (ix6 b n g h r j) * val_main_v12 (F := Ideal) x2 (ix5 b n j g d) := by
    rw [val_main_v70_apply]
    generalize val_main_v69 (F := Ideal) x0 x1 x3 = y1
    generalize val_main_v12 (F := Ideal) x2 = y2
    refine Finset.sum_congr rfl fun k _ => ?_
    have e1 : lidx_main_v70 (ix6 b n g d h r) k = ix5 b n k g d := funext fun a => Fin.ext (by match a with | ⟨0, _⟩ => rfl | ⟨1, _⟩ => rfl | ⟨2, _⟩ => rfl | ⟨3, _⟩ => rfl | ⟨4, _⟩ => rfl)
    have e2 : ridx_main_v70 (ix6 b n g d h r) k = ix6 b n g h r k := funext fun a => Fin.ext (by match a with | ⟨0, _⟩ => rfl | ⟨1, _⟩ => rfl | ⟨2, _⟩ => rfl | ⟨3, _⟩ => rfl | ⟨4, _⟩ => rfl | ⟨5, _⟩ => rfl)
    rw [e1, e2, mul_comm]
  rw [h1]
  simp only [prob_at]
  rfl

theorem row_out (hq : ∀ i, x0 i ≠ ⊥ ∧ x0 i ≠ ⊤) (hk : ∀ i, x1 i ≠ ⊥ ∧ x1 i ≠ ⊤) (hs : ∀ i, x3 i ≠ ⊥ ∧ x3 i ≠ ⊤)
    (b : Fin 24) (n : Fin 16) (g : Fin 2) (d : Fin 64) (h : Fin 4) (r : Fin 128) :
    val_main_v70 (F := Ideal) x0 x1 x2 x3 (ix6 b n g d h r) = out x0 x1 x2 x3 b.val (n.val * 128 + r.val) (g.val * 4 + h.val) d.val := by
  rw [row_at]
  have hg := g.isLt
  have hh := h.isLt
  have hr := r.isLt
  have e4 : (g.val * 4 + h.val) / 4 = g.val := by omega
  refine window_eq x0 x1 x2 x3 hq hk hs b.val (n.val * 128 + r.val) (g.val * 4 + h.val) d.val (w0 n.val) (fun j => val_main_v50 (F := Ideal) (ix3 n r j) = 1#1)
    (fun j => valid n r j) ?_ _ _ ?_ ?_ ?_
  · intro j hj h1 h2
    unfold w0
    omega
  · intro j hj
    have hv := (valid n r j).1 hj
    rw [score_at, if_pos hj, e4]
    refine congrArg (· * _) (Finset.sum_congr rfl fun k _ => ?_)
    rw [band_k x1 b n j g k hv.1 hv.2.1, heads, mul_comm]
  · intro j hj
    have hv := (valid n r j).1 hj
    rw [e4]
    exact band_v x2 b n j g d hv.1 hv.2.1
  · intro j hj
    rw [score_at, if_neg hj]

/-- The reference's result at a row and a lane. -/
theorem result_at (hq : ∀ i, x0 i ≠ ⊥ ∧ x0 i ≠ ⊤) (hk : ∀ i, x1 i ≠ ⊥ ∧ x1 i ≠ ⊤) (hs : ∀ i, x3 i ≠ ⊥ ∧ x3 i ≠ ⊤) (R : Fin 49152) (l : Fin 512) :
    val_main_v73 (F := Ideal) x0 x1 x2 x3 (ix2 R l) = out x0 x1 x2 x3 (R.val / 2048) (R.val % 2048) (l.val / 64) (l.val % 64) := by
  pointwise [val_main_v73, val_main_v72, val_main_v71]
  rw [row_out x0 x1 x2 x3 hq hk hs]
  have := R.isLt
  have := l.isLt
  show out x0 x1 x2 x3 (R.val / 2048) (R.val / 128 % 16 * 128 + R.val % 128) (l.val / 256 * 4 + l.val / 64 % 4) (l.val % 64) = _
  congr 1 <;> omega

end Cert.ReferenceIdeal.Attn

end
-- ==== Proof.AttnClaim.lean ====
module

public import proofs.«01_k».proof.Defs
public import proofs.«01_k».proof.Proof.AttnHost
public import proofs.«01_k».proof.Proof.AttnRef
public import Idealize.ShloMosaic.Lib.Affine
public import Idealize.ShloMosaic.Lib.Decide
public import Idealize.ShloMosaic.Lib.ReduceAll

@[expose] public section

noncomputable section

/-! The attention's claim: what the precondition says, and the two programs' results equal. -/

namespace Cert.Attn

open Idealize.ShloMosaic Idealize.ShloMosaic.TcCoe Idealize.SL.Sem

/-- The precondition's shape facts. -/
theorem preFacts : Cert.Pre_finite.Facts where
  bcast_S_S24x2048x8x64 := by decide
  reducesTo_S24x2048x8x64_S_d0_1_2_3 := by decide
  h_S_ := by decide
  bcast_S_S24x2048x2x64 := by decide
  reducesTo_S24x2048x2x64_S_d0_1_2_3 := by decide
  bcast_S_S8 := by decide
  reducesTo_S8_S_d0 := by decide

/-- An element whose magnitude is below the largest is neither infinity. -/
theorem finite_of (x : EReal) (h : Ideal.cmp .olt (max x (-x)) (Ideal.ofBits .f32 0x7F800000#32) = 1#1) : x ≠ ⊥ ∧ x ≠ ⊤ := by
  have htop : Ideal.ofBits .f32 0x7F800000#32 = ⊤ := by simp [Ideal.ofBits, Ideal.ieee]
  rw [htop] at h
  constructor
  · rintro rfl
    simp [Ideal.cmp] at h
  · rintro rfl
    simp [Ideal.cmp] at h

theorem andi_one (x y : BitVec 1) : IntOp.andi x y = 1#1 ↔ x = 1#1 ∧ y = 1#1 := by
  revert x y; decide

instance : Subsingleton Cert.Pre_finite.S_.Idx := ⟨fun a b => funext fun i => i.elim0⟩

/-- What the precondition says of the queries, the keys and the sinks. -/
theorem pre_apart [h : Cert.Pre_finite.Facts] (q : FVec Ideal Cert.Pre_finite.S24x2048x8x64 .f32) (k v : FVec Ideal Cert.Pre_finite.S24x2048x2x64 .f32) (s : FVec Ideal Cert.Pre_finite.S8 .f32)
    (hp : Cert.Pre_finite.fn (F := Ideal) q k v s = fun _ => 1#1) :
    (∀ i, q i ≠ ⊥ ∧ q i ≠ ⊤) ∧ (∀ i, k i ≠ ⊥ ∧ k i ≠ ⊤) ∧ (∀ i, s i ≠ ⊥ ∧ s i ≠ ⊤) := by
  have h0 := congrFun hp ix0
  unfold Cert.Pre_finite.fn at h0
  obtain ⟨h1, h2⟩ := (andi_one _ _).1 h0
  obtain ⟨h3, h4⟩ := (andi_one _ _).1 h1
  exact ⟨fun i => finite_of _ (Host.reduce_andi_all _ _ _ _ _ h3 i), fun i => finite_of _ (Host.reduce_andi_all _ _ _ _ _ h4 i), fun i => finite_of _ (Host.reduce_andi_all _ _ _ _ _ h2 i)⟩

/-- The reference's result array. -/
theorem ref_eq (q : FVec Ideal Cert.ReferenceIdeal.S24x2048x8x64 .f32) (k v : FVec Ideal Cert.ReferenceIdeal.S24x2048x2x64 .f32) (s : FVec Ideal Cert.ReferenceIdeal.S8 .f32)
    (hq : ∀ i, q i ≠ ⊥ ∧ q i ≠ ⊤) (hk : ∀ i, k i ≠ ⊥ ∧ k i ≠ ⊤) (hs : ∀ i, s i ≠ ⊥ ∧ s i ≠ ⊤) :
    Cert.ReferenceIdeal.Read.val_main_v73 (F := Ideal) q k v s = Cert.KernelIdeal.Attn.OUT q k v s := by
  funext y
  obtain ⟨R, l, rfl⟩ : ∃ (R : Fin 49152) (l : Fin 512), y = ix2 R l := ⟨y 0, y 1, funext fun a => by match a with | ⟨0, _⟩ => rfl | ⟨1, _⟩ => rfl⟩
  exact Cert.ReferenceIdeal.Attn.result_at q k v s hq hk hs R l

/-- From the same arrays the two programs end at the same result. -/
theorem algebraic : algebraic_KernelIdeal_ReferenceIdeal_pre_finite (hKernelIdeal := Cert.KernelIdeal.Gen.facts) (hReferenceIdeal := Cert.ReferenceIdeal.Gen.facts) (hPre_finite := preFacts) := by
  intro m g m' g' hp ha
  refine ⟨fun c => Cert.KernelIdeal.Attn.OUT (Cert.KernelIdeal.Attn.Q m c) (Cert.KernelIdeal.Attn.K m c) (Cert.KernelIdeal.Attn.W m c) (Cert.KernelIdeal.Attn.SK m c), ?_, ?_⟩
  · refine (θ_run _ _ _).mono (fun r h c => ?_) (Cert.KernelIdeal.Value.run_blocks m g)
    obtain ⟨hq, hk, hs⟩ := pre_apart (h := preFacts) _ _ _ _ (hp c)
    exact ⟨((h c).1).trans (Cert.KernelIdeal.Attn.arr_eq m c hq hk hs), (h c).2⟩
  · refine (θ_run _ _ _).mono (fun r h c => ?_) (Cert.ReferenceIdeal.Value.run m' g')
    obtain ⟨hq, hk, hs⟩ := pre_apart (h := preFacts) _ _ _ _ (hp c)
    refine ⟨((h c).1).trans ((Cert.ReferenceIdeal.Read.val_main_v73_eq m' c).trans ?_), (h c).2⟩
    obtain ⟨e0, e1, e2, e3⟩ := ha c
    rw [e0, e1, e2, e3]
    exact ref_eq _ _ _ _ hq hk hs

end Cert.Attn

end
-- ==== Proof.ExpertsRun.lean ====
/- What one step of the experts' kernel does, on any staging buffers and any tables: three cases by what the step reads
   in the two tables. A step past the used blocks stores zeros; a used step whose expert is the one before's computes from
   the three carried buffers; a used step of a new expert loads these buffers first. Over any float values `F`. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Writes
public import Idealize.ShloMosaic.Lib.Exec

@[expose] public section

set_option maxRecDepth 16384
set_option Elab.async false

noncomputable section

namespace Cert.Experts3

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the blocks' experts and the table with the number of used blocks, as the kernel is handed them. -/
abbrev tbE : Memref sig .tc .smem S448 .i32 := Memref.whole main_arg0
abbrev tbN : Memref sig .tc .smem S1 .i32 := Memref.whole main_arg1
/-- The three carried buffers: an expert's gate, up and down weights. -/
abbrev scG : Memref sig .tc .vmem S1024x512 .bf16 := Memref.whole cc0_scratch0
abbrev scU : Memref sig .tc .vmem S1024x512 .bf16 := Memref.whole cc0_scratch1
abbrev scD : Memref sig .tc .vmem S512x1024 .bf16 := Memref.whole cc0_scratch2

/-- The three words that a step reads: the number of used blocks, its block's expert and the expert of the block before. -/
abbrev wN (T1 : S1.Idx → Elt F .i32) : Elt F .i32 :=
  View.readAt (Elt F) tbN.view (Rect.unit (s := S1) ![0] S1.size inb_S1_S1_0).toLoadRect T1 (Shape.Idx.first (numel1_S1.symm ▸ Nat.one_pos))
abbrev wE (i : grid0.Coords) (T0 : S448.Idx → Elt F .i32) : Elt F .i32 :=
  View.readAt (Elt F) tbE.view (Rect.unit (s := S448) (k0_off1 i) S1.size (k0_off1_inb i)).toLoadRect T0 (Shape.Idx.first (numel1_S1.symm ▸ Nat.one_pos))
abbrev wP (i : grid0.Coords) (T0 : S448.Idx → Elt F .i32) : Elt F .i32 :=
  View.readAt (Elt F) tbE.view (Rect.unit (s := S448) (k0_off2 i) S1.size (k0_off2_inb i)).toLoadRect T0 (Shape.Idx.first (numel1_S1.symm ▸ Nat.one_pos))

/-- Whether the step loads the carried buffers, as the kernel decides it from these words. -/
abbrev loads (i : grid0.Coords) (n e p : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p)))) 0#32

section
variable (c : Dev nD) (i : grid0.Coords)
  (arg3 : Memref sig .tc .vmem S2048x128 .f32) (harg3 : arg3.IsWhole)
  (arg4 : Memref sig .tc .vmem S1x1x1024x512 .f32) (harg4 : arg4.IsWhole)
  (arg5 : Memref sig .tc .vmem S1x1x1024x512 .f32) (harg5 : arg5.IsWhole)
  (arg6 : Memref sig .tc .vmem S1x1x512x1024 .f32) (harg6 : arg6.IsWhole)
  (arg7 : Memref sig .tc .vmem S2048x128 .f32) (harg7 : arg7.IsWhole)
  (T0 : S448.Idx → Elt F .i32) (T1 : S1.Idx → Elt F .i32)
  (x0 : S2048x128.Idx → Elt F .f32) (x1 x2 : S1x1x1024x512.Idx → Elt F .f32) (x3 : S1x1x512x1024.Idx → Elt F .f32)
  (g u : S1024x512.Idx → Elt F .bf16) (d : S512x1024.Idx → Elt F .bf16)

/-- The step's inputs at their blocks, and the two tables. -/
abbrev inputs : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tbE.view.loc (c : Thread nD τ) ↦{fullShare.right} T0)
    ∗ (tbN.view.loc (c : Thread nD τ) ↦{fullShare.right} T1))

/-- The three carried buffers at given contents. -/
abbrev carried (g u : S1024x512.Idx → Elt F .bf16) (d : S512x1024.Idx → Elt F .bf16) : sProp 𝕄 :=
  iprop((scG.view.loc (c : Thread nD τ) ↦{fullShare} g)
    ∗ (scU.view.loc (c : Thread nD τ) ↦{fullShare} u)
    ∗ (scD.view.loc (c : Thread nD τ) ↦{fullShare} d))

/-- The kernel's body on these buffers. -/
abbrev body : Prog (TpuEff nD τ sig (Elt F) Λ₀ .tc) PUnit :=
  cc0_moe_experts i tbE (Memref.isWhole_whole _) tbN (Memref.isWhole_whole _) arg3 harg3 arg4 harg4 arg5 harg5 arg6 harg6 arg7 harg7
    scG (Memref.isWhole_whole _) scU (Memref.isWhole_whole _) scD (Memref.isWhole_whole _)

set_option backward.proofsInPublic true in
set_option maxHeartbeats 8000000 in
/-- A step past the used blocks: the carried buffers stay, and the output's block takes the pieces found here. -/
noncomputable def runIdle (hc : ¬ loads i (wN T1) (wE i T0) (wP i T0) = 1#1) (h2 : ¬ k0_cond2 i (wN T1) = 1#1) (h3 : k0_cond3 i (wN T1) = 1#1) :
    { out : List (View.Piece (Elt F) S2048x128 .f32) // ∀ (K : PUnit → sProp 𝕄),
        iprop(inputs c arg3 arg4 arg5 arg6 T0 T1 x0 x1 x2 x3 ∗ (∃ d, owns (c : Thread nD τ) arg7 fullShare d) ∗ carried c g u d
          ∗ (iprop(inputs c arg3 arg4 arg5 arg6 T0 T1 x0 x1 x2 x3
              ∗ (∃ f, arg7.view.loc (c : Thread nD τ) ↦[arg7.view.set]{fullShare} arg7.view.writes (Elt F) f out) ∗ carried c g u d) -∗ K ⟨⟩))
          ⊢ wp frame (wpE (defs₀ (F := F)) Variants.none c none) Set.univ (body i arg3 harg3 arg4 harg4 arg5 harg5 arg6 harg6 arg7 harg7) K } :=
  ⟨_, fun K => by
    unfold owns
    unfold body
    rw [cc0_moe_experts_eq_skeleton]; unfold cc0_moe_experts_skel
    iintro ⟨⟨H0, H1, H2, H3, HT0, HT1⟩, ⟨%d4, %f4, -, HO4⟩, ⟨HS0, HS1, HS2⟩, Hk⟩
    have hS0 : scG.IsWhole := Memref.isWhole_whole _
    have hS1 : scU.IsWhole := Memref.isWhole_whole _
    have hS2 : scD.IsWhole := Memref.isWhole_whole _
    have hT0 : tbE.IsWhole := Memref.isWhole_whole _
    have hT1 : tbN.IsWhole := Memref.isWhole_whole _
    sl_exec! (disch := first | (guard_target = ¬(Scalar.cmpi _ _ _ = _); exact hc) | (guard_target = ¬(k0_cond2 _ _ = _); exact h2) | (guard_target = k0_cond3 _ _ = _; exact h3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    isplitl [HS1]; · iexact HS1
    iexact HS2⟩

set_option backward.proofsInPublic true in
set_option maxHeartbeats 8000000 in
/-- A used step of the expert before: the carried buffers stay, and the output's block takes the pieces found here. -/
noncomputable def runSame (hc : ¬ loads i (wN T1) (wE i T0) (wP i T0) = 1#1) (h2 : k0_cond2 i (wN T1) = 1#1) (h3 : ¬ k0_cond3 i (wN T1) = 1#1) :
    { out : List (View.Piece (Elt F) S2048x128 .f32) // ∀ (K : PUnit → sProp 𝕄),
        iprop(inputs c arg3 arg4 arg5 arg6 T0 T1 x0 x1 x2 x3 ∗ (∃ d, owns (c : Thread nD τ) arg7 fullShare d) ∗ carried c g u d
          ∗ (iprop(inputs c arg3 arg4 arg5 arg6 T0 T1 x0 x1 x2 x3
              ∗ (∃ f, arg7.view.loc (c : Thread nD τ) ↦[arg7.view.set]{fullShare} arg7.view.writes (Elt F) f out) ∗ carried c g u d) -∗ K ⟨⟩))
          ⊢ wp frame (wpE (defs₀ (F := F)) Variants.none c none) Set.univ (body i arg3 harg3 arg4 harg4 arg5 harg5 arg6 harg6 arg7 harg7) K } :=
  ⟨_, fun K => by
    unfold owns
    unfold body
    rw [cc0_moe_experts_eq_skeleton]; unfold cc0_moe_experts_skel
    iintro ⟨⟨H0, H1, H2, H3, HT0, HT1⟩, ⟨%d4, %f4, -, HO4⟩, ⟨HS0, HS1, HS2⟩, Hk⟩
    have hS0 : scG.IsWhole := Memref.isWhole_whole _
    have hS1 : scU.IsWhole := Memref.isWhole_whole _
    have hS2 : scD.IsWhole := Memref.isWhole_whole _
    have hT0 : tbE.IsWhole := Memref.isWhole_whole _
    have hT1 : tbN.IsWhole := Memref.isWhole_whole _
    sl_exec! (disch := first | (guard_target = ¬(Scalar.cmpi _ _ _ = _); exact hc) | (guard_target = (k0_cond2 _ _ = _); exact h2) | (guard_target = ¬(k0_cond3 _ _ = _); exact h3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    isplitl [HS1]; · iexact HS1
    iexact HS2⟩

set_option backward.proofsInPublic true in
set_option maxHeartbeats 8000000 in
/-- A used step of a new expert: what the carried buffers hold afterwards and the pieces of the output's block are found here. -/
noncomputable def runNew (hc : loads i (wN T1) (wE i T0) (wP i T0) = 1#1) (h2 : k0_cond2 i (wN T1) = 1#1) (h3 : ¬ k0_cond3 i (wN T1) = 1#1) :
    Σ' (out : List (View.Piece (Elt F) S2048x128 .f32)) (g' u' : S1024x512.Idx → Elt F .bf16), { d' : S512x1024.Idx → Elt F .bf16 // ∀ (K : PUnit → sProp 𝕄),
        iprop(inputs c arg3 arg4 arg5 arg6 T0 T1 x0 x1 x2 x3 ∗ (∃ d, owns (c : Thread nD τ) arg7 fullShare d) ∗ carried c g u d
          ∗ (iprop(inputs c arg3 arg4 arg5 arg6 T0 T1 x0 x1 x2 x3
              ∗ (∃ f, arg7.view.loc (c : Thread nD τ) ↦[arg7.view.set]{fullShare} arg7.view.writes (Elt F) f out) ∗ carried c g' u' d') -∗ K ⟨⟩))
          ⊢ wp frame (wpE (defs₀ (F := F)) Variants.none c none) Set.univ (body i arg3 harg3 arg4 harg4 arg5 harg5 arg6 harg6 arg7 harg7) K } :=
  ⟨_, _, _, _, fun K => by
    unfold owns
    unfold body
    rw [cc0_moe_experts_eq_skeleton]; unfold cc0_moe_experts_skel
    iintro ⟨⟨H0, H1, H2, H3, HT0, HT1⟩, ⟨%d4, %f4, -, HO4⟩, ⟨HS0, HS1, HS2⟩, Hk⟩
    have hS0 : scG.IsWhole := Memref.isWhole_whole _
    have hS1 : scU.IsWhole := Memref.isWhole_whole _
    have hS2 : scD.IsWhole := Memref.isWhole_whole _
    have hT0 : tbE.IsWhole := Memref.isWhole_whole _
    have hT1 : tbN.IsWhole := Memref.isWhole_whole _
    sl_exec! (disch := first | (guard_target = (Scalar.cmpi _ _ _ = _); exact hc) | (guard_target = (k0_cond2 _ _ = _); exact h2) | (guard_target = ¬(k0_cond3 _ _ = _); exact h3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    isplitl [HS1]; · iexact HS1
    iexact HS2⟩

end

end Cert.Experts3

end
-- ==== Proof.ExpertsStep.lean ====
/- What the three cases of a step leave: the output's block, row by row, and the carried buffers. -/
module

public import proofs.«01_k».proof.Proof.ExpertsRun
public import Idealize.ShloMosaic.Lib.Pointwise
public import Idealize.ShloMosaic.Lib.ValueIdx
public import Idealize.ShloMosaic.Lib.Pipeline.ValueKit

@[expose] public section

set_option maxRecDepth 16384

noncomputable section

namespace Cert.Experts3

open Cert.ExpertsIdeal Cert.ExpertsIdeal.Gen
open Idealize.ShloMosaic Idealize.ShloMosaic.TcCoe

variable {F : FTy → Type} [FloatOps F]

/-- Every eighth row of a block, from row `k`: columns `128 k` up to `128 k + 127` of the tokens' rows. -/
def slab (x : S2048x128.Idx → Elt F .f32) (k : Fin 8) : Vec F S256x128 .f32 := fun y =>
  x (ix2 (n0 := 2048) (n1 := 128) ⟨k.val + 8 * (y 0).val, by have := k.isLt; have : (y 0).val < 256 := (y 0).isLt; omega⟩ ⟨(y 1).val, (y 1).isLt⟩)

/-- The block's result from its tokens and an expert's weights. -/
def rows (x : S2048x128.Idx → Elt F .f32) (g u : FVec F S1024x512 .bf16) (d : FVec F S512x1024 .bf16) : FVec F S256x1024 .f32 :=
  k0_pay11 (slab x 0) (slab x 1) (slab x 2) (slab x 3) (slab x 4) (slab x 5) (slab x 6) (slab x 7) g u d

/-- A 256 by 1024 block laid out as 2048 rows of 128. -/
def tile (Y : FVec F S256x1024 .f32) : S2048x128.Idx → Elt F .f32 := fun y =>
  Y (ix2 (n0 := 256) (n1 := 1024) ⟨(y 0).val / 8, by have : (y 0).val < 2048 := (y 0).isLt; omega⟩
    ⟨(y 0).val % 8 * 128 + (y 1).val, by have : (y 1).val < 128 := (y 1).isLt; omega⟩)

/-- The rectangle of every eighth row from row `k`. -/
abbrev every (k : ℕ) (inb : ∀ a, S256x128.size a = 0 ∨ (![k, 0] : Fin 2 → ℕ) a + (![8, 1] : Fin 2 → ℕ) a * (S256x128.size a - 1) < S2048x128.size a) :
    Rect S2048x128 := ⟨(⟨![k, 0], S256x128.size, ![8, 1], inb⟩ : LoadRect S2048x128), spos_8_1⟩

/-- The columns from `128 k`, cut out of a block, are its laid-out rows on this rectangle. -/
theorem cut_eq (k : ℕ) (hk : k < 8) (inb) (o : ℕ) (ho : o = 128 * k) (h : S256x1024.Slices ![0, o] S256x128) (Y : FVec F S256x1024 .f32) (x : S256x128.Idx) :
    extractStridedSlice S256x128 ![0, o] Y h x = tile Y ((every k inb).emb x) := by
  unfold tile extractStridedSlice
  have h0 : (x 0).val < 256 := (x 0).isLt
  have h1 : (x 1).val < 128 := (x 1).isLt
  have e0 : ((every k inb).emb x 0).val = k + 8 * (x 0).val := rfl
  have e1 : ((every k inb).emb x 1).val = 0 + 1 * (x 1).val := rfl
  refine congrArg Y (funext fun a => Fin.ext ?_)
  match a with
  | ⟨0, _⟩ => show 0 + (x 0).val = _ / 8; rw [e0]; omega
  | ⟨1, _⟩ => show o + (x 1).val = _ % 8 * 128 + _; rw [e0, e1]; omega

/-- The eight stores of a block's result. -/
def stores (Y : FVec F S256x1024 .f32) : List (View.Piece (Elt F) S2048x128 .f32) :=
  [⟨every 7 inb_S2048x128_S256x128_7_0_s_8_1, extractStridedSlice S256x128 ![0, 896] Y slices_S256x1024_o0_896_S256x128⟩,
   ⟨every 6 inb_S2048x128_S256x128_6_0_s_8_1, extractStridedSlice S256x128 ![0, 768] Y slices_S256x1024_o0_768_S256x128⟩,
   ⟨every 5 inb_S2048x128_S256x128_5_0_s_8_1, extractStridedSlice S256x128 ![0, 640] Y slices_S256x1024_o0_640_S256x128⟩,
   ⟨every 4 inb_S2048x128_S256x128_4_0_s_8_1, extractStridedSlice S256x128 ![0, 512] Y slices_S256x1024_o0_512_S256x128⟩,
   ⟨every 3 inb_S2048x128_S256x128_3_0_s_8_1, extractStridedSlice S256x128 ![0, 384] Y slices_S256x1024_o0_384_S256x128⟩,
   ⟨every 2 inb_S2048x128_S256x128_2_0_s_8_1, extractStridedSlice S256x128 ![0, 256] Y slices_S256x1024_o0_256_S256x128⟩,
   ⟨every 1 inb_S2048x128_S256x128_1_0_s_8_1, extractStridedSlice S256x128 ![0, 128] Y slices_S256x1024_o0_128_S256x128⟩,
   ⟨every 0 inb_S2048x128_S256x128_0_0_s_8_1, extractStridedSlice S256x128 ![0, 0] Y slices_S256x1024_o0_0_S256x128⟩]

/-- A row whose remainder by eight is `k` lies in the rectangle of `k`. -/
theorem mem_every (k : ℕ) (inb) (y : S2048x128.Idx) (h : (y 0).val % 8 = k) : y ∈ (every k inb).set := by
  rw [LoadRect.mem_set]
  have h0 : (y 0).val < 2048 := (y 0).isLt
  have h1 : (y 1).val < 128 := (y 1).isLt
  intro a
  match a with
  | ⟨0, _⟩ => exact ⟨(y 0).val / 8, show _ < 256 by omega, show (y 0).val = k + 8 * _ by omega⟩
  | ⟨1, _⟩ => exact ⟨(y 1).val, h1, show (y 1).val = 0 + 1 * _ by omega⟩

/-- Through any buffer, the eight stores leave the block laid out. -/
theorem stores_read (v : View sig .tc .vmem S2048x128 .f32) (f : v.ty.Contents (Elt F)) (Y : FVec F S256x1024 .f32) :
    v.read (Elt F) (v.writes (Elt F) f (stores Y)) = tile Y := by
  funext y
  refine View.read_writes_apply_of_pieces v f (tile Y) (stores Y) ?_ y ?_
  · intro p hp x
    simp only [stores, List.mem_cons, List.not_mem_nil, or_false] at hp
    rcases hp with rfl | rfl | rfl | rfl | rfl | rfl | rfl | rfl
    · exact cut_eq 7 (by decide) _ 896 rfl slices_S256x1024_o0_896_S256x128 Y x
    · exact cut_eq 6 (by decide) _ 768 rfl slices_S256x1024_o0_768_S256x128 Y x
    · exact cut_eq 5 (by decide) _ 640 rfl slices_S256x1024_o0_640_S256x128 Y x
    · exact cut_eq 4 (by decide) _ 512 rfl slices_S256x1024_o0_512_S256x128 Y x
    · exact cut_eq 3 (by decide) _ 384 rfl slices_S256x1024_o0_384_S256x128 Y x
    · exact cut_eq 2 (by decide) _ 256 rfl slices_S256x1024_o0_256_S256x128 Y x
    · exact cut_eq 1 (by decide) _ 128 rfl slices_S256x1024_o0_128_S256x128 Y x
    · exact cut_eq 0 (by decide) _ 0 rfl slices_S256x1024_o0_0_S256x128 Y x
  · have hk : (y 0).val % 8 < 8 := Nat.mod_lt _ (by decide)
    rcases (by omega : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0) with h | h | h | h | h | h | h | h
    · exact ⟨_, List.mem_cons_self, mem_every 7 _ y h⟩
    · exact ⟨_, .tail _ List.mem_cons_self, mem_every 6 _ y h⟩
    · exact ⟨_, .tail _ (.tail _ List.mem_cons_self), mem_every 5 _ y h⟩
    · exact ⟨_, .tail _ (.tail _ (.tail _ List.mem_cons_self)), mem_every 4 _ y h⟩
    · exact ⟨_, .tail _ (.tail _ (.tail _ (.tail _ List.mem_cons_self))), mem_every 3 _ y h⟩
    · exact ⟨_, .tail _ (.tail _ (.tail _ (.tail _ (.tail _ List.mem_cons_self)))), mem_every 2 _ y h⟩
    · exact ⟨_, .tail _ (.tail _ (.tail _ (.tail _ (.tail _ (.tail _ List.mem_cons_self))))), mem_every 1 _ y h⟩
    · exact ⟨_, .tail _ (.tail _ (.tail _ (.tail _ (.tail _ (.tail _ (.tail _ List.mem_cons_self)))))), mem_every 0 _ y h⟩

/-- A strided load of a block is its slab. -/
theorem load_slab (v : View sig .tc .vmem S2048x128 .f32) (x : S2048x128.Idx → Elt F .f32) (k : Fin 8) (n : ℕ) (hn : n = k.val) (inb) :
    v.readAt (Elt F) (⟨![n, 0], S256x128.size, ![8, 1], inb⟩ : LoadRect S2048x128) (v.rep x) = slab x k := by
  rw [View.readAt_rep]
  subst hn
  funext y
  exact congrArg x (funext fun a => Fin.ext (by
    match a with
    | ⟨0, _⟩ => rfl
    | ⟨1, _⟩ => show 0 + 1 * (y 1).val = (y 1).val; omega))

/-- A load of a whole block through a buffer that holds it. -/
theorem load_full {s : Shape} {e : EltTy} {sp : Space} (v : View sig .tc sp s e) (x : s.Idx → Elt F e) {off : Fin s.rank → ℕ}
    (inb : ∀ a, off a + s.size a ≤ s.size a) : v.readAt (Elt F) (Rect.unit off s.size inb).toLoadRect (v.rep x) = x := by
  rw [View.readAt_rep]
  exact funext fun y => congrArg x (funext fun a => Fin.ext (by
    show off a + 1 * (y a).val = (y a).val
    have := inb a; omega))

section
variable (c : Dev nD) (i : grid0.Coords)
  (arg3 : Memref sig .tc .vmem S2048x128 .f32) (harg3 : arg3.IsWhole)
  (arg4 : Memref sig .tc .vmem S1x1x1024x512 .f32) (harg4 : arg4.IsWhole)
  (arg5 : Memref sig .tc .vmem S1x1x1024x512 .f32) (harg5 : arg5.IsWhole)
  (arg6 : Memref sig .tc .vmem S1x1x512x1024 .f32) (harg6 : arg6.IsWhole)
  (arg7 : Memref sig .tc .vmem S2048x128 .f32) (harg7 : arg7.IsWhole)
  (T0 : S448.Idx → Elt F .i32) (T1 : S1.Idx → Elt F .i32)
  (x0 : S2048x128.Idx → Elt F .f32) (x1 x2 : S1x1x1024x512.Idx → Elt F .f32) (x3 : S1x1x512x1024.Idx → Elt F .f32)
  (g u : S1024x512.Idx → Elt F .bf16) (d : S512x1024.Idx → Elt F .bf16)

/-- The row loads of a block, as the kernel makes them, give the block's result. -/
abbrev rowsLoaded (g u : FVec F S1024x512 .bf16) (d : FVec F S512x1024 .bf16) : FVec F S256x1024 .f32 :=
  k0_pay11
    (arg3.view.readAt (Elt F) (⟨![0, 0], S256x128.size, ![8, 1], inb_S2048x128_S256x128_0_0_s_8_1⟩ : LoadRect S2048x128) (arg3.view.rep x0))
    (arg3.view.readAt (Elt F) (⟨![1, 0], S256x128.size, ![8, 1], inb_S2048x128_S256x128_1_0_s_8_1⟩ : LoadRect S2048x128) (arg3.view.rep x0))
    (arg3.view.readAt (Elt F) (⟨![2, 0], S256x128.size, ![8, 1], inb_S2048x128_S256x128_2_0_s_8_1⟩ : LoadRect S2048x128) (arg3.view.rep x0))
    (arg3.view.readAt (Elt F) (⟨![3, 0], S256x128.size, ![8, 1], inb_S2048x128_S256x128_3_0_s_8_1⟩ : LoadRect S2048x128) (arg3.view.rep x0))
    (arg3.view.readAt (Elt F) (⟨![4, 0], S256x128.size, ![8, 1], inb_S2048x128_S256x128_4_0_s_8_1⟩ : LoadRect S2048x128) (arg3.view.rep x0))
    (arg3.view.readAt (Elt F) (⟨![5, 0], S256x128.size, ![8, 1], inb_S2048x128_S256x128_5_0_s_8_1⟩ : LoadRect S2048x128) (arg3.view.rep x0))
    (arg3.view.readAt (Elt F) (⟨![6, 0], S256x128.size, ![8, 1], inb_S2048x128_S256x128_6_0_s_8_1⟩ : LoadRect S2048x128) (arg3.view.rep x0))
    (arg3.view.readAt (Elt F) (⟨![7, 0], S256x128.size, ![8, 1], inb_S2048x128_S256x128_7_0_s_8_1⟩ : LoadRect S2048x128) (arg3.view.rep x0))
    g u d

theorem rowsLoaded_eq (g u : FVec F S1024x512 .bf16) (d : FVec F S512x1024 .bf16) : rowsLoaded arg3 x0 g u d = rows x0 g u d := by
  unfold rowsLoaded rows
  rw [load_slab _ _ 0 0 rfl, load_slab _ _ 1 1 rfl, load_slab _ _ 2 2 rfl, load_slab _ _ 3 3 rfl, load_slab _ _ 4 4 rfl, load_slab _ _ 5 5 rfl,
    load_slab _ _ 6 6 rfl, load_slab _ _ 7 7 rfl]

theorem tile_congr (x : S2048x128.Idx → Elt F .f32) {g g' u u' : FVec F S1024x512 .bf16} {d d' : FVec F S512x1024 .bf16} (hg : g = g') (hu : u = u') (hd : d = d') :
    tile (rows x g u d) = tile (rows x g' u' d') := by rw [hg, hu, hd]

theorem zero2 : (![0, 0] : Fin 2 → ℕ) = fun _ => 0 := funext fun a => match a with | ⟨0, _⟩ => rfl | ⟨1, _⟩ => rfl

theorem same_list (hc h2 h3) :
    (runSame c i arg3 harg3 arg4 harg4 arg5 harg5 arg6 harg6 arg7 harg7 T0 T1 x0 x1 x2 x3 g u d hc h2 h3).1
      = stores (rowsLoaded arg3 x0
          (View.readAt (Elt F) scG.view (Rect.unit (s := S1024x512) ![0, 0] S1024x512.size inb_S1024x512_S1024x512_0_0).toLoadRect g)
          (View.readAt (Elt F) scU.view (Rect.unit (s := S1024x512) ![0, 0] S1024x512.size inb_S1024x512_S1024x512_0_0).toLoadRect u)
          (View.readAt (Elt F) scD.view (Rect.unit (s := S512x1024) ![0, 0] S512x1024.size inb_S512x1024_S512x1024_0_0).toLoadRect d)) := rfl

/-- A used step of the expert before leaves the block's result from the carried buffers. -/
theorem same_read (hc h2 h3) (f) :
    arg7.view.read (Elt F) (arg7.view.writes (Elt F) f
      (runSame c i arg3 harg3 arg4 harg4 arg5 harg5 arg6 harg6 arg7 harg7 T0 T1 x0 x1 x2 x3 g u d hc h2 h3).1) = tile (rows x0 g u d) := by
  rw [same_list, stores_read, rowsLoaded_eq]
  have hg := Memref.readAt_unit_zero (Elt F) cc0_scratch0 zero2 inb_S1024x512_S1024x512_0_0 g
  have hu := Memref.readAt_unit_zero (Elt F) cc0_scratch1 zero2 inb_S1024x512_S1024x512_0_0 u
  have hd := Memref.readAt_unit_zero (Elt F) cc0_scratch2 zero2 inb_S512x1024_S512x1024_0_0 d
  exact tile_congr x0 hg hu hd

theorem new_list (hc h2 h3) :
    (runNew c i arg3 harg3 arg4 harg4 arg5 harg5 arg6 harg6 arg7 harg7 T0 T1 x0 x1 x2 x3 g u d hc h2 h3).1
      = stores (rowsLoaded arg3 x0 (runNew.sl.v29 arg4 x1) (runNew.sl.v31 arg5 x2) (runNew.sl.v43 arg6 x3)) := rfl

/-- What the loads of an expert's weights leave in the carried buffers. -/
theorem loadedG : runNew.sl.v29 arg4 x1 = k0_pay1 x1 := by
  unfold runNew.sl.v29
  exact (View.readCov_cons_toLoadRect scG.view _ _ _).trans (congrArg k0_pay1 (load_full arg4.view x1 _))
theorem loadedU : runNew.sl.v31 arg5 x2 = k0_pay2 x2 := by
  unfold runNew.sl.v31
  exact (View.readCov_cons_toLoadRect scU.view _ _ _).trans (congrArg k0_pay2 (load_full arg5.view x2 _))
theorem loadedD : runNew.sl.v43 arg6 x3 = k0_pay3 x3 := by
  unfold runNew.sl.v43
  exact (View.readCov_cons_toLoadRect scD.view _ _ _).trans (congrArg k0_pay3 (load_full arg6.view x3 _))

/-- A used step of a new expert leaves the block's result from this expert's weights, -/
theorem new_read (hc h2 h3) (f) :
    arg7.view.read (Elt F) (arg7.view.writes (Elt F) f
      (runNew c i arg3 harg3 arg4 harg4 arg5 harg5 arg6 harg6 arg7 harg7 T0 T1 x0 x1 x2 x3 g u d hc h2 h3).1)
      = tile (rows x0 (k0_pay1 x1) (k0_pay2 x2) (k0_pay3 x3)) := by
  rw [new_list, stores_read, rowsLoaded_eq, loadedG, loadedU, loadedD]

/-- and these weights in the carried buffers. -/
theorem new_g (hc h2 h3) :
    (runNew c i arg3 harg3 arg4 harg4 arg5 harg5 arg6 harg6 arg7 harg7 T0 T1 x0 x1 x2 x3 g u d hc h2 h3).2.1 = k0_pay1 x1 := by
  refine Eq.trans (b := k0_pay1 (View.readAt (Elt F) arg4.view (Rect.unit (s := S1x1x1024x512) ![0, 0, 0, 0] S1x1x1024x512.size
    inb_S1x1x1024x512_S1x1x1024x512_0_0_0_0).toLoadRect (arg4.view.rep x1))) ?_ (congrArg k0_pay1 (load_full arg4.view x1 _))
  exact Memref.write_access_unit_zero_univ (Elt F) cc0_scratch0 zero2 inb_S1024x512_S1024x512_0_0 _ _
theorem new_u (hc h2 h3) :
    (runNew c i arg3 harg3 arg4 harg4 arg5 harg5 arg6 harg6 arg7 harg7 T0 T1 x0 x1 x2 x3 g u d hc h2 h3).2.2.1 = k0_pay2 x2 := by
  refine Eq.trans (b := k0_pay2 (View.readAt (Elt F) arg5.view (Rect.unit (s := S1x1x1024x512) ![0, 0, 0, 0] S1x1x1024x512.size
    inb_S1x1x1024x512_S1x1x1024x512_0_0_0_0).toLoadRect (arg5.view.rep x2))) ?_ (congrArg k0_pay2 (load_full arg5.view x2 _))
  exact Memref.write_access_unit_zero_univ (Elt F) cc0_scratch1 zero2 inb_S1024x512_S1024x512_0_0 _ _
set_option maxHeartbeats 4000000 in
theorem new_d (hc h2 h3) :
    (runNew c i arg3 harg3 arg4 harg4 arg5 harg5 arg6 harg6 arg7 harg7 T0 T1 x0 x1 x2 x3 g u d hc h2 h3).2.2.2.1 = k0_pay3 x3 := by
  refine Eq.trans (b := k0_pay3 (View.readAt (Elt F) arg6.view (Rect.unit (s := S1x1x512x1024) ![0, 0, 0, 0] S1x1x512x1024.size
    inb_S1x1x512x1024_S1x1x512x1024_0_0_0_0).toLoadRect (arg6.view.rep x3))) ?_ (congrArg k0_pay3 (load_full arg6.view x3 _))
  exact Memref.write_access_unit_zero_univ (Elt F) cc0_scratch2 zero2 inb_S512x1024_S512x1024_0_0 _ _

theorem idle_list (hc h2 h3) :
    (runIdle c i arg3 harg3 arg4 harg4 arg5 harg5 arg6 harg6 arg7 harg7 T0 T1 x0 x1 x2 x3 g u d hc h2 h3).1
      = [⟨Rect.unit (s := S2048x128) ![0, 0] S2048x128.size inb_S2048x128_S2048x128_0_0, (k0_pay10 (F := F))⟩] := rfl

/-- One store of the whole block leaves what it stores. -/
theorem one_read (v : View sig .tc .vmem S2048x128 .f32) (f : v.ty.Contents (Elt F)) (Y : FVec F S2048x128 .f32) (z : Elt F .f32) (hY : ∀ x, Y x = z) :
    v.read (Elt F) (v.writes (Elt F) f [⟨Rect.unit (s := S2048x128) ![0, 0] S2048x128.size inb_S2048x128_S2048x128_0_0, Y⟩]) = fun _ => z := by
  funext y
  refine View.read_writes_apply_of_pieces v f (fun _ => z) _ ?_ y ?_
  · intro p hp x
    obtain rfl := List.mem_singleton.mp hp
    exact hY x
  · refine ⟨_, List.mem_singleton.mpr rfl, ?_⟩
    rw [LoadRect.mem_set]
    intro a
    match a with
    | ⟨0, _⟩ => exact ⟨(y 0).val, (y 0).isLt, show (y 0).val = 0 + 1 * (y 0).val by omega⟩
    | ⟨1, _⟩ => exact ⟨(y 1).val, (y 1).isLt, show (y 1).val = 0 + 1 * (y 1).val by omega⟩

/-- A step past the used blocks leaves zeros. -/
theorem idle_read (hc h2 h3) (f) :
    arg7.view.read (Elt F) (arg7.view.writes (Elt F) f
      (runIdle c i arg3 harg3 arg4 harg4 arg5 harg5 arg6 harg6 arg7 harg7 T0 T1 x0 x1 x2 x3 g u d hc h2 h3).1) = fun _ => Scalar.ofBits .f32 0x00000000#32 := by
  rw [idle_list]
  exact one_read _ _ _ _ fun _ => rfl

end

end Cert.Experts3

end
-- ==== Proof.ExpertsTable.lean ====
/- The words of the two tables, the pipeline at tables whose experts lie in range, and each window's block at a point. -/
module

public import proofs.«01_k».proof.Proof.ExpertsStep
public import Idealize.ShloMosaic.Lib.Pipeline.Quiescent
public import Idealize.ShloMosaic.Lib.Pipeline.Kit
public import Idealize.ShloMosaic.Lib.Pipeline.TableIdle
public import Idealize.ShloMosaic.Lib.Affine
public import Idealize.ShloMosaic.Adequacy
public import Idealize.ShloMosaic.Init

@[expose] public section

set_option maxRecDepth 16384
set_option Elab.async false

noncomputable section

namespace Cert.Experts3

open Cert.ExpertsIdeal Cert.ExpertsIdeal.Gen
open Idealize.ShloMosaic Idealize.ShloMosaic.TcCoe
open Idealize.ShloMosaic.Pipeline (Dat Cfg Window)

variable {F : FTy → Type} [FloatOps F]

/-! ## The kernel's decisions -/

theorem bit_ne : ∀ b : BitVec 1, (Scalar.cmpi .ne (Scalar.extui b) 0#32 : BitVec 1) = 1#1 ↔ b = 1#1 := by decide
theorem bit_not : ∀ b : BitVec 1, (Scalar.cmpi .ne (Scalar.extui (Scalar.xori b 1#1)) 0#32 : BitVec 1) = 1#1 ↔ ¬ b = 1#1 := by decide
theorem bit_and : ∀ b o : BitVec 1, (Scalar.cmpi .ne (Scalar.extui (Scalar.andi b o)) 0#32 : BitVec 1) = 1#1 ↔ b = 1#1 ∧ o = 1#1 := by decide
theorem bit_or : ∀ a b : BitVec 1, (Scalar.ori a b : BitVec 1) = 1#1 ↔ a = 1#1 ∨ b = 1#1 := by decide
theorem bit_bool : ∀ b : Bool, BitVec.ofBool b = 1#1 ↔ b = true := by decide

/-- A step is used when its point lies below the number of used blocks; else the third condition holds. -/
theorem cond3_iff (i : grid0.Coords) (n : BitVec 32) : k0_cond3 i n = 1#1 ↔ ¬ k0_cond2 i n = 1#1 := by
  unfold k0_cond3 k0_cond2
  exact (bit_not _).trans (not_congr (bit_ne _).symm)

theorem cond2_iff (i : grid0.Coords) (n : BitVec 32) : k0_cond2 i n = 1#1 ↔ ((i 0).val : ℤ) < n.toInt := by
  unfold k0_cond2
  refine (bit_ne _).trans ?_
  have hi : (i 0).val < 448 := (i 0).isLt
  refine (bit_bool _).trans ?_
  show (BitVec.ofNat 32 (i 0).val).slt n = true ↔ _
  have hv : (BitVec.ofNat 32 (i 0).val).toNat = (i 0).val := by rw [BitVec.toNat_ofNat]; omega
  rw [BitVec.slt_iff_toInt_lt, BitVec.toInt_eq_toNat_of_lt (by rw [hv]; omega), hv]

theorem loads_used (i : grid0.Coords) (n e p : BitVec 32) (h : loads i n e p = 1#1) : k0_cond2 i n = 1#1 := by
  unfold k0_cond2
  exact (bit_ne _).mpr ((bit_and _ _).mp h).1

/-- A used step that does not load is not the first, and its expert is the one of the step before. -/
theorem not_loads (i : grid0.Coords) (n e p : BitVec 32) (h2 : k0_cond2 i n = 1#1) (h : ¬ loads i n e p = 1#1) : (i 0).val ≠ 0 ∧ e = p := by
  have hb := (bit_ne _).mp (show (Scalar.cmpi .ne (Scalar.extui (Scalar.cmpi .slt (BitVec.ofNat 32 (i 0).val) n)) 0#32 : BitVec 1) = 1#1 from h2)
  have ho : ¬ _ := fun ho => h ((bit_and _ _).mpr ⟨hb, ho⟩)
  rw [bit_or] at ho
  constructor
  · intro h0
    exact ho (.inl (by rw [h0]; rfl))
  · by_contra he
    refine ho (.inr ((bit_bool _).mpr ?_))
    show (e != p) = true
    simpa using he

/-! ## The tables -/

theorem crd_val : ∀ t : Fin grid0.N, (grid0.coords t 0).val = t.val := by decide +kernel

theorem off_before : ∀ s : Fin 447, k0_off2 (grid0.coords ⟨s.val + 1, by have := s.isLt; show _ < 448; omega⟩) = k0_off1 (grid0.coords ⟨s.val, by have := s.isLt; show _ < 448; omega⟩) := by
  decide +kernel

/-- An expert's word at a point, as an entry of the table. -/
theorem wE_eq (i : grid0.Coords) (T0 : S448.Idx → Elt F .i32) : wE i T0 = T0 (ix1 ⟨(i 0).val, (i 0).isLt⟩) := by
  have hi : (i 0).val < 448 := (i 0).isLt
  refine congrArg T0 (funext fun a => Fin.ext ?_)
  match a with
  | ⟨0, _⟩ =>
    show (BitVec.ofNat 32 (i 0).val).toNat + 1 * 0 = (i 0).val
    rw [BitVec.toNat_ofNat]; omega

theorem wN_eq (T1 : S1.Idx → Elt F .i32) : wN T1 = T1 (ix1 0) :=
  congrArg T1 (funext fun a => Fin.ext (match a with | ⟨0, _⟩ => rfl))

theorem wP_eq (T0 : S448.Idx → Elt F .i32) (s t : Fin grid0.N) (h : s.val + 1 = t.val) : wP (grid0.coords t) T0 = wE (grid0.coords s) T0 := by
  obtain ⟨s, hs⟩ := s
  obtain ⟨t, ht⟩ := t
  obtain rfl : s + 1 = t := h
  have ho := off_before ⟨s, by have : s + 1 < 448 := ht; omega⟩
  refine congrArg T0 (funext fun a => Fin.ext ?_)
  match a with
  | ⟨0, _⟩ =>
    show k0_off2 (grid0.coords ⟨s + 1, ht⟩) 0 + 1 * 0 = k0_off1 (grid0.coords ⟨s, hs⟩) 0 + 1 * 0
    rw [congrFun ho 0]

/-- The experts' table in range. -/
def InRange (T0 : S448.Idx → Elt F .i32) : Prop := ∀ i, BitVec.toNat (T0 i) < 64

set_option backward.proofsInPublic true in
/-- The two tables as the launch takes them. -/
def pfT (T0 : S448.Idx → Elt F .i32) (T1 : S1.Idx → Elt F .i32) : pre0.Contents (Elt F) := fun
  | ⟨0, _⟩ => T0
  | ⟨1, _⟩ => T1
  | ⟨_ + 2, h⟩ => absurd h (by simp)

section
variable (T0 : S448.Idx → Elt F .i32) (T1 : S1.Idx → Elt F .i32)

theorem map1 (i : grid0.Coords) : cc0_transform_1 k0_off1_inb numel1_S1 (pfT T0 T1) i = ![0, BitVec.toNat (wE i T0), 0, 0] := rfl
theorem map2 (i : grid0.Coords) : cc0_transform_2 k0_off1_inb numel1_S1 (pfT T0 T1) i = ![0, BitVec.toNat (wE i T0), 0, 0] := rfl
theorem map3 (i : grid0.Coords) : cc0_transform_3 k0_off1_inb numel1_S1 (pfT T0 T1) i = ![0, BitVec.toNat (wE i T0), 0, 0] := rfl

variable (h : InRange T0)

include h in
/-- With the experts in range, every block lies inside its array. -/
theorem okT : ok0 (pfT T0 T1) := by
  refine ⟨fun i => ⟨fun a => ?_, .inl rfl⟩, fun i => ⟨fun a => ?_, .inl rfl⟩, fun i => ⟨fun a => ?_, .inl rfl⟩⟩
  · rw [map1, wE_eq]
    have := h (ix1 ⟨(i 0).val, (i 0).isLt⟩)
    match a with
    | ⟨0, _⟩ => show (0 + 1) * 1 ≤ 2; decide
    | ⟨1, _⟩ => show (BitVec.toNat _ + 1) * 1 ≤ 64; omega
    | ⟨2, _⟩ => show (0 + 1) * 1024 ≤ 1024; decide
    | ⟨3, _⟩ => show (0 + 1) * 512 ≤ 512; decide
  · rw [map2, wE_eq]
    have := h (ix1 ⟨(i 0).val, (i 0).isLt⟩)
    match a with
    | ⟨0, _⟩ => show (0 + 1) * 1 ≤ 2; decide
    | ⟨1, _⟩ => show (BitVec.toNat _ + 1) * 1 ≤ 64; omega
    | ⟨2, _⟩ => show (0 + 1) * 1024 ≤ 1024; decide
    | ⟨3, _⟩ => show (0 + 1) * 512 ≤ 512; decide
  · rw [map3, wE_eq]
    have := h (ix1 ⟨(i 0).val, (i 0).isLt⟩)
    match a with
    | ⟨0, _⟩ => show (0 + 1) * 1 ≤ 2; decide
    | ⟨1, _⟩ => show (BitVec.toNat _ + 1) * 1 ≤ 64; omega
    | ⟨2, _⟩ => show (0 + 1) * 512 ≤ 512; decide
    | ⟨3, _⟩ => show (0 + 1) * 1024 ≤ 1024; decide

/-- The pipeline at these tables. -/
def adm : (pcfg0 (F := F)).Adm := ⟨pfT T0 T1, okT T0 T1 h⟩
abbrev cfgA : Pipeline.Cfg sig Λ₀ := cfg0 (F := F) (adm T0 T1 h)
abbrev pcs : Fin 1 → Pipeline.Cfg sig Λ₀ := Pipeline.pin (pcfgs (F := F)) fun _ => adm T0 T1 h

variable (m : (ℓ : Loc nD τ sig) → Buf (Elt F) ℓ) (ρ : Dev nD → PrngReg)

/-- A point's coordinates. -/
abbrev crd (t : Fin (cfgA T0 T1 h).N) : grid0.Coords := (cfgA T0 T1 h).grid.coords t

/-- The windows' buffers at a point. -/
abbrev ms0 (t : Fin (cfgA T0 T1 h).N) : Memref sig .tc .vmem S2048x128 .f32 := spec0_0.stage ((cfgA T0 T1 h).slots t (0 : Fin 5))
abbrev hs0 (t : Fin (cfgA T0 T1 h).N) : (ms0 T0 T1 h t).IsWhole := hstage0_0 (((cfgA T0 T1 h).slots t (0 : Fin 5)).cast nbuf0_0)
abbrev ms1 (t : Fin (cfgA T0 T1 h).N) : Memref sig .tc .vmem S1x1x1024x512 .f32 := spec0_1.stage ((cfgA T0 T1 h).slots t (1 : Fin 5))
abbrev hs1 (t : Fin (cfgA T0 T1 h).N) : (ms1 T0 T1 h t).IsWhole := hstage0_1 (((cfgA T0 T1 h).slots t (1 : Fin 5)).cast nbuf0_1)
abbrev ms2 (t : Fin (cfgA T0 T1 h).N) : Memref sig .tc .vmem S1x1x1024x512 .f32 := spec0_2.stage ((cfgA T0 T1 h).slots t (2 : Fin 5))
abbrev hs2 (t : Fin (cfgA T0 T1 h).N) : (ms2 T0 T1 h t).IsWhole := hstage0_2 (((cfgA T0 T1 h).slots t (2 : Fin 5)).cast nbuf0_2)
abbrev ms3 (t : Fin (cfgA T0 T1 h).N) : Memref sig .tc .vmem S1x1x512x1024 .f32 := spec0_3.stage ((cfgA T0 T1 h).slots t (3 : Fin 5))
abbrev hs3 (t : Fin (cfgA T0 T1 h).N) : (ms3 T0 T1 h t).IsWhole := hstage0_3 (((cfgA T0 T1 h).slots t (3 : Fin 5)).cast nbuf0_3)
abbrev ms4 (t : Fin (cfgA T0 T1 h).N) : Memref sig .tc .vmem S2048x128 .f32 := spec0_4.stage ((cfgA T0 T1 h).slots t (4 : Fin 5))
abbrev hs4 (t : Fin (cfgA T0 T1 h).N) : (ms4 T0 T1 h t).IsWhole := hstage0_4 (((cfgA T0 T1 h).slots t (4 : Fin 5)).cast nbuf0_4)

/-- A window's block at a point, read off its array at launch. -/
def iblk (c : Dev nD) (w : Fin (cfgA T0 T1 h).W) (t : Fin (cfgA T0 T1 h).N) :
    (((cfgA T0 T1 h).win w).xblock (crd T0 T1 h t)).Idx → Elt F ((cfgA T0 T1 h).win w).elt :=
  (((cfgA T0 T1 h).win w).blk t).view.read (Elt F) ((s₀ m ρ).mem (((cfgA T0 T1 h).win w).arr.view.loc (c : Thread nD τ)))

/-- The tokens' block at a point: 2048 rows from row `2048 t`. -/
theorem blk0 (c : Dev nD) (t : Fin (cfgA T0 T1 h).N) (y : S2048x128.Idx) : iblk T0 T1 h m ρ c (0 : Fin 5) t y
    = m ((c : Thread nD τ).loc main_arg2) (ix2 (n0 := 917504) (n1 := 128)
        ⟨t.val * 2048 + (y 0).val, by have h0 : (y 0).val < 2048 := (y 0).isLt; have h1 : t.val < 448 := t.isLt; omega⟩ ⟨(y 1).val, (y 1).isLt⟩) := by
  have ht : t.val < 448 := t.isLt
  refine congrArg (m ((c : Thread nD τ).loc main_arg2)) (funext fun a => Fin.ext ?_)
  match a with
  | ⟨0, _⟩ =>
    show (BitVec.ofNat 32 (crd T0 T1 h t 0).val).toNat * 2048 + 1 * (y 0).val = t.val * 2048 + (y 0).val
    rw [crd_val t, BitVec.toNat_ofNat]; omega
  | ⟨1, _⟩ => show 0 * 128 + 1 * (y 1).val = (y 1).val; omega

/-- The weights' blocks at a point: the first layer's, of the point's expert. -/
theorem blk1 (c : Dev nD) (t : Fin (cfgA T0 T1 h).N) (y : S1x1x1024x512.Idx) : iblk T0 T1 h m ρ c (1 : Fin 5) t y
    = m ((c : Thread nD τ).loc main_arg3) (ix4 (n0 := 2) (n1 := 64) (n2 := 1024) (n3 := 512) 0
        ⟨BitVec.toNat (wE (crd T0 T1 h t) T0), by rw [wE_eq]; exact h _⟩ ⟨(y 2).val, (y 2).isLt⟩ ⟨(y 3).val, (y 3).isLt⟩) := by
  have h0 : (y 0).val < 1 := (y 0).isLt
  have h1 : (y 1).val < 1 := (y 1).isLt
  refine congrArg (m ((c : Thread nD τ).loc main_arg3)) (funext fun a => Fin.ext ?_)
  match a with
  | ⟨0, _⟩ => show 0 * 1 + 1 * (y 0).val = 0; omega
  | ⟨1, _⟩ => show BitVec.toNat (wE (crd T0 T1 h t) T0) * 1 + 1 * (y 1).val = BitVec.toNat (wE (crd T0 T1 h t) T0); omega
  | ⟨2, _⟩ => show 0 * 1024 + 1 * (y 2).val = (y 2).val; omega
  | ⟨3, _⟩ => show 0 * 512 + 1 * (y 3).val = (y 3).val; omega
theorem blk2 (c : Dev nD) (t : Fin (cfgA T0 T1 h).N) (y : S1x1x1024x512.Idx) : iblk T0 T1 h m ρ c (2 : Fin 5) t y
    = m ((c : Thread nD τ).loc main_arg4) (ix4 (n0 := 2) (n1 := 64) (n2 := 1024) (n3 := 512) 0
        ⟨BitVec.toNat (wE (crd T0 T1 h t) T0), by rw [wE_eq]; exact h _⟩ ⟨(y 2).val, (y 2).isLt⟩ ⟨(y 3).val, (y 3).isLt⟩) := by
  have h0 : (y 0).val < 1 := (y 0).isLt
  have h1 : (y 1).val < 1 := (y 1).isLt
  refine congrArg (m ((c : Thread nD τ).loc main_arg4)) (funext fun a => Fin.ext ?_)
  match a with
  | ⟨0, _⟩ => show 0 * 1 + 1 * (y 0).val = 0; omega
  | ⟨1, _⟩ => show BitVec.toNat (wE (crd T0 T1 h t) T0) * 1 + 1 * (y 1).val = BitVec.toNat (wE (crd T0 T1 h t) T0); omega
  | ⟨2, _⟩ => show 0 * 1024 + 1 * (y 2).val = (y 2).val; omega
  | ⟨3, _⟩ => show 0 * 512 + 1 * (y 3).val = (y 3).val; omega
theorem blk3 (c : Dev nD) (t : Fin (cfgA T0 T1 h).N) (y : S1x1x512x1024.Idx) : iblk T0 T1 h m ρ c (3 : Fin 5) t y
    = m ((c : Thread nD τ).loc main_arg5) (ix4 (n0 := 2) (n1 := 64) (n2 := 512) (n3 := 1024) 0
        ⟨BitVec.toNat (wE (crd T0 T1 h t) T0), by rw [wE_eq]; exact h _⟩ ⟨(y 2).val, (y 2).isLt⟩ ⟨(y 3).val, (y 3).isLt⟩) := by
  have h0 : (y 0).val < 1 := (y 0).isLt
  have h1 : (y 1).val < 1 := (y 1).isLt
  refine congrArg (m ((c : Thread nD τ).loc main_arg5)) (funext fun a => Fin.ext ?_)
  match a with
  | ⟨0, _⟩ => show 0 * 1 + 1 * (y 0).val = 0; omega
  | ⟨1, _⟩ => show BitVec.toNat (wE (crd T0 T1 h t) T0) * 1 + 1 * (y 1).val = BitVec.toNat (wE (crd T0 T1 h t) T0); omega
  | ⟨2, _⟩ => show 0 * 512 + 1 * (y 2).val = (y 2).val; omega
  | ⟨3, _⟩ => show 0 * 1024 + 1 * (y 3).val = (y 3).val; omega

/-- Two points of the same expert have the same weights. -/
theorem same_blocks (c : Dev nD) (s t : Fin (cfgA T0 T1 h).N) (e : wE (crd T0 T1 h s) T0 = wE (crd T0 T1 h t) T0) :
    (iblk T0 T1 h m ρ c (1 : Fin 5) s : S1x1x1024x512.Idx → Elt F .f32) = iblk T0 T1 h m ρ c (1 : Fin 5) t
    ∧ (iblk T0 T1 h m ρ c (2 : Fin 5) s : S1x1x1024x512.Idx → Elt F .f32) = iblk T0 T1 h m ρ c (2 : Fin 5) t
    ∧ (iblk T0 T1 h m ρ c (3 : Fin 5) s : S1x1x512x1024.Idx → Elt F .f32) = iblk T0 T1 h m ρ c (3 : Fin 5) t := by
  refine ⟨funext fun y => ?_, funext fun y => ?_, funext fun y => ?_⟩
  · rw [blk1, blk1]; congr 3; exact congrArg BitVec.toNat e
  · rw [blk2, blk2]; congr 3; exact congrArg BitVec.toNat e
  · rw [blk3, blk3]; congr 3; exact congrArg BitVec.toNat e

end

end Cert.Experts3

end
-- ==== Proof.ExpertsLaunch.lean ====
/- The experts' launch over any tables whose experts lie in range: one triple for a step, what is carried from step to
   step, and the run of the whole program. Over any float values `F`. -/
module

public import proofs.«01_k».proof.Proof.ExpertsTable

@[expose] public section

set_option maxRecDepth 16384
set_option Elab.async false

noncomputable section

namespace Cert.Experts3

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra, embedded whole. -/
abbrev EP : Emb (UR sig nD τ) 𝕄 := emb₁

open Classical in
/-- What a step leaves in its block: the block's result when it is used, else zeros. -/
def left (i : grid0.Coords) (T1 : S1.Idx → Elt F .i32) (x0 : S2048x128.Idx → Elt F .f32) (x1 x2 : S1x1x1024x512.Idx → Elt F .f32)
    (x3 : S1x1x512x1024.Idx → Elt F .f32) : S2048x128.Idx → Elt F .f32 :=
  if k0_cond2 i (wN T1) = 1#1 then tile (rows x0 (k0_pay1 x1) (k0_pay2 x2) (k0_pay3 x3)) else fun _ => Scalar.ofBits .f32 0x00000000#32

section
variable (c : Dev nD) (i : grid0.Coords)
  (arg3 : Memref sig .tc .vmem S2048x128 .f32) (harg3 : arg3.IsWhole)
  (arg4 : Memref sig .tc .vmem S1x1x1024x512 .f32) (harg4 : arg4.IsWhole)
  (arg5 : Memref sig .tc .vmem S1x1x1024x512 .f32) (harg5 : arg5.IsWhole)
  (arg6 : Memref sig .tc .vmem S1x1x512x1024 .f32) (harg6 : arg6.IsWhole)
  (arg7 : Memref sig .tc .vmem S2048x128 .f32) (harg7 : arg7.IsWhole)
  (T0 : S448.Idx → Elt F .i32) (T1 : S1.Idx → Elt F .i32)
  (x0 : S2048x128.Idx → Elt F .f32) (x1 x2 : S1x1x1024x512.Idx → Elt F .f32) (x3 : S1x1x512x1024.Idx → Elt F .f32)
  (g u : S1024x512.Idx → Elt F .bf16) (d : S512x1024.Idx → Elt F .bf16)

/-- ONE STEP, all three cases: if the carried buffers hold the expert's weights whenever the step is used and does not
    load them, then it leaves `left` in its block and, when used, the expert's weights in the carried buffers. -/
theorem step (hold : k0_cond2 i (wN T1) = 1#1 → ¬ loads i (wN T1) (wE i T0) (wP i T0) = 1#1 → g = k0_pay1 x1 ∧ u = k0_pay2 x2 ∧ d = k0_pay3 x3)
    (K : PUnit → sProp 𝕄) :
    iprop(inputs c arg3 arg4 arg5 arg6 T0 T1 x0 x1 x2 x3 ∗ (∃ d, owns (c : Thread nD τ) arg7 fullShare d) ∗ carried c g u d
      ∗ (iprop(inputs c arg3 arg4 arg5 arg6 T0 T1 x0 x1 x2 x3 ∗ owns (c : Thread nD τ) arg7 fullShare (left i T1 x0 x1 x2 x3)
          ∗ (∃ g' u' d', ⌜k0_cond2 i (wN T1) = 1#1 → g' = k0_pay1 x1 ∧ u' = k0_pay2 x2 ∧ d' = k0_pay3 x3⌝ ∗ carried c g' u' d')) -∗ K ⟨⟩))
      ⊢ wp frame (wpE (defs₀ (F := F)) Variants.none c none) Set.univ (body i arg3 harg3 arg4 harg4 arg5 harg5 arg6 harg6 arg7 harg7) K := by
  by_cases h2 : k0_cond2 i (wN T1) = 1#1
  · have h3 : ¬ k0_cond3 i (wN T1) = 1#1 := fun h3 => (cond3_iff i _).mp h3 h2
    by_cases hc : loads i (wN T1) (wE i T0) (wP i T0) = 1#1
    · have hr := fun f => new_read c i arg3 harg3 arg4 harg4 arg5 harg5 arg6 harg6 arg7 harg7 T0 T1 x0 x1 x2 x3 g u d hc h2 h3 f
      have hg := new_g c i arg3 harg3 arg4 harg4 arg5 harg5 arg6 harg6 arg7 harg7 T0 T1 x0 x1 x2 x3 g u d hc h2 h3
      have hu := new_u c i arg3 harg3 arg4 harg4 arg5 harg5 arg6 harg6 arg7 harg7 T0 T1 x0 x1 x2 x3 g u d hc h2 h3
      have hd := new_d c i arg3 harg3 arg4 harg4 arg5 harg5 arg6 harg6 arg7 harg7 T0 T1 x0 x1 x2 x3 g u d hc h2 h3
      revert hr hg hu hd
      obtain ⟨out, g', u', d', hrun⟩ := runNew c i arg3 harg3 arg4 harg4 arg5 harg5 arg6 harg6 arg7 harg7 T0 T1 x0 x1 x2 x3 g u d hc h2 h3
      intro hr hg hu hd
      iintro ⟨Hin, Ho, Hs, Hk⟩
      iapply (hrun K)
      isplitl [Hin]; · iexact Hin
      isplitl [Ho]; · iexact Ho
      isplitl [Hs]; · iexact Hs
      iintro ⟨Hin, ⟨%f, Ho⟩, Hs⟩
      iapply Hk
      isplitl [Hin]; · iexact Hin
      isplitl [Ho]
      · unfold owns; iexists _; isplitr; swap
        · iexact Ho
        · ipureintro; unfold left; rw [if_pos h2]; exact hr f
      iexists _, _, _; isplitr; swap
      · iexact Hs
      · ipureintro; exact fun _ => ⟨hg, hu, hd⟩
    · have hr := fun f => same_read c i arg3 harg3 arg4 harg4 arg5 harg5 arg6 harg6 arg7 harg7 T0 T1 x0 x1 x2 x3 g u d hc h2 h3 f
      revert hr
      obtain ⟨out, hrun⟩ := runSame c i arg3 harg3 arg4 harg4 arg5 harg5 arg6 harg6 arg7 harg7 T0 T1 x0 x1 x2 x3 g u d hc h2 h3
      intro hr
      obtain ⟨hg, hu, hd⟩ := hold h2 hc
      iintro ⟨Hin, Ho, Hs, Hk⟩
      iapply (hrun K)
      isplitl [Hin]; · iexact Hin
      isplitl [Ho]; · iexact Ho
      isplitl [Hs]; · iexact Hs
      iintro ⟨Hin, ⟨%f, Ho⟩, Hs⟩
      iapply Hk
      isplitl [Hin]; · iexact Hin
      isplitl [Ho]
      · unfold owns; iexists _; isplitr; swap
        · iexact Ho
        · ipureintro; unfold left; rw [if_pos h2, ← hg, ← hu, ← hd]; exact hr f
      iexists _, _, _; isplitr; swap
      · iexact Hs
      · ipureintro; exact fun _ => ⟨hg, hu, hd⟩
  · have h3 : k0_cond3 i (wN T1) = 1#1 := (cond3_iff i _).mpr h2
    have hc : ¬ loads i (wN T1) (wE i T0) (wP i T0) = 1#1 := fun hc => h2 (loads_used i _ _ _ hc)
    have hr := fun f => idle_read c i arg3 harg3 arg4 harg4 arg5 harg5 arg6 harg6 arg7 harg7 T0 T1 x0 x1 x2 x3 g u d hc h2 h3 f
    revert hr
    obtain ⟨out, hrun⟩ := runIdle c i arg3 harg3 arg4 harg4 arg5 harg5 arg6 harg6 arg7 harg7 T0 T1 x0 x1 x2 x3 g u d hc h2 h3
    intro hr
    iintro ⟨Hin, Ho, Hs, Hk⟩
    iapply (hrun K)
    isplitl [Hin]; · iexact Hin
    isplitl [Ho]; · iexact Ho
    isplitl [Hs]; · iexact Hs
    iintro ⟨Hin, ⟨%f, Ho⟩, Hs⟩
    iapply Hk
    isplitl [Hin]; · iexact Hin
    isplitl [Ho]
    · unfold owns; iexists _; isplitr; swap
      · iexact Ho
      · ipureintro; unfold left; rw [if_neg h2]; exact hr f
    iexists _, _, _; isplitr; swap
    · iexact Hs
    · ipureintro; exact fun h => absurd h h2

end

section
variable (T0 : S448.Idx → Elt F .i32) (T1 : S1.Idx → Elt F .i32) (h : InRange T0)
variable (m : (ℓ : Loc nD τ sig) → Buf (Elt F) ℓ) (ρ : Dev nD → PrngReg)

/-! ## What is carried from step to step -/

/-- Before point `t`, the carried buffers hold the weights of the point before's expert if that point was used; and the
    body's halves of the two tables. -/
def Phi (c : Dev nD) (t : Fin ((cfgA T0 T1 h).N + 1)) : sProp 𝕄 :=
  iprop((∃ g u d, ⌜∀ s : Fin (cfgA T0 T1 h).N, s.val + 1 = t.val → k0_cond2 (crd T0 T1 h s) (wN T1) = 1#1 →
        g = k0_pay1 (iblk T0 T1 h m ρ c (1 : Fin 5) s) ∧ u = k0_pay2 (iblk T0 T1 h m ρ c (2 : Fin 5) s) ∧ d = k0_pay3 (iblk T0 T1 h m ρ c (3 : Fin 5) s)⌝
      ∗ carried c g u d)
    ∗ (tbE.view.loc (c : Thread nD τ) ↦{fullShare.right} T0) ∗ (tbN.view.loc (c : Thread nD τ) ↦{fullShare.right} T1))

/-- The proof data of the one pipeline on core `c`. -/
def dats (_ : Fin 1) (c : Dev nD) : Dat τ (Elt F) Unit ℕ (UR sig nD τ) ℕ (cfgA T0 T1 h) c where
  A w := (s₀ m ρ).mem (((cfgA T0 T1 h).win w).arr.view.loc (c : Thread nD τ))
  after w t := match w with
    | ⟨0, _⟩ => iblk T0 T1 h m ρ c (0 : Fin 5) t
    | ⟨1, _⟩ => iblk T0 T1 h m ρ c (1 : Fin 5) t
    | ⟨2, _⟩ => iblk T0 T1 h m ρ c (2 : Fin 5) t
    | ⟨3, _⟩ => iblk T0 T1 h m ρ c (3 : Fin 5) t
    | ⟨4, _⟩ => left (crd T0 T1 h t) T1 (iblk T0 T1 h m ρ c (0 : Fin 5) t) (iblk T0 T1 h m ρ c (1 : Fin 5) t) (iblk T0 T1 h m ρ c (2 : Fin 5) t) (iblk T0 T1 h m ρ c (3 : Fin 5) t)
  Φ t := Phi T0 T1 h m ρ c t
  q _ := fullShare
  owed _ := 0

theorem after0_0 (c : Dev nD) (t : Fin (cfgA T0 T1 h).N) : (dats T0 T1 h m ρ 0 c).after (0 : Fin 5) t = iblk T0 T1 h m ρ c (0 : Fin 5) t := rfl
theorem after0_1 (c : Dev nD) (t : Fin (cfgA T0 T1 h).N) : (dats T0 T1 h m ρ 0 c).after (1 : Fin 5) t = iblk T0 T1 h m ρ c (1 : Fin 5) t := rfl
theorem after0_2 (c : Dev nD) (t : Fin (cfgA T0 T1 h).N) : (dats T0 T1 h m ρ 0 c).after (2 : Fin 5) t = iblk T0 T1 h m ρ c (2 : Fin 5) t := rfl
theorem after0_3 (c : Dev nD) (t : Fin (cfgA T0 T1 h).N) : (dats T0 T1 h m ρ 0 c).after (3 : Fin 5) t = iblk T0 T1 h m ρ c (3 : Fin 5) t := rfl
theorem after0_4 (c : Dev nD) (t : Fin (cfgA T0 T1 h).N) : (dats T0 T1 h m ρ 0 c).after (4 : Fin 5) t = left (crd T0 T1 h t) T1 (iblk T0 T1 h m ρ c (0 : Fin 5) t) (iblk T0 T1 h m ρ c (1 : Fin 5) t) (iblk T0 T1 h m ρ c (2 : Fin 5) t) (iblk T0 T1 h m ρ c (3 : Fin 5) t) := rfl

/-- An input's buffer holds its block at every point, fetched there or not. -/
theorem before0_0 (c : Dev nD) (t : Fin (cfgA T0 T1 h).N) (d) : (dats T0 T1 h m ρ 0 c).before (0 : Fin 5) t d = iblk T0 T1 h m ρ c (0 : Fin 5) t :=
  ((dats T0 T1 h m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T0 T1 h).N) (d) : (dats T0 T1 h m ρ 0 c).before (1 : Fin 5) t d = iblk T0 T1 h m ρ c (1 : Fin 5) t :=
  ((dats T0 T1 h m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T0 T1 h).N) (d) : (dats T0 T1 h m ρ 0 c).before (2 : Fin 5) t d = iblk T0 T1 h m ρ c (2 : Fin 5) t :=
  ((dats T0 T1 h m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T0 T1 h).N) (d) : (dats T0 T1 h m ρ 0 c).before (3 : Fin 5) t d = iblk T0 T1 h m ρ c (3 : Fin 5) t :=
  ((dats T0 T1 h m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output's block is stored at every point. -/
theorem never_idle (t : Fin (cfgA T0 T1 h).N) : (cfgA T0 T1 h).idle (4 : Fin 5) ((cfgA T0 T1 h).grid.coords t) = false := by
  have hn : ∀ n : BitVec 32, (!(k0_cond2 (crd T0 T1 h t) n == 1#1) && !(k0_cond3 (crd T0 T1 h t) n == 1#1)) = false := fun n => by
    by_cases h2 : k0_cond2 (crd T0 T1 h t) n = 1#1
    · simp [h2]
    · simp [h2, (cond3_iff _ _).mpr h2]
  exact hn _

/-- A used point that does not load has the weights of its expert carried. -/
theorem hold_of (c : Dev nD) (t : Fin (cfgA T0 T1 h).N) (g u : S1024x512.Idx → Elt F .bf16) (d : S512x1024.Idx → Elt F .bf16)
    (hp : ∀ s : Fin (cfgA T0 T1 h).N, s.val + 1 = t.castSucc.val → k0_cond2 (crd T0 T1 h s) (wN T1) = 1#1 →
        g = k0_pay1 (iblk T0 T1 h m ρ c (1 : Fin 5) s) ∧ u = k0_pay2 (iblk T0 T1 h m ρ c (2 : Fin 5) s) ∧ d = k0_pay3 (iblk T0 T1 h m ρ c (3 : Fin 5) s))
    (h2 : k0_cond2 (crd T0 T1 h t) (wN T1) = 1#1)
    (hc : ¬ loads (crd T0 T1 h t) (wN T1) (wE (crd T0 T1 h t) T0) (wP (crd T0 T1 h t) T0) = 1#1) :
    g = k0_pay1 (iblk T0 T1 h m ρ c (1 : Fin 5) t) ∧ u = k0_pay2 (iblk T0 T1 h m ρ c (2 : Fin 5) t) ∧ d = k0_pay3 (iblk T0 T1 h m ρ c (3 : Fin 5) t) := by
  obtain ⟨h0, he⟩ := not_loads _ _ _ _ h2 hc
  have hv : (crd T0 T1 h t 0).val = t.val := crd_val t
  rw [hv] at h0
  have hlt : t.val - 1 < (cfgA T0 T1 h).N := by have := t.isLt; omega
  have hs : (⟨t.val - 1, hlt⟩ : Fin (cfgA T0 T1 h).N).val + 1 = t.val := by show t.val - 1 + 1 = t.val; omega
  have hsv : (crd T0 T1 h ⟨t.val - 1, hlt⟩ 0).val = t.val - 1 := crd_val ⟨t.val - 1, hlt⟩
  have h2' : k0_cond2 (crd T0 T1 h ⟨t.val - 1, hlt⟩) (wN T1) = 1#1 := by
    rw [cond2_iff] at h2 ⊢
    rw [hsv]; rw [hv] at h2; omega
  have he' : wE (crd T0 T1 h ⟨t.val - 1, hlt⟩) T0 = wE (crd T0 T1 h t) T0 := (wP_eq T0 ⟨t.val - 1, hlt⟩ t hs).symm.trans he.symm
  obtain ⟨a, b, e⟩ := same_blocks T0 T1 h m ρ c _ _ he'
  obtain ⟨p, q, r⟩ := hp ⟨t.val - 1, hlt⟩ hs h2'
  exact ⟨p.trans (congrArg k0_pay1 a), q.trans (congrArg k0_pay2 b), r.trans (congrArg k0_pay3 e)⟩

/-! ## The body at a point, and the launch -/

/-- The body at point `t` on its buffers, as the pipeline calls it. -/
abbrev bodyAt (t : Fin (cfgA T0 T1 h).N) : Prog (TpuEff nD τ sig (Elt F) Λ₀ .tc) PUnit :=
  body (crd T0 T1 h t) (ms0 T0 T1 h t) (hs0 T0 T1 h t) (ms1 T0 T1 h t) (hs1 T0 T1 h t) (ms2 T0 T1 h t) (hs2 T0 T1 h t) (ms3 T0 T1 h t) (hs3 T0 T1 h t) (ms4 T0 T1 h t) (hs4 T0 T1 h t)

set_option maxHeartbeats 4000000 in
/-- The body's obligation at point `t`. -/
theorem sound_body (c : Dev nD) (t : Fin (cfgA T0 T1 h).N) :
    iprop((dats T0 T1 h m ρ 0 c).Φ t.castSucc ∗ (dats T0 T1 h m ρ 0 c).owesAt () t.castSucc
        ∗ (∃ d, owns (c : Thread nD τ) (ms0 T0 T1 h t) fullShare ((dats T0 T1 h m ρ 0 c).before (0 : Fin 5) t d))
        ∗ (∃ d, owns (c : Thread nD τ) (ms1 T0 T1 h t) fullShare ((dats T0 T1 h m ρ 0 c).before (1 : Fin 5) t d))
        ∗ (∃ d, owns (c : Thread nD τ) (ms2 T0 T1 h t) fullShare ((dats T0 T1 h m ρ 0 c).before (2 : Fin 5) t d))
        ∗ (∃ d, owns (c : Thread nD τ) (ms3 T0 T1 h t) fullShare ((dats T0 T1 h m ρ 0 c).before (3 : Fin 5) t d))
        ∗ (∃ d, owns (c : Thread nD τ) (ms4 T0 T1 h t) fullShare ((dats T0 T1 h m ρ 0 c).before (4 : Fin 5) t d)))
      ⊢ wp frame (wpE (defs₀ (F := F)) Variants.none c none) Set.univ (bodyAt T0 T1 h t) fun _ =>
          iprop((dats T0 T1 h m ρ 0 c).Φ t.succ ∗ (dats T0 T1 h m ρ 0 c).owesAt () t.succ
            ∗ bigSep Finset.univ fun w : Fin (cfgA T0 T1 h).W =>
                match (cfgA T0 T1 h).idle w ((cfgA T0 T1 h).grid.coords t) with
                | true =>
                  match ((cfgA T0 T1 h).win w).flush t with
                  | false => iprop(∃ d, owns (c : Thread nD τ) (((cfgA T0 T1 h).win w).stage ((cfgA T0 T1 h).slots t w)) fullShare ((dats T0 T1 h m ρ 0 c).before w t d))
                  | true => owns (c : Thread nD τ) (((cfgA T0 T1 h).win w).stage ((cfgA T0 T1 h).slots t w)) fullShare ((dats T0 T1 h m ρ 0 c).after w t)
                | false => owns (c : Thread nD τ) (((cfgA T0 T1 h).win w).stage ((cfgA T0 T1 h).slots t w)) fullShare ((dats T0 T1 h m ρ 0 c).after w t)) := by
  rw [bigSep_W0]
  have i4 := never_idle T0 T1 h t
  rewrite [i4]
  simp only [before0_0, before0_1, before0_2, before0_3, after0_0, after0_1, after0_2, after0_3, after0_4]
  rewrite [show (dats T0 T1 h m ρ 0 c).Φ t.succ = Phi T0 T1 h m ρ c t.succ from rfl, show (dats T0 T1 h m ρ 0 c).Φ t.castSucc = Phi T0 T1 h m ρ c t.castSucc from rfl,
    show (dats T0 T1 h m ρ 0 c).owesAt () t.succ = (dats T0 T1 h m ρ 0 c).owesAt () t.castSucc from rfl]
  unfold Phi
  iintro ⟨⟨⟨%g, %u, %d, %hp, Hs⟩, HT0, HT1⟩, Ho, ⟨%d0, H0⟩, ⟨%d1, H1⟩, ⟨%d2, H2⟩, ⟨%d3, H3⟩, ⟨%d4, H4⟩⟩
  iapply (step c (crd T0 T1 h t) (ms0 T0 T1 h t) (hs0 T0 T1 h t) (ms1 T0 T1 h t) (hs1 T0 T1 h t) (ms2 T0 T1 h t) (hs2 T0 T1 h t) (ms3 T0 T1 h t) (hs3 T0 T1 h t) (ms4 T0 T1 h t) (hs4 T0 T1 h t)
    T0 T1 (iblk T0 T1 h m ρ c (0 : Fin 5) t) (iblk T0 T1 h m ρ c (1 : Fin 5) t) (iblk T0 T1 h m ρ c (2 : Fin 5) t) (iblk T0 T1 h m ρ c (3 : Fin 5) t) g u d
    (hold_of T0 T1 h m ρ c t g u d hp) _)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  isplitl [Hs]; · iexact Hs
  iintro ⟨⟨H0, H1, H2, H3, HT0, HT1⟩, H4, ⟨%g', %u', %d', %hn, Hs⟩⟩
  isplitl [Hs HT0 HT1]
  · isplitl [Hs]
    · iexists g', u', d'; isplitr; swap
      · iexact Hs
      · ipureintro; intro s hs h2
        obtain rfl : s = t := Fin.ext (by have := hs; rw [Fin.val_succ] at this; omega)
        exact hn h2
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

theorem body_obligation (c : Dev nD) : BodyObligation (dats T0 T1 h m ρ 0 c) (defs₀ (F := F)) Variants.none () Set.univ := fun t => by
  rw [bigSep_W0]
  exact sound_body T0 T1 h m ρ c t

/-- The rounds library's launch element. -/
def u₀ : UR sig nD τ :=
  initOf (Pipeline.cells (pcs T0 T1 h) ((launch0 (F := F)).cellOf_inj fun _ => adm T0 T1 h))
    (Pipeline.launchToks (pcs T0 T1 h) ((launch0 (F := F)).cellOf_inj fun _ => adm T0 T1 h))

theorem share_eq (c : Dev nD) (w : Fin (cfgA T0 T1 h).W) : (dats T0 T1 h m ρ 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T0 T1 h).1 ∗ Pipeline.scopedRest spec0 c) ⊢ (dats T0 T1 h m ρ 0 c).Φ 0 := by
  rw [prefHeld_eq, scopedRest0_eq, show (dats T0 T1 h m ρ 0 c).Φ 0 = Phi T0 T1 h m ρ c 0 from rfl]
  unfold Phi
  iintro ⟨-, ⟨HT0, HT1⟩, ⟨%a0, HS0⟩, ⟨%a1, HS1⟩, ⟨%a2, HS2⟩⟩
  isplitl [HS0 HS1 HS2]
  · iexists a0, a1, a2; isplitr; swap
    · isplitl [HS0]; · iexact HS0
      isplitl [HS1]; · iexact HS1
      iexact HS2
    · ipureintro; intro s hs; exact absurd hs (Nat.succ_ne_zero _)
  isplitl [HT0]
  · iexact HT0
  iexact HT1

theorem phiN_exit (c : Dev nD) : (dats T0 T1 h m ρ 0 c).Φ (Fin.last (cfgA T0 T1 h).N) ⊢ iprop(BI.emp ∗ Pipeline.scopedRest spec0 c) := by
  rw [scopedRest0_eq, show (dats T0 T1 h m ρ 0 c).Φ (Fin.last (cfgA T0 T1 h).N) = Phi T0 T1 h m ρ c (Fin.last _) from rfl]
  unfold Phi
  iintro ⟨⟨%a0, %a1, %a2, -, HS0, HS1, HS2⟩, -, -⟩
  isplitr; · iempintro
  isplitl [HS0]
  · iexists a0; iexact HS0
  isplitl [HS1]
  · iexists a1; iexact HS1
  iexists a2; iexact HS2

/-- At the end every array is what the pipeline computes and every table what it ran at. -/
def QC : PUnit × MemSt nD τ sig (Elt F) → Prop := fun r =>
  ∀ c : Dev nD, (∀ w : Fin (cfgA T0 T1 h).W, r.2.mem (((cfgA T0 T1 h).win w).arr.view.loc (c : Thread nD τ)) = (dats T0 T1 h m ρ 0 c).arrAt w (cfgA T0 T1 h).N)
    ∧ ∀ j, r.2.mem ((c : Thread nD τ).loc (pre0.ref j)) = (adm T0 T1 h).1 j

variable (hp0 : ∀ c : Dev nD, m ((c : Thread nD τ).loc main_arg0) = T0) (hp1 : ∀ c : Dev nD, m ((c : Thread nD τ).loc main_arg1) = T1)

include hp0 hp1 in
theorem V_pre (c : Dev nD) (j : Fin 2) : m ((c : Thread nD τ).loc (pre0.ref j)) = (adm T0 T1 h).1 j := by
  fin_cases j
  · exact hp0 c
  · exact hp1 c

include hp0 hp1 in
set_option backward.isDefEq.respectTransparency.types false in
set_option maxHeartbeats 4000000 in
/-- From any memory that holds these tables, with zero counters: the program ends, with each array as computed and zero counters. -/
theorem run_main : θ_run (defs (F := F)) (onTc (τ := τ) (main (F := F))) (s₀ m ρ) (fun r => QC T0 T1 h m ρ r ∧ r.2.sem = fun _ => 0) :=
  Pipeline.θ_run_region_noSem_pf_quiescent pcfgs (fun _ => adm T0 T1 h) (dats T0 T1 h m ρ) () ((launch0 (F := F)).cellOf_inj fun _ => adm T0 T1 h) (0 : Fin 1)
    (launch0 (F := F)).win.to₀ (launch0 (F := F)).pre EP defs₀ Variants.none m ρ main
    (hbody := fun c => (body_obligation T0 T1 h m ρ c).loose) (hne := (launch0 (F := F)).block_pos)
    (harr := (launch0 (F := F)).arr_whole) (hstage := (launch0 (F := F)).stage_whole) (howed := fun _ _ => rfl)
    (u₀ := u₀ T0 T1 h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 h) (dats T0 T1 h m ρ) 0 (launch0 (F := F)).win.arr_inj c (launch0 (F := F)).arr_whole
      (share_eq T0 T1 h m ρ c) _ _ fun _ => rfl)
    (hpf := V_pre T0 T1 h m hp0 hp1)
    (X := fun _ => iprop(emp)) (Y := fun _ => iprop(emp)) (Z := fun _ => iprop(emp))
    (hX := fun c => by rw [unscopedRestP0_eq]; iintro -; isplitr <;> iempintro)
    (hin := phi0_intro T0 T1 h m ρ)
    (hout := phiN_exit T0 T1 h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hp0 hp1 in
/-- The arguments end unchanged and the counters at zero, and the result is what the pipeline computes. -/
theorem run_all : θ_run (defs (F := F)) (onTc (τ := τ) (main (F := F))) ⟨m, fun _ => 0, ρ⟩ (fun r => (∀ c : Dev nD,
      r.2.mem ((c.tc : Thread nD τ).loc main_v0) = (dats T0 T1 h m ρ 0 c).arrAt (4 : Fin 5) (cfgA T0 T1 h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨(hh.1 c).1 (4 : Fin 5), ((hh.1 c).2 0).trans (hp0 c).symm, ((hh.1 c).2 1).trans (hp1 c).symm,
    ((hh.1 c).1 (0 : Fin 5)).trans ((dats T0 T1 h m ρ 0 c).arrAt_in (0 : Fin 5) rfl _), ((hh.1 c).1 (1 : Fin 5)).trans ((dats T0 T1 h m ρ 0 c).arrAt_in (1 : Fin 5) rfl _),
    ((hh.1 c).1 (2 : Fin 5)).trans ((dats T0 T1 h m ρ 0 c).arrAt_in (2 : Fin 5) rfl _), ((hh.1 c).1 (3 : Fin 5)).trans ((dats T0 T1 h m ρ 0 c).arrAt_in (3 : Fin 5) rfl _)⟩, hh.2⟩)
    (run_main T0 T1 h m ρ hp0 hp1)

end

end Cert.Experts3

end
-- ==== Proof.ExpertsKernel.lean ====
module

public import proofs.«01_k».proof.Proof.ExpertsLaunch
public import Idealize.ShloMosaic.Lib.Pipeline.ValueKit
public import Idealize.ShloMosaic.Lib.WordArith

@[expose] public section

set_option maxRecDepth 16384

noncomputable section

/-! What one block of tokens is turned into, at the ideal instance: at each token and each column the gated
two-layer network of the block's expert. -/

namespace Cert.Experts3

open Cert.ExpertsIdeal Cert.ExpertsIdeal.Gen Idealize.ShloMosaic Idealize.ShloMosaic.TcCoe Idealize.SL.Sem

/-- The gate's activation, `z` times the logistic of `z`. -/
def act (z : EReal) : EReal := z * Ideal.div 1 (1 + Ideal.exp (0 - z))

/-- One column of the gated two-layer network: `x` the token, `g` and `u` the first layer's two weights, `d` a column
of the second layer's. -/
def ffn (x : Fin 1024 → EReal) (g u : Fin 1024 → Fin 512 → EReal) (d : Fin 512 → EReal) : EReal :=
  ∑ k : Fin 512, act (∑ a : Fin 1024, x a * g a k) * (∑ a : Fin 1024, x a * u a k) * d k

/-- Column `a` of token `r` in a block of rows of 128. -/
abbrev tok (r : Fin 256) (a : Fin 1024) : S2048x128.Idx :=
  ix2 (n0 := 2048) (n1 := 128) ⟨r.val * 8 + a.val / 128, by omega⟩ ⟨a.val % 128, by omega⟩

theorem slab_tok (x : S2048x128.Idx → EReal) (r : Fin 256) (a : Fin 1024) (k : Fin 8) (b : Fin 128) (h : a.val = k.val * 128 + b.val) :
    slab (F := Ideal) x k (ix2 r b) = x (tok r a) := by
  have hb := b.isLt
  show x _ = x _
  refine congrArg x (funext fun c => Fin.ext ?_)
  match c with
  | ⟨0, _⟩ => show k.val + 8 * r.val = r.val * 8 + a.val / 128; omega
  | ⟨1, _⟩ => show b.val = a.val % 128; omega

/-- The eight slabs of a block side by side: column `a` of token `r` lies in row `r * 8 + a / 128` of the block. -/
theorem joined (x : S2048x128.Idx → EReal) (r : Fin 256) (a : Fin 1024) :
    concatenate S256x1024 1 [⟨S256x128, slab (F := Ideal) x 0⟩, ⟨S256x128, slab (F := Ideal) x 1⟩, ⟨S256x128, slab (F := Ideal) x 2⟩, ⟨S256x128, slab (F := Ideal) x 3⟩, ⟨S256x128, slab (F := Ideal) x 4⟩, ⟨S256x128, slab (F := Ideal) x 5⟩, ⟨S256x128, slab (F := Ideal) x 6⟩, ⟨S256x128, slab (F := Ideal) x 7⟩] concatenates_S256x128_S256x128_S256x128_S256x128_S256x128_S256x128_S256x128_S256x128_S256x1024_d1 (ix2 r a)
      = x (tok r a) := by
  have ha := a.isLt
  pointwise
  split
  · exact slab_tok x r a 0 ⟨a.val, _⟩ (by show a.val = 0 * 128 + a.val; omega)
  split
  · exact slab_tok x r a 1 ⟨a.val - 128, _⟩ (by show a.val = 1 * 128 + (a.val - 128); omega)
  split
  · exact slab_tok x r a 2 ⟨a.val - 128 - 128, _⟩ (by show a.val = 2 * 128 + (a.val - 128 - 128); omega)
  split
  · exact slab_tok x r a 3 ⟨a.val - 128 - 128 - 128, _⟩ (by show a.val = 3 * 128 + (a.val - 128 - 128 - 128); omega)
  split
  · exact slab_tok x r a 4 ⟨a.val - 128 - 128 - 128 - 128, _⟩ (by show a.val = 4 * 128 + (a.val - 128 - 128 - 128 - 128); omega)
  split
  · exact slab_tok x r a 5 ⟨a.val - 128 - 128 - 128 - 128 - 128, _⟩ (by show a.val = 5 * 128 + (a.val - 128 - 128 - 128 - 128 - 128); omega)
  split
  · exact slab_tok x r a 6 ⟨a.val - 128 - 128 - 128 - 128 - 128 - 128, _⟩ (by show a.val = 6 * 128 + (a.val - 128 - 128 - 128 - 128 - 128 - 128); omega)
  · exact slab_tok x r a 7 ⟨a.val - 128 - 128 - 128 - 128 - 128 - 128 - 128, _⟩ (by show a.val = 7 * 128 + (a.val - 128 - 128 - 128 - 128 - 128 - 128 - 128); omega)

/-- The block's result at a token and a column. -/
theorem rows_at (x : S2048x128.Idx → EReal) (g u : FVec Ideal S1024x512 .bf16) (d : FVec Ideal S512x1024 .bf16) (r : Fin 256) (j : Fin 1024) :
    rows (F := Ideal) x g u d (ix2 r j)
      = ffn (fun a => x (tok r a)) (fun a k => g (ix2 a k)) (fun a k => u (ix2 a k)) (fun k => d (ix2 k j)) := by
  unfold rows k0_pay11
  have hj := joined x
  generalize concatenate S256x1024 1 [⟨S256x128, slab (F := Ideal) x 0⟩, ⟨S256x128, slab (F := Ideal) x 1⟩, ⟨S256x128, slab (F := Ideal) x 2⟩, ⟨S256x128, slab (F := Ideal) x 3⟩, ⟨S256x128, slab (F := Ideal) x 4⟩, ⟨S256x128, slab (F := Ideal) x 5⟩, ⟨S256x128, slab (F := Ideal) x 6⟩, ⟨S256x128, slab (F := Ideal) x 7⟩] _ = X at hj ⊢
  pointwise
  simp only [hj]
  rfl

theorem pay1_at (w : Vec Ideal S1x1x1024x512 .f32) (a : Fin 1024) (k : Fin 512) : k0_pay1 (F := Ideal) w (ix2 a k) = w (ix4 0 0 a k) := by
  pointwise [k0_pay1]

theorem pay2_at (w : Vec Ideal S1x1x1024x512 .f32) (a : Fin 1024) (k : Fin 512) : k0_pay2 (F := Ideal) w (ix2 a k) = w (ix4 0 0 a k) := by
  pointwise [k0_pay2]

theorem pay3_at (w : Vec Ideal S1x1x512x1024 .f32) (k : Fin 512) (j : Fin 1024) : k0_pay3 (F := Ideal) w (ix2 k j) = w (ix4 0 0 k j) := by
  pointwise [k0_pay3]

end Cert.Experts3

end
-- ==== Proof.ExpertsValue.lean ====
module

public import proofs.«01_k».proof.Proof.ExpertsKernel

@[expose] public section

set_option maxRecDepth 16384

noncomputable section

/-! The array the kernel leaves, at the ideal instance, in terms of its arguments. -/

namespace Cert.Experts3

open Cert.ExpertsIdeal Cert.ExpertsIdeal.Gen Idealize.ShloMosaic Idealize.ShloMosaic.TcCoe Idealize.SL.Sem
open scoped Classical

/-- A block's expert. -/
def expert (e : S448.Idx → BitVec 32) (t : Fin 448) : Fin 64 := ⟨(e (ix1 t)).toNat % 64, Nat.mod_lt _ (by decide)⟩

/-- The result at block `t`, token `r`, column `j`: the network of the block's expert where the block is used, else zero. -/
def outAt (e : S448.Idx → BitVec 32) (n : S1.Idx → BitVec 32) (x : S917504x128.Idx → EReal) (g u : S2x64x1024x512.Idx → EReal) (d : S2x64x512x1024.Idx → EReal)
    (t : Fin 448) (r : Fin 256) (j : Fin 1024) : EReal :=
  if (t.val : ℤ) < (n (ix1 0)).toInt then
    ffn (fun a => x (ix2 (n0 := 917504) (n1 := 128) ⟨t.val * 2048 + (r.val * 8 + a.val / 128), by omega⟩ ⟨a.val % 128, by omega⟩))
      (fun a k => g (ix4 0 (expert e t) a k)) (fun a k => u (ix4 0 (expert e t) a k)) (fun k => d (ix4 0 (expert e t) k j))
  else 0

/-- The whole result: every 2048 rows of 128 are a block of 256 tokens of 1024 columns. -/
def out (e : S448.Idx → BitVec 32) (n : S1.Idx → BitVec 32) (x : S917504x128.Idx → EReal) (g u : S2x64x1024x512.Idx → EReal) (d : S2x64x512x1024.Idx → EReal) :
    S917504x128.Idx → EReal := fun y =>
  outAt e n x g u d ⟨(y 0).val / 2048, by have : (y 0).val < 917504 := (y 0).isLt; omega⟩
    ⟨(y 0).val % 2048 / 8, by omega⟩ ⟨(y 0).val % 8 * 128 + (y 1).val, by have : (y 1).val < 128 := (y 1).isLt; omega⟩

theorem zero_word : (Scalar.ofBits (F := Ideal) .f32 0x00000000#32 : EReal) = 0 := by
  pointwise

theorem in_range_zero : InRange (F := Ideal) (fun _ => (0#32 : BitVec 32)) := fun _ => by show (0#32 : BitVec 32).toNat < 64; decide

theorem covers_zero : ((cfgA (F := Ideal) (fun _ => (0#32 : BitVec 32)) (fun _ => (0#32 : BitVec 32)) in_range_zero).win (4 : Fin 5)).Covers := by
  decide +kernel

section
variable (T0 : S448.Idx → Elt Ideal .i32) (T1 : S1.Idx → Elt Ideal .i32) (h : InRange (F := Ideal) T0)
variable (m : (ℓ : Loc nD τ sig) → Buf (Elt Ideal) ℓ) (ρ : Dev nD → PrngReg)

theorem covers4 : ((cfgA T0 T1 h).win (4 : Fin 5)).Covers := covers_zero

/-- What the body leaves of a block, at a row and a lane. -/
theorem left_at (c : Dev nD) (t : Fin (cfgA T0 T1 h).N) (y : S2048x128.Idx) :
    left (F := Ideal) (crd T0 T1 h t) T1 (iblk T0 T1 h m ρ c (0 : Fin 5) t) (iblk T0 T1 h m ρ c (1 : Fin 5) t) (iblk T0 T1 h m ρ c (2 : Fin 5) t) (iblk T0 T1 h m ρ c (3 : Fin 5) t) y
      = outAt T0 T1 (m ((c : Thread nD τ).loc main_arg2)) (m ((c : Thread nD τ).loc main_arg3)) (m ((c : Thread nD τ).loc main_arg4)) (m ((c : Thread nD τ).loc main_arg5))
          ⟨t.val, t.isLt⟩ ⟨(y 0).val / 8, by have : (y 0).val < 2048 := (y 0).isLt; omega⟩ ⟨(y 0).val % 8 * 128 + (y 1).val, by have : (y 1).val < 128 := (y 1).isLt; omega⟩ := by
  have hv : (crd T0 T1 h t 0).val = t.val := crd_val t
  have hc : k0_cond2 (crd T0 T1 h t) (wN T1) = 1#1 ↔ (t.val : ℤ) < (T1 (ix1 0)).toInt := by rw [cond2_iff, hv, wN_eq]
  have hx : wE (crd T0 T1 h t) T0 = T0 (ix1 ⟨t.val, t.isLt⟩) := by
    rw [wE_eq]; exact congrArg T0 (funext fun a => Fin.ext (by match a with | ⟨0, _⟩ => exact hv))
  have he : (⟨BitVec.toNat (wE (crd T0 T1 h t) T0), by rw [wE_eq]; exact h _⟩ : Fin 64) = expert T0 ⟨t.val, t.isLt⟩ :=
    Fin.ext (by
      show BitVec.toNat (wE (crd T0 T1 h t) T0) = BitVec.toNat (T0 (ix1 ⟨t.val, t.isLt⟩)) % 64
      rw [hx, Nat.mod_eq_of_lt (h _)])
  unfold left outAt
  by_cases hu : k0_cond2 (crd T0 T1 h t) (wN T1) = 1#1
  · rw [if_pos hu, if_pos (hc.mp hu)]
    unfold tile
    rw [rows_at]
    congr 1
    · funext a; rw [blk0]; rfl
    · funext a k; rw [pay1_at, blk1, he]; rfl
    · funext a k; rw [pay2_at, blk2, he]; rfl
    · funext k; rw [pay3_at, blk3, he]; rfl
  · rw [if_neg hu, if_neg (fun h' => hu (hc.mpr h'))]
    exact zero_word

/-- The result at an index of block `t`. -/
theorem out_at (e : S448.Idx → BitVec 32) (n : S1.Idx → BitVec 32) (x : S917504x128.Idx → EReal) (g u : S2x64x1024x512.Idx → EReal) (d : S2x64x512x1024.Idx → EReal)
    (i : S917504x128.Idx) (t : Fin 448) (y : S2048x128.Idx) (h0 : (i 0).val = t.val * 2048 + (y 0).val) (h1 : (i 1).val = (y 1).val) :
    outAt e n x g u d t ⟨(y 0).val / 8, by have : (y 0).val < 2048 := (y 0).isLt; omega⟩ ⟨(y 0).val % 8 * 128 + (y 1).val, by have : (y 1).val < 128 := (y 1).isLt; omega⟩
      = out e n x g u d i := by
  have hy0 : (y 0).val < 2048 := (y 0).isLt
  have hi0 : (i 0).val < 917504 := (i 0).isLt
  have hi1 : (i 1).val < 128 := (i 1).isLt
  have a0 : t = ⟨(i 0).val / 2048, by omega⟩ := Fin.ext (by show t.val = (i 0).val / 2048; omega)
  have a1 : (⟨(y 0).val / 8, by omega⟩ : Fin 256) = ⟨(i 0).val % 2048 / 8, by omega⟩ := Fin.ext (by show (y 0).val / 8 = (i 0).val % 2048 / 8; omega)
  have a2 : (⟨(y 0).val % 8 * 128 + (y 1).val, by omega⟩ : Fin 1024) = ⟨(i 0).val % 8 * 128 + (i 1).val, by omega⟩ :=
    Fin.ext (by show (y 0).val % 8 * 128 + (y 1).val = (i 0).val % 8 * 128 + (i 1).val; omega)
  exact congr (congr (congrArg (outAt e n x g u d) a0) a1) a2

theorem place (t : Fin (cfgA T0 T1 h).N) (y : S2048x128.Idx) :
    ((((cfgA T0 T1 h).win (4 : Fin 5)).blk t).view.emb y (0 : Fin 2)).val = t.val * 2048 + (y 0).val
      ∧ ((((cfgA T0 T1 h).win (4 : Fin 5)).blk t).view.emb y (1 : Fin 2)).val = (y 1).val := by
  have ht : t.val < 448 := t.isLt
  refine ⟨?_, ?_⟩
  · show (BitVec.ofNat 32 (crd T0 T1 h t 0).val).toNat * 2048 + 1 * (y 0).val = t.val * 2048 + (y 0).val
    rw [crd_val t, BitVec.toNat_ofNat]; omega
  · show 0 * 128 + 1 * (y 1).val = (y 1).val; omega

/-- The result array after the run. -/
theorem arr4 (c : Dev nD) : (dats T0 T1 h m ρ 0 c).arrAt (4 : Fin 5) (cfgA T0 T1 h).N
    = out T0 T1 (m ((c : Thread nD τ).loc main_arg2)) (m ((c : Thread nD τ).loc main_arg3)) (m ((c : Thread nD τ).loc main_arg4)) (m ((c : Thread nD τ).loc main_arg5)) := by
  refine (dats T0 T1 h m ρ 0 c).arrAt_eq_of_covers (4 : Fin 5) _ (covers4 T0 T1 h) (fun t hf y => ?_)
  rw [after0_4]
  exact (left_at T0 T1 h m ρ c t y).trans (out_at T0 T1 _ _ _ _ _ ⟨t.val, t.isLt⟩ y (place T0 T1 h t y).1 (place T0 T1 h t y).2)

end

end Cert.Experts3

end
-- ==== Proof.ExpertsRef.lean ====
module

public import proofs.«01_k».proof.Proof.ExpertsValue
public import proofs.«01_k».proof.Proof.Gen.ExpertsReferenceIdeal.Read

@[expose] public section

set_option maxRecDepth 16384

noncomputable section

/-! The experts' reference at an index. -/

namespace Cert.ExpertsReferenceIdeal.Blocks

open Cert.ExpertsReferenceIdeal Cert.ExpertsReferenceIdeal.Gen Cert.ExpertsReferenceIdeal.Read Idealize.ShloMosaic Idealize.ShloMosaic.TcCoe Idealize.SL.Sem
open Cert.Experts3 (InRange expert ffn act outAt out)

/-- The gather of the first layer's weights: each block's slice is the whole matrix of the expert it names. -/
theorem gather_first (x : S64x1024x512.Idx → EReal) (idx : S448x3.Idx → BitVec 32) (b : Fin 448) (a : Fin 1024) (k : Fin 512) (e : Fin 64)
    (he : (idx (ix2 b 0)).toInt.toNat = e.val) :
    Host.gather gather_S64x1024x512_S448x3_S448x1x1024x512_123_n_n_n_012_1_11024512 x idx (ix4 b 0 a k) = x (ix3 e a k) := by
  unfold Host.gather
  refine congrArg x (funext fun c => Fin.ext ?_)
  have hsi : gather_S64x1024x512_S448x3_S448x1x1024x512_123_n_n_n_012_1_11024512.siIdx (ix4 b 0 a k) (0 : Fin 3) = ix2 b 0 := by
    funext q; refine Fin.ext ?_
    match q with
    | ⟨0, _⟩ => rfl
    | ⟨1, _⟩ => rfl
  match c with
  | ⟨0, _⟩ =>
    show min (idx (gather_S64x1024x512_S448x3_S448x1x1024x512_123_n_n_n_012_1_11024512.siIdx (ix4 b 0 a k) (0 : Fin 3))).toInt.toNat 63 + 0 + 0 = e.val
    rw [hsi, he]; have := e.isLt; omega
  | ⟨1, _⟩ =>
    show min (idx (gather_S64x1024x512_S448x3_S448x1x1024x512_123_n_n_n_012_1_11024512.siIdx (ix4 b 0 a k) (1 : Fin 3))).toInt.toNat 0 + 0 + a.val = a.val
    omega
  | ⟨2, _⟩ =>
    show min (idx (gather_S64x1024x512_S448x3_S448x1x1024x512_123_n_n_n_012_1_11024512.siIdx (ix4 b 0 a k) (2 : Fin 3))).toInt.toNat 0 + 0 + k.val = k.val
    omega

/-- The gather of the second layer's weights. -/
theorem gather_second (x : S64x512x1024.Idx → EReal) (idx : S448x3.Idx → BitVec 32) (b : Fin 448) (a : Fin 512) (k : Fin 1024) (e : Fin 64)
    (he : (idx (ix2 b 0)).toInt.toNat = e.val) :
    Host.gather gather_S64x512x1024_S448x3_S448x1x512x1024_123_n_n_n_012_1_15121024 x idx (ix4 b 0 a k) = x (ix3 e a k) := by
  unfold Host.gather
  refine congrArg x (funext fun c => Fin.ext ?_)
  have hsi : gather_S64x512x1024_S448x3_S448x1x512x1024_123_n_n_n_012_1_15121024.siIdx (ix4 b 0 a k) (0 : Fin 3) = ix2 b 0 := by
    funext q; refine Fin.ext ?_
    match q with
    | ⟨0, _⟩ => rfl
    | ⟨1, _⟩ => rfl
  match c with
  | ⟨0, _⟩ =>
    show min (idx (gather_S64x512x1024_S448x3_S448x1x512x1024_123_n_n_n_012_1_15121024.siIdx (ix4 b 0 a k) (0 : Fin 3))).toInt.toNat 63 + 0 + 0 = e.val
    rw [hsi, he]; have := e.isLt; omega
  | ⟨1, _⟩ =>
    show min (idx (gather_S64x512x1024_S448x3_S448x1x512x1024_123_n_n_n_012_1_15121024.siIdx (ix4 b 0 a k) (1 : Fin 3))).toInt.toNat 0 + 0 + a.val = a.val
    omega
  | ⟨2, _⟩ =>
    show min (idx (gather_S64x512x1024_S448x3_S448x1x512x1024_123_n_n_n_012_1_15121024.siIdx (ix4 b 0 a k) (2 : Fin 3))).toInt.toNat 0 + 0 + k.val = k.val
    omega

variable (x0 : S448.Idx → BitVec 32) (x1 : S1.Idx → BitVec 32) (x2 : S917504x128.Idx → EReal) (x3 x4 : S2x64x1024x512.Idx → EReal) (x5 : S2x64x512x1024.Idx → EReal)

/-- A word in range, read signed. -/
theorem toInt_small (w : BitVec 32) (h : w.toNat < 64) : w.toInt = w.toNat := BitVec.toInt_eq_toNat_of_lt (by omega)

theorem wrapped (w : BitVec 32) (h : w.toNat < 64) (c : BitVec 32) : Scalar.select (IntOp.cmpi .slt w 0#32) c w = w := by
  have h1 : IntOp.cmpi .slt w 0#32 = 0#1 := by
    have := toInt_small w h
    simp only [IntOp.cmpi, BitVec.slt]
    rw [this]
    show BitVec.ofBool (decide ((w.toNat : ℤ) < 0)) = 0#1
    rw [decide_eq_false (by omega)]; rfl
  rw [h1]; rfl

theorem index_first (h : InRange (F := Ideal) x0) (b : Fin 448) : (val_main_v21 (F := Ideal) x0 (ix2 b 0)).toInt.toNat = (expert x0 b).val := by
  have e : val_main_v21 (F := Ideal) x0 (ix2 b 0) = x0 (ix1 b) := by
    pointwise [val_main_v21, val_main_v18, val_main_v11, val_main_v8, val_main_v10, val_main_v7, val_main_c]
    exact wrapped _ (h _) _
  rw [e, toInt_small _ (h _)]
  show (x0 (ix1 b)).toNat = (x0 (ix1 b)).toNat % 64
  rw [Nat.mod_eq_of_lt (h _)]

theorem index_up (h : InRange (F := Ideal) x0) (b : Fin 448) : (val_main_v40 (F := Ideal) x0 (ix2 b 0)).toInt.toNat = (expert x0 b).val := by
  have e : val_main_v40 (F := Ideal) x0 (ix2 b 0) = x0 (ix1 b) := by
    pointwise [val_main_v40, val_main_v37, val_main_v30, val_main_v27, val_main_v29, val_main_v7, val_main_c]
    exact wrapped _ (h _) _
  rw [e, toInt_small _ (h _)]
  show (x0 (ix1 b)).toNat = (x0 (ix1 b)).toNat % 64
  rw [Nat.mod_eq_of_lt (h _)]

theorem index_second (h : InRange (F := Ideal) x0) (b : Fin 448) : (val_main_v59 (F := Ideal) x0 (ix2 b 0)).toInt.toNat = (expert x0 b).val := by
  have e : val_main_v59 (F := Ideal) x0 (ix2 b 0) = x0 (ix1 b) := by
    pointwise [val_main_v59, val_main_v56, val_main_v49, val_main_v46, val_main_v48, val_main_v7, val_main_c]
    exact wrapped _ (h _) _
  rw [e, toInt_small _ (h _)]
  show (x0 (ix1 b)).toNat = (x0 (ix1 b)).toNat % 64
  rw [Nat.mod_eq_of_lt (h _)]

theorem tokens (b : Fin 448) (r : Fin 256) (a : Fin 1024) : val_main_v6 (F := Ideal) x2 (ix3 b r a)
    = x2 (ix2 (n0 := 917504) (n1 := 128) ⟨b.val * 2048 + (r.val * 8 + a.val / 128), by omega⟩ ⟨a.val % 128, by omega⟩) := by
  rw [val_main_v6_apply]
  refine congrArg x2 (funext fun c => Fin.ext ?_)
  match c with
  | ⟨0, _⟩ => show ((b.val * 256 + r.val) * 1024 + a.val) / 128 = b.val * 2048 + (r.val * 8 + a.val / 128); omega
  | ⟨1, _⟩ => show ((b.val * 256 + r.val) * 1024 + a.val) % 128 = a.val % 128; omega

theorem gate (h : InRange (F := Ideal) x0) (b : Fin 448) (a : Fin 1024) (k : Fin 512) :
    val_main_v23 (F := Ideal) x0 x3 (ix3 b a k) = x3 (ix4 0 (expert x0 b) a k) := by
  rw [val_main_v23_apply]
  have e : idx_main_v23 (ix3 b a k) = ix4 b 0 a k := funext fun c => Fin.ext (by
    match c with
    | ⟨0, _⟩ => show ((b.val * 1024 + a.val) * 512 + k.val) / 524288 = b.val; omega
    | ⟨1, _⟩ => rfl
    | ⟨2, _⟩ => show ((b.val * 1024 + a.val) * 512 + k.val) / 512 % 1024 = a.val; omega
    | ⟨3, _⟩ => show ((b.val * 1024 + a.val) * 512 + k.val) % 512 = k.val; omega)
  rw [e]
  unfold val_main_v22
  rw [gather_first _ _ b a k _ (index_first x0 h b)]
  pointwise [val_main_v1, val_main_v0]

theorem up (h : InRange (F := Ideal) x0) (b : Fin 448) (a : Fin 1024) (k : Fin 512) :
    val_main_v42 (F := Ideal) x0 x4 (ix3 b a k) = x4 (ix4 0 (expert x0 b) a k) := by
  rw [val_main_v42_apply]
  have e : idx_main_v42 (ix3 b a k) = ix4 b 0 a k := funext fun c => Fin.ext (by
    match c with
    | ⟨0, _⟩ => show ((b.val * 1024 + a.val) * 512 + k.val) / 524288 = b.val; omega
    | ⟨1, _⟩ => rfl
    | ⟨2, _⟩ => show ((b.val * 1024 + a.val) * 512 + k.val) / 512 % 1024 = a.val; omega
    | ⟨3, _⟩ => show ((b.val * 1024 + a.val) * 512 + k.val) % 512 = k.val; omega)
  rw [e]
  unfold val_main_v41
  rw [gather_first _ _ b a k _ (index_up x0 h b)]
  pointwise [val_main_v3, val_main_v2]

theorem down (h : InRange (F := Ideal) x0) (b : Fin 448) (k : Fin 512) (j : Fin 1024) :
    val_main_v61 (F := Ideal) x0 x5 (ix3 b k j) = x5 (ix4 0 (expert x0 b) k j) := by
  rw [val_main_v61_apply]
  have e : idx_main_v61 (ix3 b k j) = ix4 b 0 k j := funext fun c => Fin.ext (by
    match c with
    | ⟨0, _⟩ => show ((b.val * 512 + k.val) * 1024 + j.val) / 524288 = b.val; omega
    | ⟨1, _⟩ => rfl
    | ⟨2, _⟩ => show ((b.val * 512 + k.val) * 1024 + j.val) / 1024 % 512 = k.val; omega
    | ⟨3, _⟩ => show ((b.val * 512 + k.val) * 1024 + j.val) % 1024 = j.val; omega)
  rw [e]
  unfold val_main_v60
  rw [gather_second _ _ b k j _ (index_second x0 h b)]
  pointwise [val_main_v5, val_main_v4]

/-- The two products of the first layer. -/
theorem first (h : InRange (F := Ideal) x0) (b : Fin 448) (r : Fin 256) (k : Fin 512) :
    val_main_v24 (F := Ideal) x0 x2 x3 (ix3 b r k)
      = ∑ a : Fin 1024, x2 (ix2 (n0 := 917504) (n1 := 128) ⟨b.val * 2048 + (r.val * 8 + a.val / 128), by omega⟩ ⟨a.val % 128, by omega⟩) * x3 (ix4 0 (expert x0 b) a k) := by
  rw [val_main_v24_apply]
  refine Finset.sum_congr rfl fun a _ => ?_
  have e1 : lidx_main_v24 (ix3 b r k) a = ix3 b r a := funext fun c => Fin.ext (by match c with | ⟨0, _⟩ => rfl | ⟨1, _⟩ => rfl | ⟨2, _⟩ => rfl)
  have e2 : ridx_main_v24 (ix3 b r k) a = ix3 b a k := funext fun c => Fin.ext (by match c with | ⟨0, _⟩ => rfl | ⟨1, _⟩ => rfl | ⟨2, _⟩ => rfl)
  rw [e1, e2, tokens, gate x0 x3 h]

theorem first_up (h : InRange (F := Ideal) x0) (b : Fin 448) (r : Fin 256) (k : Fin 512) :
    val_main_v43 (F := Ideal) x0 x2 x4 (ix3 b r k)
      = ∑ a : Fin 1024, x2 (ix2 (n0 := 917504) (n1 := 128) ⟨b.val * 2048 + (r.val * 8 + a.val / 128), by omega⟩ ⟨a.val % 128, by omega⟩) * x4 (ix4 0 (expert x0 b) a k) := by
  rw [val_main_v43_apply]
  refine Finset.sum_congr rfl fun a _ => ?_
  have e1 : lidx_main_v43 (ix3 b r k) a = ix3 b r a := funext fun c => Fin.ext (by match c with | ⟨0, _⟩ => rfl | ⟨1, _⟩ => rfl | ⟨2, _⟩ => rfl)
  have e2 : ridx_main_v43 (ix3 b r k) a = ix3 b a k := funext fun c => Fin.ext (by match c with | ⟨0, _⟩ => rfl | ⟨1, _⟩ => rfl | ⟨2, _⟩ => rfl)
  rw [e1, e2, tokens, up x0 x4 h]

/-- The hidden value: the gate's activation times the other product. -/
theorem hidden (b : Fin 448) (r : Fin 256) (k : Fin 512) :
    val_main_v44 (F := Ideal) x0 x2 x3 x4 (ix3 b r k) = act (val_main_v24 (F := Ideal) x0 x2 x3 (ix3 b r k)) * val_main_v43 (F := Ideal) x0 x2 x4 (ix3 b r k) := by
  unfold act
  pointwise [val_main_v44, val_main_v25, val_main_call0_v0, val_main_call0_v1, val_main_call0_v2, val_main_call0_v3, val_main_call0_v4, val_main_call0_v5, val_main_call0_cst, val_main_call0_cst_0]
  rw [zero_sub]

/-- The second layer's product. -/
theorem second (h : InRange (F := Ideal) x0) (b : Fin 448) (r : Fin 256) (j : Fin 1024) :
    val_main_v62 (F := Ideal) x0 x2 x3 x4 x5 (ix3 b r j)
      = ffn (fun a => x2 (ix2 (n0 := 917504) (n1 := 128) ⟨b.val * 2048 + (r.val * 8 + a.val / 128), by omega⟩ ⟨a.val % 128, by omega⟩))
          (fun a k => x3 (ix4 0 (expert x0 b) a k)) (fun a k => x4 (ix4 0 (expert x0 b) a k)) (fun k => x5 (ix4 0 (expert x0 b) k j)) := by
  rw [val_main_v62_apply]
  unfold ffn
  refine Finset.sum_congr rfl fun k _ => ?_
  have e1 : lidx_main_v62 (ix3 b r j) k = ix3 b r k := funext fun c => Fin.ext (by match c with | ⟨0, _⟩ => rfl | ⟨1, _⟩ => rfl | ⟨2, _⟩ => rfl)
  have e2 : ridx_main_v62 (ix3 b r j) k = ix3 b k j := funext fun c => Fin.ext (by match c with | ⟨0, _⟩ => rfl | ⟨1, _⟩ => rfl | ⟨2, _⟩ => rfl)
  rw [e1, e2, hidden, first x0 x2 x3 h, first_up x0 x2 x4 h, down x0 x5 h]

theorem count : val_main_v64 (F := Ideal) x1 = fun _ => x1 (ix1 0) := by
  funext i
  exact shapeCast_apply x1 shapeCasts_S1_S_ i (ix1 0) (by rfl)

/-- A block's row is kept where the block is used. -/
theorem used (b : Fin 448) (r : Fin 256) (j : Fin 1024) (v : EReal) :
    Scalar.select (val_main_call1_v1 (F := Ideal) x1 (ix3 b r j)) v (val_main_call1_v2 (F := Ideal) (ix3 b r j)) = if (b.val : ℤ) < (x1 (ix1 0)).toInt then v else 0 := by
  have e1 : val_main_call1_v1 (F := Ideal) x1 (ix3 b r j) = IntOp.cmpi .slt (BitVec.ofNat 32 b.val) (x1 (ix1 0)) := by
    rw [val_main_call1_v1_apply, val_main_v67_apply, val_main_v66_apply, val_main_v65_apply, val_main_v63_apply, count]
    rfl
  have e2 : val_main_call1_v2 (F := Ideal) (ix3 b r j) = (0 : EReal) := by
    rw [val_main_call1_v2_apply, val_main_call1_v0_apply, val_main_cst_apply]
    exact Cert.Experts3.zero_word
  have hb := b.isLt
  have hv : (BitVec.ofNat 32 b.val).toInt = (b.val : ℤ) := by
    rw [BitVec.toInt_eq_toNat_of_lt (by rw [BitVec.toNat_ofNat]; omega), BitVec.toNat_ofNat]; omega
  rw [e1, e2]
  show Scalar.select (BitVec.ofBool (decide ((BitVec.ofNat 32 b.val).toInt < (x1 (ix1 0)).toInt))) v 0 = _
  rw [hv]
  by_cases hlt : (b.val : ℤ) < (x1 (ix1 0)).toInt
  · rw [decide_eq_true hlt, if_pos hlt]; rfl
  · rw [decide_eq_false hlt, if_neg hlt]; rfl

/-- The reference's result. -/
theorem result (h : InRange (F := Ideal) x0) : val_main_v69 (F := Ideal) x0 x1 x2 x3 x4 x5 = out x0 x1 x2 x3 x4 x5 := by
  funext y
  have h0 : (y 0).val < 917504 := (y 0).isLt
  have h1 : (y 1).val < 128 := (y 1).isLt
  rw [val_main_v69_apply]
  have e : idx_main_v69 y = ix3 (n0 := 448) (n1 := 256) (n2 := 1024) ⟨(y 0).val / 2048, by omega⟩ ⟨(y 0).val % 2048 / 8, by omega⟩ ⟨(y 0).val % 8 * 128 + (y 1).val, by omega⟩ :=
    funext fun c => Fin.ext (by
      match c with
      | ⟨0, _⟩ => show ((y 0).val * 128 + (y 1).val) / 262144 = (y 0).val / 2048; omega
      | ⟨1, _⟩ => show ((y 0).val * 128 + (y 1).val) / 1024 % 256 = (y 0).val % 2048 / 8; omega
      | ⟨2, _⟩ => show ((y 0).val * 128 + (y 1).val) % 1024 = (y 0).val % 8 * 128 + (y 1).val; omega)
  rw [e, val_main_v68_apply, second x0 x2 x3 x4 x5 h, used]
  unfold out outAt
  congr

end Cert.ExpertsReferenceIdeal.Blocks

end
-- ==== Proof.ExpertsClaim.lean ====
module

public import proofs.«01_k».proof.Defs
public import proofs.«01_k».proof.Proof.AttnClaim
public import proofs.«01_k».proof.Proof.ExpertsRef
public import proofs.«01_k».proof.Proof.Gen.Experts
public import proofs.«01_k».proof.Proof.Gen.Pre_experts_named
public import proofs.«01_k».proof.Proof.Gen.ExpertsReferenceIdeal.Run

@[expose] public section

set_option maxRecDepth 16384

noncomputable section

/-! The experts' claims: what the precondition says, the frames, and the two programs' results equal. -/

namespace Cert.Experts3

open Idealize.ShloMosaic Idealize.ShloMosaic.TcCoe Idealize.SL.Sem

instance : Subsingleton Cert.Pre_experts_named.S_.Idx := ⟨fun a b => funext fun i => i.elim0⟩

/-- A word at least zero and below 64, read signed, is below 64 read unsigned. -/
theorem small_of (w : BitVec 32) (h0 : IntOp.cmpi .sge w 0#32 = 1#1) (h1 : IntOp.cmpi .slt w 64#32 = 1#1) : w.toNat < 64 := by
  revert h0 h1
  simp only [IntOp.cmpi]
  intro h0 h1
  have a0 : (0#32 : BitVec 32).toInt ≤ w.toInt := by
    by_contra hc
    rw [show BitVec.sle 0#32 w = false from decide_eq_false hc] at h0
    exact absurd h0 (by decide)
  have a1 : w.toInt < (64#32 : BitVec 32).toInt := by
    by_contra hc
    rw [show BitVec.slt w 64#32 = false from decide_eq_false hc] at h1
    exact absurd h1 (by decide)
  rw [show (0#32 : BitVec 32).toInt = 0 from by decide] at a0
  rw [show (64#32 : BitVec 32).toInt = 64 from by decide] at a1
  have hw := w.isLt
  rw [BitVec.toInt_eq_toNat_cond] at a0 a1
  split at a0 <;> split at a1 <;> omega

/-- What the precondition says of the experts' table. -/
theorem named {F : FTy → Type} [FloatOps F] [h : Cert.Pre_experts_named.Facts] (e : IVec Cert.Pre_experts_named.S448 32) (n : IVec Cert.Pre_experts_named.S1 32)
    (x : FVec F Cert.Pre_experts_named.S917504x128 .f32) (g u : FVec F Cert.Pre_experts_named.S2x64x1024x512 .f32) (d : FVec F Cert.Pre_experts_named.S2x64x512x1024 .f32)
    (hp : Cert.Pre_experts_named.fn (F := F) e n x g u d = fun _ => 1#1) (i : Cert.Pre_experts_named.S448.Idx) : BitVec.toNat (e i) < 64 := by
  have h0 := congrFun hp ix0
  unfold Cert.Pre_experts_named.fn at h0
  have h1 := Host.reduce_andi_all _ _ _ _ _ h0 i
  obtain ⟨h2, h3⟩ := (Cert.Attn.andi_one _ _).1 h1
  exact small_of _ h2 h3

theorem dev_eq (c : Dev Cert.ExpertsIdeal.nD) : c = 0 := Subsingleton.elim _ _

/-- The frame at the ideal instance. -/
theorem frame_ideal : Cert.quiescent_ExpertsIdeal (hExpertsIdeal := Cert.ExpertsIdeal.Gen.facts) (hPre_experts_named := Cert.Pre_experts_named.Gen.facts) := fun m g hp =>
  (θ_run (Cert.ExpertsIdeal.defs (F := Ideal)) _ _).mono (fun r h => ⟨fun c => (h.1 c).2, h.2⟩)
    (run_all (F := Ideal) (m (((0 : Dev Cert.ExpertsIdeal.nD).tc : Thread Cert.ExpertsIdeal.nD Cert.ExpertsIdeal.τ).loc Cert.ExpertsIdeal.main_arg0))
      (m (((0 : Dev Cert.ExpertsIdeal.nD).tc : Thread Cert.ExpertsIdeal.nD Cert.ExpertsIdeal.τ).loc Cert.ExpertsIdeal.main_arg1))
      (named (h := Cert.Pre_experts_named.Gen.facts) _ _ _ _ _ _ (hp 0)) m g (fun c => by rw [dev_eq c]) (fun c => by rw [dev_eq c]))

/-- The two programs have one body table, -/
theorem bodies : @Cert.Experts.defs₀ Bits _ Cert.Experts.Gen.facts = Cert.ExpertsIdeal.defs₀ (F := Bits) := by
  refine congrArg Defs.onTc (funext fun l => ?_)
  match l with
  | ⟨0, _⟩ => exact funext fun p => rfl

/-- so one table of the call and its bodies, -/
theorem tables : @Cert.Experts.defs Bits _ Cert.Experts.Gen.facts = Cert.ExpertsIdeal.defs (F := Bits) := congrArg (Pipeline.defs _) bodies

/-- The frame at the words: the same run. -/
theorem frame_words : Cert.quiescent_Experts (hExperts := Cert.Experts.Gen.facts) (hPre_experts_named := Cert.Pre_experts_named.Gen.facts) := by
  intro m g hp
  rw [tables]
  exact (θ_run (Cert.ExpertsIdeal.defs (F := Bits)) _ _).mono (fun r h => ⟨fun c => (h.1 c).2, h.2⟩)
    (run_all (F := Bits) (m (((0 : Dev Cert.ExpertsIdeal.nD).tc : Thread Cert.ExpertsIdeal.nD Cert.ExpertsIdeal.τ).loc Cert.ExpertsIdeal.main_arg0))
      (m (((0 : Dev Cert.ExpertsIdeal.nD).tc : Thread Cert.ExpertsIdeal.nD Cert.ExpertsIdeal.τ).loc Cert.ExpertsIdeal.main_arg1))
      (named (h := Cert.Pre_experts_named.Gen.facts) _ _ _ _ _ _ (hp 0)) m g (fun c => by rw [dev_eq c]) (fun c => by rw [dev_eq c]))

/-- The reference's frame: it declares no semaphore. -/
theorem frame_reference : Cert.quiescent_ExpertsReferenceIdeal (hExpertsReferenceIdeal := Cert.ExpertsReferenceIdeal.Gen.facts) := fun m g _ =>
  (θ_run (Cert.ExpertsReferenceIdeal.defs (F := Ideal)) _ _).mono (fun r h => And.intro (fun c => (h c).2) (sem_eq_zero_of_no_sems (by decide) r.2)) (Cert.ExpertsReferenceIdeal.Value.run (F := Ideal) m g)

/-- From the same arrays the two programs end at the same result. -/
theorem algebraic : algebraic_ExpertsIdeal_ExpertsReferenceIdeal (hExpertsIdeal := Cert.ExpertsIdeal.Gen.facts) (hExpertsReferenceIdeal := Cert.ExpertsReferenceIdeal.Gen.facts) (hPre_experts_named := Cert.Pre_experts_named.Gen.facts) := by
  intro m g m' g' hp ha
  have hr : InRange (F := Ideal) (m (((0 : Dev Cert.ExpertsIdeal.nD).tc : Thread Cert.ExpertsIdeal.nD Cert.ExpertsIdeal.τ).loc Cert.ExpertsIdeal.main_arg0)) :=
    named (h := Cert.Pre_experts_named.Gen.facts) _ _ _ _ _ _ (hp 0)
  refine ⟨fun c => out (m ((c : Thread Cert.ExpertsIdeal.nD Cert.ExpertsIdeal.τ).loc Cert.ExpertsIdeal.main_arg0)) (m ((c : Thread Cert.ExpertsIdeal.nD Cert.ExpertsIdeal.τ).loc Cert.ExpertsIdeal.main_arg1))
    (m ((c : Thread Cert.ExpertsIdeal.nD Cert.ExpertsIdeal.τ).loc Cert.ExpertsIdeal.main_arg2)) (m ((c : Thread Cert.ExpertsIdeal.nD Cert.ExpertsIdeal.τ).loc Cert.ExpertsIdeal.main_arg3))
    (m ((c : Thread Cert.ExpertsIdeal.nD Cert.ExpertsIdeal.τ).loc Cert.ExpertsIdeal.main_arg4)) (m ((c : Thread Cert.ExpertsIdeal.nD Cert.ExpertsIdeal.τ).loc Cert.ExpertsIdeal.main_arg5)), ?_, ?_⟩
  · refine (θ_run _ _ _).mono (fun r h c => ?_) (run_all (F := Ideal) _ (m (((0 : Dev Cert.ExpertsIdeal.nD).tc : Thread Cert.ExpertsIdeal.nD Cert.ExpertsIdeal.τ).loc Cert.ExpertsIdeal.main_arg1))
      hr m g (fun c => by rw [dev_eq c]) (fun c => by rw [dev_eq c]))
    obtain rfl := dev_eq c
    exact ⟨((h.1 0).1).trans (arr4 _ _ hr m g 0), (h.1 0).2⟩
  · refine (θ_run _ _ _).mono (fun r h c => ?_) (Cert.ExpertsReferenceIdeal.Value.run m' g')
    refine ⟨((h c).1).trans ((Cert.ExpertsReferenceIdeal.Read.val_main_v69_eq m' c).trans ?_), (h c).2⟩
    obtain ⟨e0, e1, e2, e3, e4, e5⟩ := ha c
    rw [e0, e1, e2, e3, e4, e5]
    exact Cert.ExpertsReferenceIdeal.Blocks.result _ _ _ _ _ _ (named (h := Cert.Pre_experts_named.Gen.facts) _ _ _ _ _ _ (hp c))

end Cert.Experts3

end
-- ==== Proof.PwKernel.lean ====
module

public import proofs.«01_k».proof.Proof.Gen.PointwiseIdeal.Value
public import Idealize.ShloMosaic.Lib.Pipeline.ValueKit
public import Idealize.ShloMosaic.Lib.StableHlo.ReadAt
public import Idealize.ShloMosaic.Lib.Pointwise
public import Idealize.ShloMosaic.Lib.ValueIdx

@[expose] public section

set_option maxRecDepth 16384

noncomputable section

/-! The first pointwise convolution: what one block of rows is turned into, and the whole array after the run. -/

namespace Cert.Pw

open Cert.PointwiseIdeal Cert.PointwiseIdeal.Gen Idealize.ShloMosaic Idealize.ShloMosaic.TcCoe Idealize.SL.Sem

/-- A row divided by its root mean square, weighted, scaled and shifted. -/
def norm (x w sh sc : Fin 1024 → EReal) (a : Fin 1024) : EReal :=
  x a * Ideal.rsqrt (Ideal.div (∑ b : Fin 1024, x b * x b) (Ideal.ofBits .f32 0x44800000#32) + Ideal.ofBits .f32 0x358637BD#32) * w a * (1 + sc a) + sh a

/-- One column of the linear layer on the normalized row. -/
def lin (x w sh sc : Fin 1024 → EReal) (W : Fin 1024 → EReal) (b : EReal) : EReal := ∑ a : Fin 1024, norm x w sh sc a * W a + b

theorem lin_congr {x x' w w' sh sh' sc sc' W W' : Fin 1024 → EReal} {b b' : EReal} (h0 : ∀ a, x a = x' a) (h1 : ∀ a, w a = w' a) (h2 : ∀ a, sh a = sh' a) (h3 : ∀ a, sc a = sc' a)
    (h4 : ∀ a, W a = W' a) (h5 : b = b') : lin x w sh sc W b = lin x' w' sh' sc' W' b' := by
  rw [funext h0, funext h1, funext h2, funext h3, funext h4, h5]

/-- A value times the logistic of its gate. -/
def gated (a g : EReal) : EReal := a * Ideal.div 1 (1 + Ideal.exp (0 - g))

theorem lin_at (v0 : Vec Ideal S1x1x6144 .f32) (v2 : Vec Ideal S512x1024 .f32) (v4 : Vec Ideal S1x1024 .f32) (v27 : Vec Ideal S1024x2048 .bf16) (v30 : Vec Ideal S1x2048 .f32)
    (r : Fin 512) (l : Fin 2048) :
    k0_pay2 (F := Ideal) v0 v2 v4 v27 v30 (ix2 r l)
      = lin (fun a => v2 (ix2 r a)) (fun a => v4 (ix2 0 a)) (fun a => v0 (ix3 0 0 ⟨a.val, by omega⟩)) (fun a => v0 (ix3 0 0 ⟨1024 + a.val, by omega⟩)) (fun a => v27 (ix2 a l)) (v30 (ix2 0 l)) := by
  unfold lin Cert.Pw.norm
  pointwise [k0_pay2]

theorem gated_at (v0 : Vec Ideal S1x1x6144 .f32) (v2 : Vec Ideal S512x1024 .f32) (v4 : Vec Ideal S1x1024 .f32) (v27 : Vec Ideal S1024x2048 .bf16) (v30 : Vec Ideal S1x2048 .f32)
    (r : Fin 512) (l : Fin 1024) :
    k0_pay1 (F := Ideal) (k0_pay3 v0 v2 v4 v27 v30) (k0_pay4 v0 v2 v4 v27 v30) (ix2 r l)
      = gated (k0_pay2 (F := Ideal) v0 v2 v4 v27 v30 (ix2 r ⟨l.val, by omega⟩)) (k0_pay2 (F := Ideal) v0 v2 v4 v27 v30 (ix2 r ⟨1024 + l.val, by omega⟩)) := by
  unfold gated k0_pay3 k0_pay4
  generalize k0_pay2 (F := Ideal) v0 v2 v4 v27 v30 = X
  pointwise [k0_pay1]

variable (m : (ℓ : Loc nD τ sig) → Buf (Elt Ideal) ℓ) (c : Dev nD)

abbrev X : S24x2048x1024.Idx → EReal := m ((c : Thread nD τ).loc main_arg0)
abbrev M : S24x6144.Idx → EReal := m ((c : Thread nD τ).loc main_arg1)
abbrev NW : S1024.Idx → EReal := m ((c : Thread nD τ).loc main_arg2)
abbrev W : S1024x2048.Idx → EReal := m ((c : Thread nD τ).loc main_arg3)
abbrev B : S2048.Idx → EReal := m ((c : Thread nD τ).loc main_arg4)

theorem V0_apply (R : Fin 49152) (a : Fin 1024) : V m c main_v0 (ix2 R a) = X m c (ix3 ⟨R.val / 2048, by omega⟩ ⟨R.val % 2048, by omega⟩ a) := by
  unfold V
  after_reads_at

theorem V1_apply (b : Fin 24) (a : Fin 6144) : V m c main_v1 (ix3 b 0 a) = M m c (ix2 b a) := by
  unfold V
  after_reads_at

theorem V2_apply (a : Fin 1024) : V m c main_v2 (ix2 0 a) = NW m c (ix1 a) := by
  unfold V
  after_reads_at

theorem V3_apply (a : Fin 1024) (l : Fin 2048) : V m c main_v3 (ix2 a l) = W m c (ix2 a l) := by
  unfold V
  after_reads_at

theorem V4_apply (l : Fin 2048) : V m c main_v4 (ix2 0 l) = B m c (ix1 l) := by
  unfold V
  after_reads_at

theorem idx0 : ∀ t : Fin cfg0.N, win0_0.index t = ![t.val, 0] := (by decide +kernel : ∀ t : Fin grid0.N, win0_0.index t = ![t.val, 0])
theorem idx1 : ∀ t : Fin cfg0.N, win0_1.index t = ![t.val / 4, 0, 0] := (by decide +kernel : ∀ t : Fin grid0.N, win0_1.index t = ![t.val / 4, 0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

theorem t_lt (t : Fin cfg0.N) : t.val < 96 := t.isLt

theorem blk0 (t : Fin cfg0.N) (r : Fin 512) (a : Fin 1024) :
    iblk m c 0 t (ix2 r a) = V m c main_v0 (ix2 ⟨t.val * 512 + r.val, by have := t_lt t; have := r.isLt; omega⟩ a) := by
  blk_ext [iblk, idx0 t]

theorem blk1 (t : Fin cfg0.N) (a : Fin 6144) :
    iblk m c 1 t (ix3 0 0 a) = V m c main_v1 (ix3 ⟨t.val / 4, by have := t_lt t; omega⟩ 0 a) := by
  blk_ext [iblk, idx1 t]

theorem blk2 (t : Fin cfg0.N) (a : Fin 1024) : iblk m c 2 t (ix2 0 a) = V m c main_v2 (ix2 0 a) := by
  blk_ext [iblk, idx2 t]

theorem blk3 (t : Fin cfg0.N) (a : Fin 1024) (l : Fin 2048) : iblk m c 3 t (ix2 a l) = V m c main_v3 (ix2 a l) := by
  blk_ext [iblk, idx3 t]

theorem blk4 (t : Fin cfg0.N) (l : Fin 2048) : iblk m c 4 t (ix2 0 l) = V m c main_v4 (ix2 0 l) := by
  blk_ext [iblk, idx4 t]

/-- The result at a row and a column, from the arguments. -/
def outAt (x : S24x2048x1024.Idx → EReal) (mo : S24x6144.Idx → EReal) (w : S1024.Idx → EReal) (W : S1024x2048.Idx → EReal) (b : S2048.Idx → EReal) (R : Fin 49152) (l : Fin 2048) : EReal :=
  lin (fun a => x (ix3 ⟨R.val / 2048, by omega⟩ ⟨R.val % 2048, by omega⟩ a)) (fun a => w (ix1 a)) (fun a => mo (ix2 ⟨R.val / 2048, by omega⟩ ⟨a.val, by omega⟩))
    (fun a => mo (ix2 ⟨R.val / 2048, by omega⟩ ⟨1024 + a.val, by omega⟩)) (fun a => W (ix2 a l)) (b (ix1 l))

/-- The whole result. -/
def out (x : S24x2048x1024.Idx → EReal) (mo : S24x6144.Idx → EReal) (w : S1024.Idx → EReal) (W : S1024x2048.Idx → EReal) (b : S2048.Idx → EReal) : S49152x1024.Idx → EReal := fun y =>
  gated (outAt x mo w W b (y 0) ⟨(y 1).val, by have : (y 1).val < 1024 := (y 1).isLt; omega⟩) (outAt x mo w W b (y 0) ⟨1024 + (y 1).val, by have : (y 1).val < 1024 := (y 1).isLt; omega⟩)

/-- A block's linear layer is the array's at the block's row. -/
theorem lin_blk (t : Fin cfg0.N) (r : Fin 512) (l : Fin 2048) (R : Fin 49152) (hR : R.val = t.val * 512 + r.val) :
    k0_pay2 (F := Ideal) (View.ld (iblk m c 1 t) r0_0) (View.ld (iblk m c 0 t) r0_1) (View.ld (iblk m c 2 t) r0_2) (View.ld (iblk m c 3 t) r0_3) (View.ld (iblk m c 4 t) r0_4) (ix2 r l)
      = outAt (X m c) (M m c) (NW m c) (W m c) (B m c) R l := by
  have ht := t_lt t
  have z2 : (![0, 0] : Fin 2 → ℕ) = fun _ => 0 := by decide
  have z3 : (![0, 0, 0] : Fin 3 → ℕ) = fun _ => 0 := by decide
  have e0 : View.ld (iblk m c 0 t) r0_1 = iblk m c 0 t := View.ld_unit_zero (S := S512x1024) z2 _ _
  have e1 : View.ld (iblk m c 1 t) r0_0 = iblk m c 1 t := View.ld_unit_zero (S := S1x1x6144) z3 _ _
  have e2 : View.ld (iblk m c 2 t) r0_2 = iblk m c 2 t := View.ld_unit_zero (S := S1x1024) z2 _ _
  have e3 : View.ld (iblk m c 3 t) r0_3 = iblk m c 3 t := View.ld_unit_zero (S := S1024x2048) z2 _ _
  have e4 : View.ld (iblk m c 4 t) r0_4 = iblk m c 4 t := View.ld_unit_zero (S := S1x2048) z2 _ _
  rw [e0, e1, e2, e3, e4]
  refine (lin_at _ _ _ _ _ r l).trans ?_
  have hlt : t.val * 512 + r.val < 49152 := by clear hR; have := r.isLt; omega
  obtain rfl : R = ⟨t.val * 512 + r.val, hlt⟩ := Fin.ext hR
  have eb : (⟨t.val / 4, by omega⟩ : Fin 24) = ⟨(t.val * 512 + r.val) / 2048, by omega⟩ := Fin.ext (by show t.val / 4 = (t.val * 512 + r.val) / 2048; omega)
  have em : ∀ a : Fin 6144, iblk m c 1 t (ix3 0 0 a) = M m c (ix2 ⟨(t.val * 512 + r.val) / 2048, by omega⟩ a) := fun a =>
    (blk1 m c t a).trans ((V1_apply m c _ a).trans (congrArg (fun b => M m c (ix2 b a)) eb))
  exact lin_congr (fun a => (blk0 m c t r a).trans (V0_apply m c _ a)) (fun a => (blk2 m c t a).trans (V2_apply m c a)) (fun a => em _) (fun a => em _)
    (fun a => (blk3 m c t a l).trans (V3_apply m c a l)) ((blk4 m c t l).trans (V4_apply m c l))

theorem arr5 : (dats m 0 c).arrAt 5 cfg0.N = out (X m c) (M m c) (NW m c) (W m c) (B m c) := by
  refine (dats m 0 c).arrAt_eq_of_covers 5 _ (by decide +kernel) fun t hf y => ?_
  blk_simp
  rw [after0_5]
  unfold out0_5
  have ht := t_lt t
  obtain ⟨r, l, rfl⟩ : ∃ (r : Fin 512) (l : Fin 1024), y = ix2 r l := ⟨y 0, y 1, funext fun a => by match a with | ⟨0, _⟩ => rfl | ⟨1, _⟩ => rfl⟩
  refine (congrFun (View.canon_cons_unit_zero (S := S512x1024) (off := ![0, 0]) (by decide) _ _ []) (ix2 r l)).trans ?_
  have hr := r.isLt
  refine (gated_at _ _ _ _ _ r l).trans ((congrArg₂ gated (lin_blk m c t r _ ⟨t.val * 512 + r.val, by omega⟩ rfl) (lin_blk m c t r _ ⟨t.val * 512 + r.val, by omega⟩ rfl)).trans ?_)
  have ey : (win0_5.blk t).view.emb (ix2 r l) = (ix2 ⟨t.val * 512 + r.val, by omega⟩ l : S49152x1024.Idx) := by
    funext a; refine Fin.ext ?_
    match a with
    | ⟨0, _⟩ => blk_simp [idx5 t]
    | ⟨1, _⟩ => blk_simp [idx5 t]
  rw [ey]
  rfl

end Cert.Pw

end
-- ==== Proof.PwClaim.lean ====
module

public import proofs.«01_k».proof.Defs
public import proofs.«01_k».proof.Proof.PwKernel
public import proofs.«01_k».proof.Proof.Gen.Pointwise
public import proofs.«01_k».proof.Proof.Gen.PointwiseReferenceIdeal.Read

@[expose] public section

set_option maxRecDepth 16384

noncomputable section

/-! The first pointwise convolution's reference at an index, and its claims. -/

namespace Cert.PointwiseReferenceIdeal.Rows

open Cert.PointwiseReferenceIdeal Cert.PointwiseReferenceIdeal.Gen Cert.PointwiseReferenceIdeal.Read Idealize.ShloMosaic Idealize.ShloMosaic.TcCoe Idealize.SL.Sem
open Cert.Pw (lin gated outAt out)

variable (x0 : S24x2048x1024.Idx → EReal) (x1 : S24x6144.Idx → EReal) (x2 : S1024.Idx → EReal) (x3 : S1024x2048.Idx → EReal) (x4 : S2048.Idx → EReal)

/-- The sum of a row's squares. -/
theorem squares (b : Fin 24) (s : Fin 2048) : val_main_v3 (F := Ideal) x0 (ix2 b s) = ∑ a : Fin 1024, x0 (ix3 b s a) * x0 (ix3 b s a) := by
  rw [val_main_v3_apply]
  have e0 : (val_main_cst (F := Ideal)) (Shape.Idx.first h_S_) = (0 : EReal) := by
    show (Ideal.ofBits .f32 0x00000000#32 : EReal) = 0
    simp [Ideal.ofBits, Ideal.ieee]
  rw [e0]
  refine (zero_add _).trans (Finset.sum_congr rfl fun a _ => ?_)
  have e1 : idx_main_v3 (ix2 b s) a = ix3 b s a := funext fun c => Fin.ext (by match c with | ⟨0, _⟩ => rfl | ⟨1, _⟩ => rfl | ⟨2, _⟩ => rfl)
  rw [e1]
  rfl

/-- The normalized row. -/
theorem normed (b : Fin 24) (s : Fin 2048) (a : Fin 1024) :
    val_main_v22 (F := Ideal) x0 x1 x2 (ix3 b s a)
      = Cert.Pw.norm (fun a => x0 (ix3 b s a)) (fun a => x2 (ix1 a)) (fun a => x1 (ix2 b ⟨a.val, by omega⟩)) (fun a => x1 (ix2 b ⟨1024 + a.val, by omega⟩)) a := by
  unfold Cert.Pw.norm
  rw [← squares]
  have hs : ∀ i, val_main_v9 (F := Ideal) x0 i = Ideal.rsqrt (Ideal.div (val_main_v3 (F := Ideal) x0 (idx_main_v4 i)) (Ideal.ofBits .f32 0x44800000#32) + Ideal.ofBits .f32 0x358637BD#32) := by
    intro i
    rw [val_main_v9_apply, val_main_v8_apply, val_main_v6_apply, val_main_v4_apply, val_main_v5_apply, val_main_v7_apply]
    rfl
  rw [val_main_v22_apply, val_main_v19_apply, val_main_v14_apply, val_main_v11_apply, val_main_v10_apply, hs, val_main_v13_apply, val_main_v12_apply,
    val_main_v18_apply, val_main_v17_apply, val_main_v16_apply, val_main_v15_apply, val_main_v1_apply, val_main_v21_apply, val_main_v20_apply, val_main_v0_apply]
  have one : (val_main_cst_2 (F := Ideal)) = fun _ => (1 : EReal) := by
    funext i
    show (Ideal.ofBits .f32 0x3F800000#32 : EReal) = 1
    simp [Ideal.ofBits, Ideal.ieee]
    rw [← EReal.coe_mul]
    norm_num
  rw [one]
  have e4 : idx_main_v4 (idx_main_v10 (ix3 b s a)) = ix2 b s := funext fun c => Fin.ext (by match c with | ⟨0, _⟩ => rfl | ⟨1, _⟩ => rfl)
  have e12 : idx_main_v12 (idx_main_v13 (ix3 b s a)) = ix1 a := funext fun c => Fin.ext (by match c with | ⟨0, _⟩ => rfl)
  have e1 : idx_main_v1 (idx_main_v15 (idx_main_v18 (ix3 b s a))) = ix2 b ⟨1024 + a.val, by omega⟩ := funext fun c => Fin.ext (by match c with | ⟨0, _⟩ => rfl | ⟨1, _⟩ => rfl)
  have e0 : idx_main_v0 (idx_main_v20 (idx_main_v21 (ix3 b s a))) = ix2 b ⟨a.val, by omega⟩ := funext fun c => Fin.ext (by match c with | ⟨0, _⟩ => rfl | ⟨1, _⟩ => rfl)
  rw [e4, e12, e1, e0]
  rfl

/-- The linear layer. -/
theorem layer (b : Fin 24) (s : Fin 2048) (l : Fin 2048) :
    val_main_v26 (F := Ideal) x0 x1 x2 x3 x4 (ix3 b s l)
      = lin (fun a => x0 (ix3 b s a)) (fun a => x2 (ix1 a)) (fun a => x1 (ix2 b ⟨a.val, by omega⟩)) (fun a => x1 (ix2 b ⟨1024 + a.val, by omega⟩)) (fun a => x3 (ix2 a l)) (x4 (ix1 l)) := by
  rw [val_main_v26_apply, val_main_v23_apply, val_main_v25_apply, val_main_v24_apply]
  have e24 : idx_main_v24 (idx_main_v25 (ix3 b s l)) = ix1 l := funext fun c => Fin.ext (by match c with | ⟨0, _⟩ => rfl)
  rw [e24]
  refine congrArg (· + x4 (ix1 l)) (Finset.sum_congr rfl fun a _ => ?_)
  have e1 : lidx_main_v23 (ix3 b s l) a = ix3 b s a := funext fun c => Fin.ext (by match c with | ⟨0, _⟩ => rfl | ⟨1, _⟩ => rfl | ⟨2, _⟩ => rfl)
  have e2 : ridx_main_v23 (ix3 b s l) a = ix2 a l := funext fun c => Fin.ext (by match c with | ⟨0, _⟩ => rfl | ⟨1, _⟩ => rfl)
  rw [e1, e2, normed]

/-- The gated halves. -/
theorem halves (b : Fin 24) (s : Fin 2048) (l : Fin 1024) :
    val_main_v35 (F := Ideal) x0 x1 x2 x3 x4 (ix3 b s l)
      = gated (val_main_v26 (F := Ideal) x0 x1 x2 x3 x4 (ix3 b s ⟨l.val, by omega⟩)) (val_main_v26 (F := Ideal) x0 x1 x2 x3 x4 (ix3 b s ⟨1024 + l.val, by omega⟩)) := by
  unfold gated
  pointwise [val_main_v35, val_main_v34, val_main_v33, val_main_v32, val_main_v31, val_main_v30, val_main_v29, val_main_v28, val_main_v27, val_main_cst_3, val_main_cst_4]
  rw [zero_sub]

theorem result : val_main_v37 (F := Ideal) x0 x1 x2 x3 x4 = out x0 x1 x2 x3 x4 := by
  funext y
  obtain ⟨R, l, rfl⟩ : ∃ (R : Fin 49152) (l : Fin 1024), y = ix2 R l := ⟨y 0, y 1, funext fun a => by match a with | ⟨0, _⟩ => rfl | ⟨1, _⟩ => rfl⟩
  refine (val_main_v36_apply (F := Ideal) x0 x1 x2 x3 x4 (ix2 R l)).trans ?_
  have e : idx_main_v36 (ix2 R l) = ix3 ⟨R.val / 2048, by omega⟩ ⟨R.val % 2048, by omega⟩ l := funext fun c => Fin.ext (by
    match c with
    | ⟨0, _⟩ => show (R.val * 1024 + l.val) / 2097152 = R.val / 2048; omega
    | ⟨1, _⟩ => show (R.val * 1024 + l.val) / 1024 % 2048 = R.val % 2048; omega
    | ⟨2, _⟩ => show (R.val * 1024 + l.val) % 1024 = l.val; omega)
  rw [e, halves, layer, layer]
  rfl

end Cert.PointwiseReferenceIdeal.Rows

namespace Cert.Pw

open Idealize.ShloMosaic Idealize.ShloMosaic.TcCoe Idealize.SL.Sem

/-- The reference's frame: it declares no semaphore. -/
theorem frame_reference : Cert.quiescent_PointwiseReferenceIdeal (hPointwiseReferenceIdeal := Cert.PointwiseReferenceIdeal.Gen.facts) := fun m g _ =>
  (θ_run (Cert.PointwiseReferenceIdeal.defs (F := Ideal)) _ _).mono (fun r h => And.intro (fun c => (h c).2) (sem_eq_zero_of_no_sems (by decide) r.2)) (Cert.PointwiseReferenceIdeal.Value.run (F := Ideal) m g)

/-- From the same arrays the two programs end at the same result. -/
theorem algebraic : algebraic_PointwiseIdeal_PointwiseReferenceIdeal (hPointwiseIdeal := Cert.PointwiseIdeal.Gen.facts) (hPointwiseReferenceIdeal := Cert.PointwiseReferenceIdeal.Gen.facts) := by
  intro m g m' g' hp ha
  refine ⟨fun c => out (X m c) (M m c) (NW m c) (W m c) (B m c), ?_, ?_⟩
  · refine (θ_run _ _ _).mono (fun r h c => ?_) (Cert.PointwiseIdeal.Value.run_blocks m g)
    exact ⟨((h c).1).trans (arr5 m c), (h c).2⟩
  · refine (θ_run _ _ _).mono (fun r h c => ?_) (Cert.PointwiseReferenceIdeal.Value.run m' g')
    refine ⟨((h c).1).trans ((Cert.PointwiseReferenceIdeal.Read.val_main_v37_eq _ _ _ _ _).trans ?_), (h c).2⟩
    obtain ⟨e0, e1, e2, e3, e4⟩ := ha c
    rw [e0, e1, e2, e3, e4]
    exact Cert.PointwiseReferenceIdeal.Rows.result _ _ _ _ _

end Cert.Pw

end
-- ==== Proof.InprojSpec.lean ====
module

public import proofs.«01_k».proof.Proof.PwKernel

@[expose] public section

set_option maxRecDepth 16384

noncomputable section

/-! The projection's four results as functions of the arguments, and the two steps by which the kernel's form of them becomes the plain one. -/

namespace Cert.Inproj

open Idealize.ShloMosaic

/-- The angle of a position and a frequency. -/
def ang (p j : ℕ) : EReal :=
  FloatOps.sitofp (F := Ideal) FTy.f32 (BitVec.ofNat 32 p) *
    Ideal.pow (Ideal.ofBits FTy.f32 1223959552#32) (Ideal.div (-FloatOps.sitofp (F := Ideal) FTy.f32 (BitVec.ofNat 32 j) * Ideal.ofBits FTy.f32 1073741824#32) (Ideal.ofBits FTy.f32 1098907648#32))

/-- One head divided by its root mean square and weighted. -/
def hn (u g : Fin 64 → EReal) (d : Fin 64) : EReal :=
  u d * Ideal.rsqrt (Ideal.div (∑ e : Fin 64, u e * u e) (Ideal.ofBits .f32 0x42800000#32) + Ideal.ofBits .f32 897988541#32) * g d

/-- The rotation of a head's first sixteen entries by its position's angles. -/
def rope (t : Fin 64 → EReal) (p : ℕ) (d : Fin 64) : EReal :=
  if d.val < 8 then t d * Ideal.cos (ang p (d.val % 8)) - t ⟨(d.val + 8) % 64, by omega⟩ * Ideal.sin (ang p (d.val % 8))
  else if d.val < 16 then t d * Ideal.cos (ang p (d.val % 8)) + t ⟨(d.val - 8) % 64, by omega⟩ * Ideal.sin (ang p (d.val % 8))
  else t d

theorem one_bits : (Ideal.ofBits .f32 1065353216#32 : EReal) = 1 := by
  simp [Ideal.ofBits, Ideal.ieee]; rw [← EReal.coe_mul]; norm_num

theorem zero_bits : (Ideal.ofBits .f32 0#32 : EReal) = 0 := by
  simp [Ideal.ofBits, Ideal.ieee]

/-- The positional tables' three products, on the row, on the row moved by eight to the right and on the row moved by eight to the left, are the rotation. -/
theorem rope_of {n : ℕ} (H : ℕ) (hn : n = 64 * H) (T : Fin n → EReal) (t : Fin 64 → EReal) (j a b : Fin n) (ha : a.val = (j.val + n - 8) % n) (hb : b.val = (j.val + 8) % n)
    (hT : ∀ e : Fin n, e.val / 64 = j.val / 64 → T e = t ⟨e.val % 64, by omega⟩) (p : ℕ) (c sa sb : EReal)
    (hc : c = if j.val % 64 < 16 then Ideal.cos (ang p (j.val % 64 % 8)) else (Ideal.ofBits .f32 1065353216#32 : EReal))
    (hsa : sa = if 8 ≤ j.val % 64 ∧ j.val % 64 < 16 then Ideal.sin (ang p (j.val % 64 % 8)) else (Ideal.ofBits .f32 0#32 : EReal))
    (hsb : sb = if j.val % 64 < 8 then -Ideal.sin (ang p (j.val % 64 % 8)) else (Ideal.ofBits .f32 0#32 : EReal)) :
    T j * c + T a * sa + T b * sb = rope t p ⟨j.val % 64, by omega⟩ := by
  have hj := j.isLt
  unfold rope
  rw [hc, hsa, hsb, hT j rfl]
  show _ = if j.val % 64 < 8 then _ else if j.val % 64 < 16 then _ else _
  by_cases h8 : j.val % 64 < 8
  · have eb : b.val = j.val + 8 := by rw [hb]; exact Nat.mod_eq_of_lt (by omega)
    rw [if_pos h8, if_pos (by omega), if_neg (by omega), if_pos h8, zero_bits, mul_zero, add_zero, hT b (by omega), mul_neg, ← sub_eq_add_neg]
    rw [show (⟨b.val % 64, by omega⟩ : Fin 64) = ⟨(j.val % 64 + 8) % 64, by omega⟩ from Fin.ext (by show b.val % 64 = (j.val % 64 + 8) % 64; omega)]
  · rw [if_neg h8, if_neg h8]
    by_cases h16 : j.val % 64 < 16
    · have ea : a.val = j.val - 8 := by
        rw [ha, show j.val + n - 8 = (j.val - 8) + n by omega, Nat.add_mod_right]
        exact Nat.mod_eq_of_lt (by omega)
      rw [if_pos h16, if_pos h16, if_pos ⟨by omega, h16⟩, zero_bits, mul_zero, add_zero, hT a (by omega)]
      rw [show (⟨a.val % 64, by omega⟩ : Fin 64) = ⟨(j.val % 64 - 8) % 64, by omega⟩ from Fin.ext (by show a.val % 64 = (j.val % 64 - 8) % 64; omega)]
    · rw [if_neg h16, if_neg h16, if_neg (fun h => h16 h.2), one_bits, zero_bits, mul_zero, mul_zero, add_zero, add_zero, mul_one]

/-- A product with the table of head averages is the mean over the head. -/
theorem mean_of {n : ℕ} (H : ℕ) (hn : n = 64 * H) (f B : Fin n → EReal) (h : ℕ) (hh : h < H)
    (hB : ∀ e : Fin n, B e = if e.val / 64 = h then (Ideal.ofBits FTy.f32 1015021568#32 : EReal) else 0) :
    ∑ e : Fin n, f e * B e = Ideal.div (∑ d : Fin 64, f ⟨64 * h + d.val, by omega⟩) (Ideal.ofBits .f32 0x42800000#32) := by
  have hc : (Ideal.ofBits FTy.f32 1015021568#32 : EReal) = ((1 / 64 : ℝ) : EReal) := by
    simp [Ideal.ofBits, Ideal.ieee]
    try rw [← EReal.coe_mul]
    try norm_num
  have hd : (Ideal.ofBits .f32 0x42800000#32 : EReal) = ((64 : ℝ) : EReal) := by
    simp [Ideal.ofBits, Ideal.ieee]
    try rw [← EReal.coe_mul]
    try norm_num
  have hdiv : ∀ x : EReal, Ideal.div x (Ideal.ofBits .f32 0x42800000#32) = x * ((1 / 64 : ℝ) : EReal) := fun x => by
    rw [hd]
    unfold Ideal.div
    rw [if_neg (by norm_num), ← EReal.coe_inv]
    norm_num
  rw [hdiv]
  let mul64 : EReal →+ EReal :=
    { toFun := fun y => ((1 / 64 : ℝ) : EReal) * y
      map_zero' := mul_zero _
      map_add' := fun y z => EReal.left_distrib_of_nonneg_of_ne_top (by exact_mod_cast (by norm_num : (0 : ℝ) ≤ 1 / 64)) (EReal.coe_ne_top _) y z }
  have hm : ∀ x : EReal, x * ((1 / 64 : ℝ) : EReal) = mul64 x := fun x => mul_comm _ _
  have h1 : ∀ e : Fin n, f e * B e = if e.val / 64 = h then f e * ((1 / 64 : ℝ) : EReal) else 0 := fun e => by
    rw [hB e]
    by_cases he : e.val / 64 = h
    · rw [if_pos he, if_pos he, hc]
    · rw [if_neg he, if_neg he, mul_zero]
  rw [Finset.sum_congr rfl fun e _ => h1 e, ← Finset.sum_filter, hm, map_sum]
  refine Finset.sum_bij' (fun e _ => (⟨e.val % 64, by omega⟩ : Fin 64)) (fun d _ => (⟨64 * h + d.val, by omega⟩ : Fin n)) ?_ ?_ ?_ ?_ ?_
  · intro e _; exact Finset.mem_univ _
  · intro d _
    refine Finset.mem_filter.2 ⟨Finset.mem_univ _, ?_⟩
    show (64 * h + d.val) / 64 = h
    omega
  · intro e he
    have := (Finset.mem_filter.1 he).2
    exact Fin.ext (by show 64 * h + e.val % 64 = e.val; omega)
  · intro d _
    exact Fin.ext (by show (64 * h + d.val) % 64 = d.val; omega)
  · intro e he
    have := (Finset.mem_filter.1 he).2
    rw [← hm]
    rw [show (⟨64 * h + (⟨e.val % 64, by omega⟩ : Fin 64).val, by omega⟩ : Fin n) = e from Fin.ext (by show 64 * h + e.val % 64 = e.val; omega)]

/-- Within a head the kernel's normalization is the plain one. -/
theorem head_of {n : ℕ} (H : ℕ) (hn' : n = 64 * H) (P : Fin n → EReal) (Bd : Fin n → Fin n → EReal) (g : Fin n → EReal) (u g' : Fin 64 → EReal) (h : ℕ) (hh : h < H)
    (hP : ∀ e : Fin n, e.val / 64 = h → P e = u ⟨e.val % 64, by omega⟩) (hB : ∀ x e : Fin n, Bd x e = if x.val / 64 = e.val / 64 then (Ideal.ofBits FTy.f32 1015021568#32 : EReal) else 0)
    (hg : ∀ e : Fin n, g e = g' ⟨e.val % 64, by omega⟩) (e : Fin n) (he : e.val / 64 = h) :
    P e * Ideal.rsqrt (∑ x : Fin n, P x * P x * Bd x e + Ideal.ofBits .f32 897988541#32) * g e = hn u g' ⟨e.val % 64, by omega⟩ := by
  unfold hn
  rw [mean_of H hn' (fun x => P x * P x) (fun x => Bd x e) h hh (fun x => (hB x e).trans (by rw [he])), hP e he, hg e]
  refine congrArg (fun z => u _ * Ideal.rsqrt (Ideal.div z _ + _) * g' _) (Finset.sum_congr rfl fun d _ => ?_)
  have hd : P ⟨64 * h + d.val, by omega⟩ = u d := (hP _ (by show (64 * h + d.val) / 64 = h; omega)).trans (congrArg u (Fin.ext (by show (64 * h + d.val) % 64 = d.val; omega)))
  show P ⟨64 * h + d.val, by omega⟩ * P ⟨64 * h + d.val, by omega⟩ = u d * u d
  rw [hd]

/-- A row of the two inputs, the second after the first. -/
def xrow (x0 : (⟨3, ![8, 2048, 1024]⟩ : Shape).Idx → EReal) (x1 : (⟨3, ![16, 2048, 1024]⟩ : Shape).Idx → EReal) (R : Fin 49152) (a : Fin 1024) : EReal :=
  if h : R.val / 2048 < 8 then x0 (ix3 ⟨R.val / 2048, h⟩ ⟨R.val % 2048, by omega⟩ a) else x1 (ix3 ⟨R.val / 2048 - 8, by omega⟩ ⟨R.val % 2048, by omega⟩ a)

/-- One column of the product of the modulated row and the weight. -/
def col (x0 : (⟨3, ![8, 2048, 1024]⟩ : Shape).Idx → EReal) (x1 : (⟨3, ![16, 2048, 1024]⟩ : Shape).Idx → EReal) (mo : (⟨2, ![24, 6144]⟩ : Shape).Idx → EReal)
    (ga : (⟨1, ![1024]⟩ : Shape).Idx → EReal) (w : (⟨2, ![1024, 2304]⟩ : Shape).Idx → EReal) (R : Fin 49152) (l : Fin 2304) : EReal :=
  ∑ a : Fin 1024, Cert.Pw.norm (xrow x0 x1 R) (fun a => ga (ix1 a)) (fun a => mo (ix2 ⟨R.val / 2048, by omega⟩ ⟨a.val, by omega⟩)) (fun a => mo (ix2 ⟨R.val / 2048, by omega⟩ ⟨1024 + a.val, by omega⟩)) a
    * w (ix2 a l)

/-- The four results at a row and a column, from the columns of the product and the two head weights. -/
def outQ (P : Fin 49152 → Fin 2304 → EReal) (qn : (⟨1, ![64]⟩ : Shape).Idx → EReal) (R : Fin 49152) (j : Fin 512) : EReal :=
  rope (hn (fun d => P R ⟨64 * (j.val / 64) + d.val, by omega⟩) (fun d => qn (ix1 d))) (R.val % 2048) ⟨j.val % 64, by omega⟩ * Ideal.ofBits .f32 0x3E000000#32

def outK (P : Fin 49152 → Fin 2304 → EReal) (kn : (⟨1, ![64]⟩ : Shape).Idx → EReal) (R : Fin 49152) (j : Fin 256) : EReal :=
  rope (hn (fun d => P R ⟨512 + 64 * (j.val / 128) + d.val, by omega⟩) (fun d => kn (ix1 d))) (R.val % 2048) ⟨j.val % 64, by omega⟩

def outV (P : Fin 49152 → Fin 2304 → EReal) (R : Fin 49152) (j : Fin 256) : EReal := P R ⟨640 + 64 * (j.val / 128) + j.val % 64, by omega⟩

def outH (P : Fin 49152 → Fin 2304 → EReal) (R : Fin 49152) (j : Fin 1536) : EReal := P R ⟨768 + j.val, by omega⟩

/-- Head `h` of the product, normalized by one weight. -/
theorem hn_congr {u u' g g' : Fin 64 → EReal} (h0 : ∀ d, u d = u' d) (h1 : ∀ d, g d = g' d) : hn u g = hn u' g' := by
  rw [funext h0, funext h1]

end Cert.Inproj

end
-- ==== Proof.InprojTables.lean ====
module

public import proofs.«01_k».proof.Proof.Gen.ProjectionIdeal.Frame
public import proofs.«01_k».proof.Proof.InprojSpec
public import Idealize.ShloMosaic.Lib.Pipeline.ValueKit
public import Idealize.ShloMosaic.Lib.StableHlo.ReadAt
public import Idealize.ShloMosaic.Lib.StableHlo.Predicate
public import Idealize.ShloMosaic.Lib.Pointwise
public import Idealize.ShloMosaic.Lib.ValueIdx

@[expose] public section

set_option maxRecDepth 16384

noncomputable section

/-! The tables that the host makes for the projection: the positional ones, the one of head averages, the widened weight. -/

namespace Cert.Inproj

open Cert.ProjectionIdeal Cert.ProjectionIdeal.Gen Idealize.ShloMosaic Idealize.ShloMosaic.TcCoe Idealize.SL.Sem

variable (m : (ℓ : Loc nD τ sig) → Buf (Elt Ideal) ℓ) (c : Dev nD)

abbrev XP : S8x2048x1024.Idx → EReal := m ((c : Thread nD τ).loc main_arg0)
abbrev XS : S16x2048x1024.Idx → EReal := m ((c : Thread nD τ).loc main_arg1)
abbrev MO : S24x6144.Idx → EReal := m ((c : Thread nD τ).loc main_arg2)
abbrev GA : S1024.Idx → EReal := m ((c : Thread nD τ).loc main_arg3)
abbrev WI : S1024x2304.Idx → EReal := m ((c : Thread nD τ).loc main_arg4)
abbrev QN : S64.Idx → EReal := m ((c : Thread nD τ).loc main_arg5)
abbrev KN : S64.Idx → EReal := m ((c : Thread nD τ).loc main_arg6)

/-- A table's column picked by an index vector. -/
theorem pick (x : S2048x8.Idx → EReal) (idx : IVec S512x1 32) (p : Fin 2048) (l : Fin 512) (b : Fin 8) (hb : idx (ix2 l 0) = BitVec.ofNat 32 b.val) :
    Host.gather gather_S2048x8_S512x1_S2048x512_0_1_n_n_1_1_20481 x idx (ix2 p l) = x (ix2 p b) := by
  unfold Host.gather
  refine congrArg x (funext fun a => Fin.ext ?_)
  match a with
  | ⟨0, _⟩ =>
    show GatherDims.start _ (ix2 p l) idx 0 + GatherDims.batchCoord _ (ix2 p l) 0 + GatherDims.offCoord _ (ix2 p l) 0 = p.val
    have h0 : GatherDims.start gather_S2048x8_S512x1_S2048x512_0_1_n_n_1_1_20481 (ix2 p l) idx 0 = 0 := by
      unfold GatherDims.start
      exact dif_neg (by decide)
    rw [h0, GatherDims.batchCoord_eq_zero _ _ _ (by decide)]
    unfold GatherDims.offCoord
    rw [dif_pos (by decide)]
    simp only [Nat.zero_add]
    rfl
  | ⟨1, _⟩ =>
    show GatherDims.start _ (ix2 p l) idx 1 + GatherDims.batchCoord _ (ix2 p l) 1 + GatherDims.offCoord _ (ix2 p l) 1 = b.val
    rw [GatherDims.batchCoord_eq_zero _ _ _ (by decide), GatherDims.offCoord_eq_zero _ _ _ (by decide)]
    have h1 : GatherDims.start gather_S2048x8_S512x1_S2048x512_0_1_n_n_1_1_20481 (ix2 p l) idx 1 = min (idx (ix2 l 0)).toInt.toNat 7 := by
      unfold GatherDims.start
      rw [dif_pos (by decide)]
      refine congrArg (fun z => min (idx z).toInt.toNat 7) (funext fun k => Fin.ext ?_)
      match k with
      | ⟨0, _⟩ => rfl
      | ⟨1, _⟩ => rfl
    rw [h1, hb, StableHlo.Predicate.toInt_ofNat_small _ (by omega)]
    show min ((b.val : Int)).toNat 7 + 0 + 0 = b.val
    omega

theorem V74_apply (R : Fin 16384) (a : Fin 1024) : V m c main_v74 (ix2 R a) = XP m c (ix3 ⟨R.val / 2048, by omega⟩ ⟨R.val % 2048, by omega⟩ a) := by
  unfold V
  after_reads_at

theorem V75_apply (R : Fin 32768) (a : Fin 1024) : V m c main_v75 (ix2 R a) = XS m c (ix3 ⟨R.val / 2048, by omega⟩ ⟨R.val % 2048, by omega⟩ a) := by
  unfold V
  after_reads_at

theorem V76_apply (b : Fin 24) (a : Fin 6144) : V m c main_v76 (ix3 b 0 a) = MO m c (ix2 b a) := by
  unfold V
  after_reads_at

theorem V77_apply (a : Fin 1024) : V m c main_v77 (ix2 0 a) = GA m c (ix1 a) := by
  unfold V
  after_reads_at

theorem V81_apply (a : Fin 512) : V m c main_v81 (ix2 0 a) = QN m c (ix1 ⟨a.val % 64, by omega⟩) := by
  unfold V
  after_reads_at

theorem V85_apply (a : Fin 256) : V m c main_v85 (ix2 0 a) = KN m c (ix1 ⟨a.val % 64, by omega⟩) := by
  unfold V
  after_reads_at

/-- The host's division rounding down, by 64. -/
def fdiv (a : BitVec 32) : BitVec 32 :=
  Scalar.select
          (IntOp.andi
            (IntOp.cmpi CmpIPredicate.ne
              (if a = 0 then 0 else if a.msb = true then -1 else 1 : BitVec 32)
              (if id (constantI S_ 32 64#32) ix0 = 0 then 0
              else if BitVec.msb (id (constantI S_ 32 64#32) ix0) = true then -1 else 1 : BitVec 32))
            (IntOp.cmpi CmpIPredicate.ne
              (IntOp.remsi ArithUnit.host a (id (constantI S_ 32 64#32) ix0)) 0#32))
          (IntOp.subi (IntOp.divsi ArithUnit.host a (id (constantI S_ 32 64#32) ix0)) 1#32)
          (IntOp.divsi ArithUnit.host a (id (constantI S_ 32 64#32) ix0))

theorem fdiv_eq : ∀ a : Fin 512, fdiv (BitVec.ofNat 32 a.val) = BitVec.ofNat 32 (a.val / 64) := by decide +kernel

theorem same_head : ∀ a b : Fin 8, IntOp.cmpi CmpIPredicate.eq (BitVec.ofNat 32 a.val) (BitVec.ofNat 32 b.val) = if a.val = b.val then 1#1 else 0#1 := by decide +kernel

/-- The table of head averages. -/
theorem V61_apply (a b : Fin 512) : V m c main_v61 (ix2 a b) = (if a.val / 64 = b.val / 64 then (Ideal.ofBits FTy.f32 1015021568#32 : EReal) else 0 : EReal) := by
  have h : V m c main_v61 (ix2 a b) = (Scalar.select (IntOp.cmpi CmpIPredicate.eq (fdiv (BitVec.ofNat 32 a.val)) (fdiv (BitVec.ofNat 32 b.val))) (Ideal.ofBits FTy.f32 1015021568#32 : EReal) 0 : EReal) := by
    unfold V fdiv
    after_reads_at
  refine h.trans ?_
  rw [fdiv_eq, fdiv_eq, same_head ⟨a.val / 64, by omega⟩ ⟨b.val / 64, by omega⟩]
  show _ = _
  by_cases hab : a.val / 64 = b.val / 64
  · rw [if_pos hab, if_pos hab]; rfl
  · rw [if_neg hab, if_neg hab]; rfl

/-- The column of the given weight that stands in a column of the widened one. -/
def wcol (l : ℕ) : ℕ := if l < 512 then l else if l < 768 then 512 + (l - 512) / 128 * 64 + l % 64 else if l < 1024 then 640 + (l - 768) / 128 * 64 + l % 64 else l - 256

theorem wcol_lt (l : Fin 2560) : wcol l.val < 2304 := by
  unfold wcol; split_ifs <;> omega

theorem V62_apply (a : Fin 1024) (l : Fin 512) : V m c main_v62 (ix2 a l) = WI m c (ix2 a ⟨l.val, by omega⟩) := by
  unfold V
  after_reads_at
theorem V66_apply (a : Fin 1024) (l : Fin 256) : V m c main_v66 (ix2 a l) = WI m c (ix2 a ⟨512 + (l.val / 128 * 64 + l.val % 64), by omega⟩) := by
  unfold V
  after_reads_at
theorem V70_apply (a : Fin 1024) (l : Fin 256) : V m c main_v70 (ix2 a l) = WI m c (ix2 a ⟨640 + (l.val / 128 * 64 + l.val % 64), by omega⟩) := by
  unfold V
  after_reads_at
theorem V71_apply (a : Fin 1024) (l : Fin 1536) : V m c main_v71 (ix2 a l) = WI m c (ix2 a ⟨768 + l.val, by omega⟩) := by
  unfold V
  after_reads_at
theorem V73_step (a : Fin 1024) (l : Fin 2560) : V m c main_v73 (ix2 a l) =
   (if h : l.val < 512 then V m c main_v62 (ix2 a ⟨l.val, h⟩) else if h' : l.val - 512 < 256 then V m c main_v66 (ix2 a ⟨l.val - 512, h'⟩) else
     if h' : l.val - 512 - 256 < 256 then V m c main_v70 (ix2 a ⟨l.val - 512 - 256, h'⟩) else V m c main_v71 (ix2 a ⟨l.val - 512 - 256 - 256, by omega⟩) : EReal) := by
  unfold V
  after_reads_at
  split_ifs <;> after_reads_at

theorem V73_apply (a : Fin 1024) (l : Fin 2560) : V m c main_v73 (ix2 a l) = WI m c (ix2 a ⟨wcol l.val, wcol_lt l⟩) := by
  refine (V73_step m c a l).trans ?_
  have hl := l.isLt
  have hw : ∀ u v : Fin 2304, u.val = v.val → WI m c (ix2 a u) = WI m c (ix2 a v) := fun u v h => by rw [Fin.ext h]
  have hv : ∀ n, wcol n = if n < 512 then n else if n < 768 then 512 + (n - 512) / 128 * 64 + n % 64 else if n < 1024 then 640 + (n - 768) / 128 * 64 + n % 64 else n - 256 := fun n => rfl
  by_cases h0 : l.val < 512
  · rw [dif_pos h0]
    refine (V62_apply m c a _).trans (hw _ _ ?_)
    show l.val = wcol l.val
    rw [hv, if_pos h0]
  · rw [dif_neg h0]
    by_cases h1 : l.val - 512 < 256
    · rw [dif_pos h1]
      refine (V66_apply m c a _).trans (hw _ _ ?_)
      show 512 + ((l.val - 512) / 128 * 64 + (l.val - 512) % 64) = wcol l.val
      rw [hv, if_neg h0, if_pos (by omega)]
      omega
    · rw [dif_neg h1]
      by_cases h2 : l.val - 512 - 256 < 256
      · rw [dif_pos h2]
        refine (V70_apply m c a _).trans (hw _ _ ?_)
        show 640 + ((l.val - 512 - 256) / 128 * 64 + (l.val - 512 - 256) % 64) = wcol l.val
        rw [hv, if_neg h0, if_neg (by omega), if_pos (by omega)]
        omega
      · rw [dif_neg h2]
        refine (V71_apply m c a _).trans (hw _ _ ?_)
        show 768 + (l.val - 512 - 256 - 256) = wcol l.val
        rw [hv, if_neg h0, if_neg (by omega), if_neg (by omega)]
        omega

theorem V20_apply (l : Fin 512) : V m c main_v20 (ix1 l) = if l.val % 64 < 16 then 1#1 else 0#1 := by
  unfold V
  after_reads_at
  revert l
  decide +kernel

theorem V26_apply (l : Fin 512) : V m c main_v26 (ix2 l 0) = BitVec.ofNat 32 (l.val % 64 % 8) := by
  unfold V
  after_reads_at
  revert l
  decide +kernel

theorem V27_apply (p : Fin 2048) (l : Fin 512) : V m c main_v27 (ix2 p l) = V m c main_v14 (ix2 p ⟨l.val % 64 % 8, by omega⟩) := by
  have h : V m c main_v27 = Host.gather gather_S2048x8_S512x1_S2048x512_0_1_n_n_1_1_20481 (V m c main_v14) (V m c main_v26) := by
    unfold V
    after_reads_simp
  rw [h]
  exact pick _ _ p l ⟨l.val % 64 % 8, by omega⟩ (V26_apply m c l)

theorem V28_apply (p : Fin 2048) (l : Fin 512) : V m c main_v28 (ix2 p l) = (if l.val % 64 < 16 then V m c main_v14 (ix2 p ⟨l.val % 64 % 8, by omega⟩) else Ideal.ofBits .f32 1065353216#32 : EReal) := by
  have h : V m c main_v28 (ix2 p l) = (Scalar.select (V m c main_v20 (ix1 l)) (V m c main_v27 (ix2 p l) : EReal) (Ideal.ofBits .f32 1065353216#32 : EReal) : EReal) := by
    unfold V
    after_reads_simp
    simp -implicitDefEqProofs only [StableHlo.TRef.toBuf, StableHlo.TRef.ofBuf, cast_cast, cast_eq]
    rfl
  rw [h, V20_apply, V27_apply]
  by_cases hl : l.val % 64 < 16
  · rw [if_pos hl, if_pos hl]; rfl
  · rw [if_neg hl, if_neg hl]; rfl

theorem V33_apply (l : Fin 512) : V m c main_v33 (ix1 l) = if 8 ≤ l.val % 64 ∧ l.val % 64 < 16 then 1#1 else 0#1 := by
  unfold V
  after_reads_at
  revert l
  decide +kernel

theorem V39_apply (l : Fin 512) : V m c main_v39 (ix2 l 0) = BitVec.ofNat 32 (l.val % 64 % 8) := by
  unfold V
  after_reads_at
  revert l
  decide +kernel

theorem V40_apply (p : Fin 2048) (l : Fin 512) : V m c main_v40 (ix2 p l) = V m c main_v15 (ix2 p ⟨l.val % 64 % 8, by omega⟩) := by
  have h : V m c main_v40 = Host.gather gather_S2048x8_S512x1_S2048x512_0_1_n_n_1_1_20481 (V m c main_v15) (V m c main_v39) := by
    unfold V
    after_reads_simp
  rw [h]
  exact pick _ _ p l ⟨l.val % 64 % 8, by omega⟩ (V39_apply m c l)

theorem V41_apply (p : Fin 2048) (l : Fin 512) : V m c main_v41 (ix2 p l) = (if 8 ≤ l.val % 64 ∧ l.val % 64 < 16 then V m c main_v15 (ix2 p ⟨l.val % 64 % 8, by omega⟩) else Ideal.ofBits .f32 0#32 : EReal) := by
  have h : V m c main_v41 (ix2 p l) = (Scalar.select (V m c main_v33 (ix1 l)) (V m c main_v40 (ix2 p l) : EReal) (Ideal.ofBits .f32 0#32 : EReal) : EReal) := by
    unfold V
    after_reads_simp
    simp -implicitDefEqProofs only [StableHlo.TRef.toBuf, StableHlo.TRef.ofBuf, cast_cast, cast_eq]
    rfl
  rw [h, V33_apply, V40_apply]
  by_cases hl : 8 ≤ l.val % 64 ∧ l.val % 64 < 16
  · rw [if_pos hl, if_pos hl]; rfl
  · rw [if_neg hl, if_neg hl]; rfl

theorem V43_apply (l : Fin 512) : V m c main_v43 (ix1 l) = if l.val % 64 < 8 then 1#1 else 0#1 := by
  unfold V
  after_reads_at
  revert l
  decide +kernel

theorem V49_apply (l : Fin 512) : V m c main_v49 (ix2 l 0) = BitVec.ofNat 32 (l.val % 64 % 8) := by
  unfold V
  after_reads_at
  revert l
  decide +kernel

theorem V50_apply (p : Fin 2048) (l : Fin 512) : V m c main_v50 (ix2 p l) = V m c main_v15 (ix2 p ⟨l.val % 64 % 8, by omega⟩) := by
  have h : V m c main_v50 = Host.gather gather_S2048x8_S512x1_S2048x512_0_1_n_n_1_1_20481 (V m c main_v15) (V m c main_v49) := by
    unfold V
    after_reads_simp
  rw [h]
  exact pick _ _ p l ⟨l.val % 64 % 8, by omega⟩ (V49_apply m c l)

theorem V52_apply (p : Fin 2048) (l : Fin 512) : V m c main_v52 (ix2 p l) = (if l.val % 64 < 8 then Neg.neg (α := EReal) (V m c main_v15 (ix2 p ⟨l.val % 64 % 8, by omega⟩)) else Ideal.ofBits .f32 0#32 : EReal) := by
  have h : V m c main_v52 (ix2 p l) = (Scalar.select (V m c main_v43 (ix1 l)) (Neg.neg (α := EReal) (V m c main_v50 (ix2 p l))) (Ideal.ofBits .f32 0#32 : EReal) : EReal) := by
    unfold V
    after_reads_simp
    simp -implicitDefEqProofs only [StableHlo.TRef.toBuf, StableHlo.TRef.ofBuf, cast_cast, cast_eq]
    rfl
  rw [h, V43_apply, V50_apply]
  by_cases hl : l.val % 64 < 8
  · rw [if_pos hl, if_pos hl]; rfl
  · rw [if_neg hl, if_neg hl]; rfl

theorem V14_apply (p : Fin 2048) (j : Fin 8) : V m c main_v14 (ix2 p j) = Ideal.cos (ang p.val j.val) := by
  unfold V ang
  after_reads_at

theorem V15_apply (p : Fin 2048) (j : Fin 8) : V m c main_v15 (ix2 p j) = Ideal.sin (ang p.val j.val) := by
  unfold V ang
  after_reads_at

/-- The three positional tables. -/
theorem cosT (p : Fin 2048) (l : Fin 512) : V m c main_v28 (ix2 p l) = (if l.val % 64 < 16 then Ideal.cos (ang p.val (l.val % 64 % 8)) else Ideal.ofBits .f32 1065353216#32 : EReal) := by
  rw [V28_apply, V14_apply]

theorem sinR (p : Fin 2048) (l : Fin 512) : V m c main_v41 (ix2 p l) = (if 8 ≤ l.val % 64 ∧ l.val % 64 < 16 then Ideal.sin (ang p.val (l.val % 64 % 8)) else Ideal.ofBits .f32 0#32 : EReal) := by
  rw [V41_apply, V15_apply]

theorem sinL (p : Fin 2048) (l : Fin 512) : V m c main_v52 (ix2 p l) = (if l.val % 64 < 8 then -Ideal.sin (ang p.val (l.val % 64 % 8)) else Ideal.ofBits .f32 0#32 : EReal) := by
  rw [V52_apply, V15_apply]

end Cert.Inproj

end
-- ==== Proof.InprojBlocks.lean ====
module

public import proofs.«01_k».proof.Proof.Gen.ProjectionIdeal.Value
public import proofs.«01_k».proof.Proof.InprojTables
public import Idealize.ShloMosaic.Lib.Pipeline.ValueKit
public import Idealize.ShloMosaic.Lib.StableHlo.ReadAt
public import Idealize.ShloMosaic.Lib.StableHlo.Predicate
public import Idealize.ShloMosaic.Lib.Pointwise
public import Idealize.ShloMosaic.Lib.ValueIdx

@[expose] public section

set_option maxRecDepth 16384

noncomputable section

/-! The projection call: what one block of rows is turned into, and its blocks. -/

namespace Cert.Inproj

open Cert.ProjectionIdeal Cert.ProjectionIdeal.Gen Idealize.ShloMosaic Idealize.ShloMosaic.TcCoe Idealize.SL.Sem

variable (m : (ℓ : Loc nD τ sig) → Buf (Elt Ideal) ℓ) (c : Dev nD)

theorem proj_at (i : grid0.Coords) (v0 : Vec Ideal S1x1x6144 .f32) (v3 v5 : Vec Ideal S512x1024 .f32) (v8 : Vec Ideal S1x1024 .f32) (v31 : Vec Ideal S1024x2560 .bf16) (r : Fin 512) (l : Fin 2560) :
    k0_pay5 (F := Ideal) i v0 v3 v5 v8 v31 (ix2 r l)
      = ∑ a : Fin 1024, Cert.Pw.norm (fun a => (Scalar.select (Scalar.cmpi .slt (BitVec.ofNat 32 (i 0).val) 32#32) v3 v5 : Vec Ideal S512x1024 .f32) (ix2 r a)) (fun a => v8 (ix2 0 a)) (fun a => v0 (ix3 0 0 ⟨a.val, by omega⟩)) (fun a => v0 (ix3 0 0 ⟨1024 + a.val, by omega⟩)) a * v31 (ix2 a l) := by
  unfold k0_pay5 Cert.Pw.norm
  pointwise

/-- A row of a head-wise normalization as the kernel computes it. -/
def tn {n : ℕ} (P : Fin n → EReal) (Bd : Fin n → Fin n → EReal) (g : Fin n → EReal) (e : Fin n) : EReal :=
  P e * Ideal.rsqrt (∑ x : Fin n, P x * P x * Bd x e + Ideal.ofBits .f32 897988541#32) * g e

theorem q_at (v34 v37 : FVec Ideal S512x512 .f32) (v38 v40 : Vec Ideal S512x512 .f32) (v42 : Vec Ideal S512x512 .bf16) (v44 : Vec Ideal S1x512 .f32) (r j : Fin 512) :
    k0_pay1 (F := Ideal) (k0_pay12 (F := Ideal) v34 v37 v38 v40 v42 v44) (ix2 r j)
      = (tn (fun e => v34 (ix2 r e)) (fun x e => v42 (ix2 x e)) (fun e => v44 (ix2 0 e)) j * v37 (ix2 r j)
        + tn (fun e => v34 (ix2 r e)) (fun x e => v42 (ix2 x e)) (fun e => v44 (ix2 0 e)) ⟨(j.val + 512 - 8) % 512, by omega⟩ * v38 (ix2 r j)
        + tn (fun e => v34 (ix2 r e)) (fun x e => v42 (ix2 x e)) (fun e => v44 (ix2 0 e)) ⟨(j.val + 512 - 504) % 512, by omega⟩ * v40 (ix2 r j)) * Ideal.ofBits .f32 0x3E000000#32 := by
  unfold tn
  pointwise [k0_pay1, k0_pay12, k0_pay11, k0_pay10, k0_pay9]

theorem kn_at (v35 : FVec Ideal S512x256 .f32) (v42 : Vec Ideal S512x512 .bf16) (v62 : Vec Ideal S1x256 .f32) (r : Fin 512) (j : Fin 256) :
    k0_pay14 (F := Ideal) v35 v42 v62 (ix2 r j)
      = tn (fun e => v35 (ix2 r e)) (fun x e : Fin 256 => v42 (ix2 ⟨x.val, by omega⟩ ⟨e.val, by omega⟩)) (fun e => v62 (ix2 0 e)) j := by
  unfold tn
  pointwise [k0_pay14, k0_pay11]

theorem k_at (v35 : FVec Ideal S512x256 .f32) (v37 : FVec Ideal S512x512 .f32) (v38 v40 : Vec Ideal S512x512 .f32) (v42 : Vec Ideal S512x512 .bf16) (v62 : Vec Ideal S1x256 .f32) (r : Fin 512) (j : Fin 256) :
    k0_pay2 (F := Ideal) (k0_pay13 v40) (k0_pay15 v35 v37 v38 v42 v62) (k0_pay16 v35 v42 v62) (ix2 r j)
      = k0_pay14 (F := Ideal) v35 v42 v62 (ix2 r j) * v37 (ix2 r ⟨j.val, by omega⟩)
        + k0_pay14 (F := Ideal) v35 v42 v62 (ix2 r ⟨(j.val + 256 - 8) % 256, by omega⟩) * v38 (ix2 r ⟨j.val, by omega⟩)
        + k0_pay14 (F := Ideal) v35 v42 v62 (ix2 r ⟨(j.val + 256 - 248) % 256, by omega⟩) * v40 (ix2 r ⟨j.val, by omega⟩) := by
  unfold k0_pay15 k0_pay16
  generalize k0_pay14 (F := Ideal) v35 v42 v62 = T
  pointwise [k0_pay2, k0_pay13, k0_pay9, k0_pay10]

theorem slices_at (i : grid0.Coords) (v0 : Vec Ideal S1x1x6144 .f32) (v3 v5 : Vec Ideal S512x1024 .f32) (v8 : Vec Ideal S1x1024 .f32) (v31 : Vec Ideal S1024x2560 .bf16) (r : Fin 512) :
    (∀ j : Fin 512, k0_pay6 (F := Ideal) i v0 v3 v5 v8 v31 (ix2 r j) = k0_pay5 (F := Ideal) i v0 v3 v5 v8 v31 (ix2 r ⟨j.val, by omega⟩))
      ∧ (∀ j : Fin 256, k0_pay7 (F := Ideal) i v0 v3 v5 v8 v31 (ix2 r j) = k0_pay5 (F := Ideal) i v0 v3 v5 v8 v31 (ix2 r ⟨512 + j.val, by omega⟩))
      ∧ (∀ j : Fin 256, k0_pay3 (F := Ideal) (k0_pay5 (F := Ideal) i v0 v3 v5 v8 v31) (ix2 r j) = k0_pay5 (F := Ideal) i v0 v3 v5 v8 v31 (ix2 r ⟨768 + j.val, by omega⟩))
      ∧ (∀ j : Fin 1536, k0_pay4 (F := Ideal) (k0_pay5 (F := Ideal) i v0 v3 v5 v8 v31) (ix2 r j) = k0_pay5 (F := Ideal) i v0 v3 v5 v8 v31 (ix2 r ⟨1024 + j.val, by omega⟩)) := by
  unfold k0_pay6 k0_pay7
  generalize k0_pay5 (F := Ideal) i v0 v3 v5 v8 v31 = X
  refine ⟨fun j => ?_, fun j => ?_, fun j => ?_, fun j => ?_⟩
  · pointwise
  · pointwise
  · pointwise [k0_pay3]
  · pointwise [k0_pay4]

theorem idx0 : ∀ t : Fin cfg0.N, win0_0.index t = ![min t.val 31, 0] := (by decide +kernel : ∀ t : Fin grid0.N, win0_0.index t = ![min t.val 31, 0])
theorem idx1 : ∀ t : Fin cfg0.N, win0_1.index t = ![t.val - 32, 0] := (by decide +kernel : ∀ t : Fin grid0.N, win0_1.index t = ![t.val - 32, 0])
theorem idx2 : ∀ t : Fin cfg0.N, win0_2.index t = ![t.val / 4, 0, 0] := (by decide +kernel : ∀ t : Fin grid0.N, win0_2.index t = ![t.val / 4, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val % 4, 0] := (by decide +kernel : ∀ t : Fin grid0.N, win0_8.index t = ![t.val % 4, 0])
theorem idx9 : ∀ t : Fin cfg0.N, win0_9.index t = ![t.val % 4, 0] := (by decide +kernel : ∀ t : Fin grid0.N, win0_9.index t = ![t.val % 4, 0])
theorem idx10 : ∀ t : Fin cfg0.N, win0_10.index t = ![t.val % 4, 0] := (by decide +kernel : ∀ t : Fin grid0.N, win0_10.index t = ![t.val % 4, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])

theorem coord : ∀ t : Fin cfg0.N, (grid0.coords t 0).val = t.val := (by decide +kernel : ∀ t : Fin grid0.N, (grid0.coords t 0).val = t.val)

theorem first_part : ∀ t : Fin 96, (Scalar.cmpi .slt (BitVec.ofNat 32 t.val) 32#32 : BitVec 1) = if t.val < 32 then 1#1 else 0#1 := by decide +kernel

theorem t_lt (t : Fin cfg0.N) : t.val < 96 := t.isLt

theorem blk0 (t : Fin cfg0.N) (r : Fin 512) (a : Fin 1024) :
    iblk m c 0 t (ix2 r a) = V m c main_v74 (ix2 ⟨min t.val 31 * 512 + r.val, by have := t_lt t; have := r.isLt; omega⟩ a) := by
  blk_ext [iblk, idx0 t]

theorem blk1 (t : Fin cfg0.N) (r : Fin 512) (a : Fin 1024) :
    iblk m c 1 t (ix2 r a) = V m c main_v75 (ix2 ⟨(t.val - 32) * 512 + r.val, by have := t_lt t; have := r.isLt; omega⟩ a) := by
  blk_ext [iblk, idx1 t]

theorem blk2 (t : Fin cfg0.N) (a : Fin 6144) : iblk m c 2 t (ix3 0 0 a) = V m c main_v76 (ix3 ⟨t.val / 4, by have := t_lt t; omega⟩ 0 a) := by
  blk_ext [iblk, idx2 t]

theorem blk3 (t : Fin cfg0.N) (a : Fin 1024) : iblk m c 3 t (ix2 0 a) = V m c main_v77 (ix2 0 a) := by
  blk_ext [iblk, idx3 t]

theorem blk4 (t : Fin cfg0.N) (a : Fin 1024) (l : Fin 2560) : iblk m c 4 t (ix2 a l) = V m c main_v73 (ix2 a l) := by
  blk_ext [iblk, idx4 t]

theorem blk5 (t : Fin cfg0.N) (a : Fin 512) : iblk m c 5 t (ix2 0 a) = V m c main_v81 (ix2 0 a) := by
  blk_ext [iblk, idx5 t]

theorem blk6 (t : Fin cfg0.N) (a : Fin 256) : iblk m c 6 t (ix2 0 a) = V m c main_v85 (ix2 0 a) := by
  blk_ext [iblk, idx6 t]

theorem blk7 (t : Fin cfg0.N) (a b : Fin 512) : iblk m c 7 t (ix2 a b) = V m c main_v61 (ix2 a b) := by
  blk_ext [iblk, idx7 t]

theorem blk8 (t : Fin cfg0.N) (r a : Fin 512) : iblk m c 8 t (ix2 r a) = V m c main_v28 (ix2 ⟨t.val % 4 * 512 + r.val, by have := r.isLt; omega⟩ a) := by
  blk_ext [iblk, idx8 t]

theorem blk9 (t : Fin cfg0.N) (r a : Fin 512) : iblk m c 9 t (ix2 r a) = V m c main_v41 (ix2 ⟨t.val % 4 * 512 + r.val, by have := r.isLt; omega⟩ a) := by
  blk_ext [iblk, idx9 t]

theorem blk10 (t : Fin cfg0.N) (r a : Fin 512) : iblk m c 10 t (ix2 r a) = V m c main_v52 (ix2 ⟨t.val % 4 * 512 + r.val, by have := r.isLt; omega⟩ a) := by
  blk_ext [iblk, idx10 t]

end Cert.Inproj

end
-- ==== Proof.InprojKernel.lean ====
module

public import proofs.«01_k».proof.Proof.Gen.ProjectionIdeal.Value
public import proofs.«01_k».proof.Proof.InprojBlocks
public import Idealize.ShloMosaic.Lib.Pipeline.ValueKit
public import Idealize.ShloMosaic.Lib.StableHlo.ReadAt
public import Idealize.ShloMosaic.Lib.StableHlo.Predicate
public import Idealize.ShloMosaic.Lib.Pointwise
public import Idealize.ShloMosaic.Lib.ValueIdx

@[expose] public section

set_option maxRecDepth 16384

noncomputable section

/-! The projection call's four result arrays after the run. -/

namespace Cert.Inproj

open Cert.ProjectionIdeal Cert.ProjectionIdeal.Gen Idealize.ShloMosaic Idealize.ShloMosaic.TcCoe Idealize.SL.Sem

variable (m : (ℓ : Loc nD τ sig) → Buf (Elt Ideal) ℓ) (c : Dev nD)

/-- The columns of the product, from the buffers. -/
abbrev P : Fin 49152 → Fin 2304 → EReal := col (XP m c) (XS m c) (MO m c) (GA m c) (WI m c)

theorem norm_congr {x x' w w' sh sh' sc sc' : Fin 1024 → EReal} (h0 : ∀ a, x a = x' a) (h1 : ∀ a, w a = w' a) (h2 : ∀ a, sh a = sh' a) (h3 : ∀ a, sc a = sc' a) (a : Fin 1024) :
    Cert.Pw.norm x w sh sc a = Cert.Pw.norm x' w' sh' sc' a := by
  rw [funext h0, funext h1, funext h2, funext h3]

/-- The row that a block takes, from the one input or the other. -/
theorem row_blk (t : Fin cfg0.N) (r : Fin 512) (a : Fin 1024) (R : Fin 49152) (hR : R.val = t.val * 512 + r.val) :
    (Scalar.select (Scalar.cmpi .slt (BitVec.ofNat 32 (grid0.coords t 0).val) 32#32) (iblk m c 0 t : Vec Ideal S512x1024 .f32) (iblk m c 1 t : Vec Ideal S512x1024 .f32) : Vec Ideal S512x1024 .f32) (ix2 r a)
      = xrow (XP m c) (XS m c) R a := by
  have ht := t_lt t
  have hr := r.isLt
  rw [coord t, first_part ⟨t.val, ht⟩]
  unfold xrow
  show Scalar.select (if t.val < 32 then 1#1 else 0#1) (iblk m c 0 t : Vec Ideal S512x1024 .f32) (iblk m c 1 t : Vec Ideal S512x1024 .f32) (ix2 r a) = _
  by_cases h : t.val < 32
  · have h' : R.val / 2048 < 8 := by omega
    rw [if_pos h, dif_pos h']
    refine (blk0 m c t r a).trans ((V74_apply m c _ a).trans ?_)
    have hx : ∀ (p p' : Fin 8) (q q' : Fin 2048), p.val = p'.val → q.val = q'.val → XP m c (ix3 p q a) = XP m c (ix3 p' q' a) := fun p p' q q' e e' => by rw [Fin.ext e, Fin.ext e']
    refine hx _ _ _ _ ?_ ?_
    · show (min t.val 31 * 512 + r.val) / 2048 = R.val / 2048
      rw [Nat.min_eq_left (by omega : t.val ≤ 31)]; omega
    · show (min t.val 31 * 512 + r.val) % 2048 = R.val % 2048
      rw [Nat.min_eq_left (by omega : t.val ≤ 31)]; omega
  · have h' : ¬ R.val / 2048 < 8 := by omega
    rw [if_neg h, dif_neg h']
    refine (blk1 m c t r a).trans ((V75_apply m c _ a).trans ?_)
    have hx : ∀ (p p' : Fin 16) (q q' : Fin 2048), p.val = p'.val → q.val = q'.val → XS m c (ix3 p q a) = XS m c (ix3 p' q' a) := fun p p' q q' e e' => by rw [Fin.ext e, Fin.ext e']
    refine hx _ _ _ _ ?_ ?_
    · show ((t.val - 32) * 512 + r.val) / 2048 = R.val / 2048 - 8
      omega
    · show ((t.val - 32) * 512 + r.val) % 2048 = R.val % 2048
      omega

/-- A block's product is the array's at the block's row. -/
theorem proj_blk (t : Fin cfg0.N) (r : Fin 512) (l : Fin 2560) (R : Fin 49152) (hR : R.val = t.val * 512 + r.val) (l' : Fin 2304) (hl : wcol l.val = l'.val) :
    k0_pay5 (F := Ideal) (grid0.coords t) (View.ld (iblk m c 2 t) r0_0) (View.ld (iblk m c 0 t) r0_1) (View.ld (iblk m c 1 t) r0_1) (View.ld (iblk m c 3 t) r0_2) (View.ld (iblk m c 4 t) r0_3) (ix2 r l)
      = P m c R l' := by
  have ht := t_lt t
  have hr := r.isLt
  have z2 : (![0, 0] : Fin 2 → ℕ) = fun _ => 0 := by decide
  have z3 : (![0, 0, 0] : Fin 3 → ℕ) = fun _ => 0 := by decide
  have e0 : View.ld (iblk m c 0 t) r0_1 = iblk m c 0 t := View.ld_unit_zero (S := S512x1024) z2 _ _
  have e1 : View.ld (iblk m c 1 t) r0_1 = iblk m c 1 t := View.ld_unit_zero (S := S512x1024) z2 _ _
  have e2 : View.ld (iblk m c 2 t) r0_0 = iblk m c 2 t := View.ld_unit_zero (S := S1x1x6144) z3 _ _
  have e3 : View.ld (iblk m c 3 t) r0_2 = iblk m c 3 t := View.ld_unit_zero (S := S1x1024) z2 _ _
  have e4 : View.ld (iblk m c 4 t) r0_3 = iblk m c 4 t := View.ld_unit_zero (S := S1024x2560) z2 _ _
  rw [e0, e1, e2, e3, e4]
  refine (proj_at _ _ _ _ _ _ r l).trans ?_
  have eb : (⟨t.val / 4, by omega⟩ : Fin 24) = ⟨R.val / 2048, by omega⟩ := Fin.ext (by show t.val / 4 = R.val / 2048; omega)
  have em : ∀ a : Fin 6144, iblk m c 2 t (ix3 0 0 a) = MO m c (ix2 ⟨R.val / 2048, by omega⟩ a) := fun a =>
    (blk2 m c t a).trans ((V76_apply m c _ a).trans (congrArg (fun b => MO m c (ix2 b a)) eb))
  have ew : (⟨wcol l.val, wcol_lt l⟩ : Fin 2304) = l' := Fin.ext hl
  exact Finset.sum_congr rfl fun a _ => congrArg₂ (fun u v : EReal => u * v)
    (norm_congr (fun a => row_blk m c t r a R hR) (fun a => (blk3 m c t a).trans (V77_apply m c a)) (fun a => em _) (fun a => em _) a)
    ((blk4 m c t a l).trans ((V73_apply m c a l).trans (congrArg (fun b => WI m c (ix2 a b)) ew)))

theorem pay8_at (v : Vec Ideal S512x512 .f32) (r j : Fin 512) : k0_pay8 (F := Ideal) v (ix2 r j) = v (ix2 r j) := by
  pointwise [k0_pay8]

/-- A normalized head, as the blocks have it. -/
theorem tn_of {n : ℕ} (H : ℕ) (hn' : n = 64 * H) (P : Fin n → EReal) (Bd : Fin n → Fin n → EReal) (g : Fin n → EReal) (u g' : Fin 64 → EReal) (h : ℕ) (hh : h < H)
    (hP : ∀ e : Fin n, e.val / 64 = h → P e = u ⟨e.val % 64, by omega⟩) (hB : ∀ x e : Fin n, Bd x e = if x.val / 64 = e.val / 64 then (Ideal.ofBits FTy.f32 1015021568#32 : EReal) else 0)
    (hg : ∀ e : Fin n, g e = g' ⟨e.val % 64, by omega⟩) (e : Fin n) (he : e.val / 64 = h) : tn P Bd g e = hn u g' ⟨e.val % 64, by omega⟩ :=
  head_of H hn' P Bd g u g' h hh hP hB hg e he

/-- The first result's block. -/
theorem q_blk (t : Fin cfg0.N) (r j : Fin 512) (R : Fin 49152) (hR : R.val = t.val * 512 + r.val) :
    k0_pay1 (F := Ideal) (k0_pay12 (k0_pay6 (grid0.coords t) (View.ld (iblk m c 2 t) r0_0) (View.ld (iblk m c 0 t) r0_1) (View.ld (iblk m c 1 t) r0_1) (View.ld (iblk m c 3 t) r0_2) (View.ld (iblk m c 4 t) r0_3))
      (k0_pay8 (View.ld (iblk m c 8 t) r0_4)) (View.ld (iblk m c 9 t) r0_4) (View.ld (iblk m c 10 t) r0_4) (View.ld (iblk m c 7 t) r0_4) (View.ld (iblk m c 5 t) r0_5)) (ix2 r j)
      = outQ (P m c) (QN m c) R j := by
  have ht := t_lt t
  have hr := r.isLt
  have hj := j.isLt
  have z2 : (![0, 0] : Fin 2 → ℕ) = fun _ => 0 := by decide
  have e5 : View.ld (iblk m c 5 t) r0_5 = iblk m c 5 t := View.ld_unit_zero (S := S1x512) z2 _ _
  have e7 : View.ld (iblk m c 7 t) r0_4 = iblk m c 7 t := View.ld_unit_zero (S := S512x512) z2 _ _
  have e8 : View.ld (iblk m c 8 t) r0_4 = iblk m c 8 t := View.ld_unit_zero (S := S512x512) z2 _ _
  have e9 : View.ld (iblk m c 9 t) r0_4 = iblk m c 9 t := View.ld_unit_zero (S := S512x512) z2 _ _
  have e10 : View.ld (iblk m c 10 t) r0_4 = iblk m c 10 t := View.ld_unit_zero (S := S512x512) z2 _ _
  rw [e5, e7, e8, e9, e10]
  refine (q_at _ _ _ _ _ _ r j).trans ?_
  unfold outQ
  have hp : R.val % 2048 = t.val % 4 * 512 + r.val := by omega
  rw [hp]
  refine congrArg (fun z : EReal => z * Ideal.ofBits .f32 0x3E000000#32) ?_
  refine rope_of 8 rfl _ (hn (fun d => P m c R ⟨64 * (j.val / 64) + d.val, by omega⟩) (fun d => QN m c (ix1 d))) j ⟨(j.val + 512 - 8) % 512, by omega⟩ ⟨(j.val + 512 - 504) % 512, by omega⟩ rfl
    (by show (j.val + 512 - 504) % 512 = (j.val + 8) % 512; omega) ?_ (t.val % 4 * 512 + r.val) _ _ _ ?_ ?_ ?_
  · intro e he
    refine tn_of 8 rfl _ _ _ (fun d => P m c R ⟨64 * (j.val / 64) + d.val, by omega⟩) (fun d => QN m c (ix1 d)) (j.val / 64) (by omega) ?_ ?_ ?_ e he
    · intro e he
      have hw : wcol e.val = 64 * (j.val / 64) + e.val % 64 := by
        have := e.isLt
        unfold wcol; rw [if_pos this]; omega
      exact ((slices_at _ _ _ _ _ _ r).1 e).trans (proj_blk m c t r _ R hR ⟨64 * (j.val / 64) + e.val % 64, by omega⟩ hw)
    · intro x e
      exact (blk7 m c t x e).trans (V61_apply m c x e)
    · intro e
      exact (blk5 m c t e).trans (V81_apply m c e)
  · exact (pay8_at _ r j).trans ((blk8 m c t r j).trans (cosT m c _ j))
  · exact (blk9 m c t r j).trans (sinR m c _ j)
  · exact (blk10 m c t r j).trans (sinL m c _ j)

/-- The second result's block. -/
theorem k_blk (t : Fin cfg0.N) (r : Fin 512) (j : Fin 256) (R : Fin 49152) (hR : R.val = t.val * 512 + r.val) :
    k0_pay2 (F := Ideal) (k0_pay13 (View.ld (iblk m c 10 t) r0_4))
      (k0_pay15 (k0_pay7 (grid0.coords t) (View.ld (iblk m c 2 t) r0_0) (View.ld (iblk m c 0 t) r0_1) (View.ld (iblk m c 1 t) r0_1) (View.ld (iblk m c 3 t) r0_2) (View.ld (iblk m c 4 t) r0_3))
        (k0_pay8 (View.ld (iblk m c 8 t) r0_4)) (View.ld (iblk m c 9 t) r0_4) (View.ld (iblk m c 7 t) r0_4) (View.ld (iblk m c 6 t) r0_6))
      (k0_pay16 (k0_pay7 (grid0.coords t) (View.ld (iblk m c 2 t) r0_0) (View.ld (iblk m c 0 t) r0_1) (View.ld (iblk m c 1 t) r0_1) (View.ld (iblk m c 3 t) r0_2) (View.ld (iblk m c 4 t) r0_3))
        (View.ld (iblk m c 7 t) r0_4) (View.ld (iblk m c 6 t) r0_6)) (ix2 r j)
      = outK (P m c) (KN m c) R j := by
  have ht := t_lt t
  have hr := r.isLt
  have hj := j.isLt
  have z2 : (![0, 0] : Fin 2 → ℕ) = fun _ => 0 := by decide
  have e6 : View.ld (iblk m c 6 t) r0_6 = iblk m c 6 t := View.ld_unit_zero (S := S1x256) z2 _ _
  have e7 : View.ld (iblk m c 7 t) r0_4 = iblk m c 7 t := View.ld_unit_zero (S := S512x512) z2 _ _
  have e8 : View.ld (iblk m c 8 t) r0_4 = iblk m c 8 t := View.ld_unit_zero (S := S512x512) z2 _ _
  have e9 : View.ld (iblk m c 9 t) r0_4 = iblk m c 9 t := View.ld_unit_zero (S := S512x512) z2 _ _
  have e10 : View.ld (iblk m c 10 t) r0_4 = iblk m c 10 t := View.ld_unit_zero (S := S512x512) z2 _ _
  rw [e6, e7, e8, e9, e10]
  refine (k_at _ _ _ _ _ _ r j).trans ?_
  unfold outK
  have hp : R.val % 2048 = t.val % 4 * 512 + r.val := by omega
  rw [hp]
  refine rope_of 4 rfl (fun e : Fin 256 => k0_pay14 (F := Ideal) _ _ _ (ix2 r e)) (hn (fun d => P m c R ⟨512 + 64 * (j.val / 128) + d.val, by omega⟩) (fun d => KN m c (ix1 d))) j
    ⟨(j.val + 256 - 8) % 256, by omega⟩ ⟨(j.val + 256 - 248) % 256, by omega⟩ rfl
    (by show (j.val + 256 - 248) % 256 = (j.val + 8) % 256; omega) ?_ (t.val % 4 * 512 + r.val) _ _ _ ?_ ?_ ?_
  · intro e he
    refine (kn_at _ _ _ r e).trans ?_
    refine tn_of 4 rfl _ _ _ (fun d => P m c R ⟨512 + 64 * (j.val / 128) + d.val, by omega⟩) (fun d => KN m c (ix1 d)) (j.val / 64) (by omega) ?_ ?_ ?_ e he
    · intro e he
      have hw : wcol (512 + e.val) = 512 + 64 * (j.val / 128) + e.val % 64 := by
        have := e.isLt
        unfold wcol; rw [if_neg (by omega), if_pos (by omega)]; omega
      exact ((slices_at _ _ _ _ _ _ r).2.1 e).trans (proj_blk m c t r _ R hR ⟨512 + 64 * (j.val / 128) + e.val % 64, by omega⟩ hw)
    · intro x e
      exact (blk7 m c t _ _).trans (V61_apply m c _ _)
    · intro e
      exact (blk6 m c t e).trans (V85_apply m c e)
  · exact (pay8_at _ r _).trans ((blk8 m c t r _).trans (cosT m c _ _))
  · exact (blk9 m c t r _).trans (sinR m c _ _)
  · exact (blk10 m c t r _).trans (sinL m c _ _)

theorem v_blk (t : Fin cfg0.N) (r : Fin 512) (j : Fin 256) (R : Fin 49152) (hR : R.val = t.val * 512 + r.val) :
    k0_pay3 (F := Ideal) (k0_pay5 (grid0.coords t) (View.ld (iblk m c 2 t) r0_0) (View.ld (iblk m c 0 t) r0_1) (View.ld (iblk m c 1 t) r0_1) (View.ld (iblk m c 3 t) r0_2) (View.ld (iblk m c 4 t) r0_3)) (ix2 r j)
      = outV (P m c) R j := by
  have hj := j.isLt
  refine ((slices_at _ _ _ _ _ _ r).2.2.1 j).trans (proj_blk m c t r _ R hR _ ?_)
  show wcol (768 + j.val) = 640 + 64 * (j.val / 128) + j.val % 64
  unfold wcol; rw [if_neg (by omega), if_neg (by omega), if_pos (by omega)]; omega

theorem h_blk (t : Fin cfg0.N) (r : Fin 512) (j : Fin 1536) (R : Fin 49152) (hR : R.val = t.val * 512 + r.val) :
    k0_pay4 (F := Ideal) (k0_pay5 (grid0.coords t) (View.ld (iblk m c 2 t) r0_0) (View.ld (iblk m c 0 t) r0_1) (View.ld (iblk m c 1 t) r0_1) (View.ld (iblk m c 3 t) r0_2) (View.ld (iblk m c 4 t) r0_3)) (ix2 r j)
      = outH (P m c) R j := by
  have hj := j.isLt
  refine ((slices_at _ _ _ _ _ _ r).2.2.2 j).trans (proj_blk m c t r _ R hR _ ?_)
  show wcol (1024 + j.val) = 768 + j.val
  unfold wcol; rw [if_neg (by omega), if_neg (by omega), if_neg (by omega)]; omega

theorem arr11 : (dats m 0 c).arrAt 11 cfg0.N = fun y : S49152x512.Idx => outQ (P m c) (QN m c) (y 0) (y 1) := by
  refine (dats m 0 c).arrAt_eq_of_covers 11 _ (by decide +kernel) fun t hf y => ?_
  blk_simp
  rw [after0_11]
  unfold out0_11 k0_pay19
  have ht := t_lt t
  obtain ⟨r, l, rfl⟩ : ∃ (r : Fin 512) (l : Fin 512), y = ix2 r l := ⟨y 0, y 1, funext fun a => by match a with | ⟨0, _⟩ => rfl | ⟨1, _⟩ => rfl⟩
  refine (congrFun (View.canon_cons_unit_zero (S := S512x512) (off := ![0, 0]) (by decide) _ _ []) (ix2 r l)).trans ?_
  have hr := r.isLt
  refine (q_blk m c t r l ⟨t.val * 512 + r.val, by omega⟩ rfl).trans ?_
  have ey : (win0_11.blk t).view.emb (ix2 r l) = (ix2 ⟨t.val * 512 + r.val, by omega⟩ l : S49152x512.Idx) := by
    funext a; refine Fin.ext ?_
    match a with
    | ⟨0, _⟩ => blk_simp [idx11 t]
    | ⟨1, _⟩ => blk_simp [idx11 t]
  rw [ey]
  rfl

theorem arr12 : (dats m 0 c).arrAt 12 cfg0.N = fun y : S49152x256.Idx => outK (P m c) (KN m c) (y 0) (y 1) := by
  refine (dats m 0 c).arrAt_eq_of_covers 12 _ (by decide +kernel) fun t hf y => ?_
  blk_simp
  rw [after0_12]
  unfold out0_12 k0_pay19 k0_pay18
  have ht := t_lt t
  obtain ⟨r, l, rfl⟩ : ∃ (r : Fin 512) (l : Fin 256), y = ix2 r l := ⟨y 0, y 1, funext fun a => by match a with | ⟨0, _⟩ => rfl | ⟨1, _⟩ => rfl⟩
  refine (congrFun (View.canon_cons_unit_zero (S := S512x256) (off := ![0, 0]) (by decide) _ _ []) (ix2 r l)).trans ?_
  have hr := r.isLt
  refine (k_blk m c t r l ⟨t.val * 512 + r.val, by omega⟩ rfl).trans ?_
  have ey : (win0_12.blk t).view.emb (ix2 r l) = (ix2 ⟨t.val * 512 + r.val, by omega⟩ l : S49152x256.Idx) := by
    funext a; refine Fin.ext ?_
    match a with
    | ⟨0, _⟩ => blk_simp [idx12 t]
    | ⟨1, _⟩ => blk_simp [idx12 t]
  rw [ey]
  rfl

theorem arr13 : (dats m 0 c).arrAt 13 cfg0.N = fun y : S49152x256.Idx => outV (P m c) (y 0) (y 1) := by
  refine (dats m 0 c).arrAt_eq_of_covers 13 _ (by decide +kernel) fun t hf y => ?_
  blk_simp
  rw [after0_13]
  unfold out0_13 k0_pay17
  have ht := t_lt t
  obtain ⟨r, l, rfl⟩ : ∃ (r : Fin 512) (l : Fin 256), y = ix2 r l := ⟨y 0, y 1, funext fun a => by match a with | ⟨0, _⟩ => rfl | ⟨1, _⟩ => rfl⟩
  refine (congrFun (View.canon_cons_unit_zero (S := S512x256) (off := ![0, 0]) (by decide) _ _ []) (ix2 r l)).trans ?_
  have hr := r.isLt
  refine (v_blk m c t r l ⟨t.val * 512 + r.val, by omega⟩ rfl).trans ?_
  have ey : (win0_13.blk t).view.emb (ix2 r l) = (ix2 ⟨t.val * 512 + r.val, by omega⟩ l : S49152x256.Idx) := by
    funext a; refine Fin.ext ?_
    match a with
    | ⟨0, _⟩ => blk_simp [idx13 t]
    | ⟨1, _⟩ => blk_simp [idx13 t]
  rw [ey]
  rfl

theorem arr14 : (dats m 0 c).arrAt 14 cfg0.N = fun y : S49152x1536.Idx => outH (P m c) (y 0) (y 1) := by
  refine (dats m 0 c).arrAt_eq_of_covers 14 _ (by decide +kernel) fun t hf y => ?_
  blk_simp
  rw [after0_14]
  unfold out0_14 k0_pay17
  have ht := t_lt t
  obtain ⟨r, l, rfl⟩ : ∃ (r : Fin 512) (l : Fin 1536), y = ix2 r l := ⟨y 0, y 1, funext fun a => by match a with | ⟨0, _⟩ => rfl | ⟨1, _⟩ => rfl⟩
  refine (congrFun (View.canon_cons_unit_zero (S := S512x1536) (off := ![0, 0]) (by decide) _ _ []) (ix2 r l)).trans ?_
  have hr := r.isLt
  refine (h_blk m c t r l ⟨t.val * 512 + r.val, by omega⟩ rfl).trans ?_
  have ey : (win0_14.blk t).view.emb (ix2 r l) = (ix2 ⟨t.val * 512 + r.val, by omega⟩ l : S49152x1536.Idx) := by
    funext a; refine Fin.ext ?_
    match a with
    | ⟨0, _⟩ => blk_simp [idx14 t]
    | ⟨1, _⟩ => blk_simp [idx14 t]
  rw [ey]
  rfl

end Cert.Inproj

end
-- ==== Proof.InprojRows.lean ====
module

public import proofs.«01_k».proof.Defs
public import proofs.«01_k».proof.Proof.InprojSpec
public import proofs.«01_k».proof.Proof.Gen.ProjectionReferenceIdeal.Read

@[expose] public section

set_option maxRecDepth 16384

noncomputable section

/-! The projection's reference at an index. -/

namespace Cert.ProjectionReferenceIdeal.Rows

open Cert.ProjectionReferenceIdeal Cert.ProjectionReferenceIdeal.Gen Cert.ProjectionReferenceIdeal.Read Idealize.ShloMosaic Idealize.ShloMosaic.TcCoe Idealize.SL.Sem
open Cert.Inproj (ang hn rope xrow col outQ outK outV outH)

variable (x0 : S8x2048x1024.Idx → EReal) (x1 : S16x2048x1024.Idx → EReal) (x2 : S24x6144.Idx → EReal) (x3 : S1024.Idx → EReal) (x4 : S1024x2304.Idx → EReal) (x5 x6 : S64.Idx → EReal)

/-- The row of a batch entry and a position. -/
def rowOf (b : Fin 24) (s : Fin 2048) : Fin 49152 := ⟨b.val * 2048 + s.val, by omega⟩

/-- The two inputs, the second after the first. -/
theorem joined (b : Fin 24) (s : Fin 2048) (a : Fin 1024) : val_main_v0 (F := Ideal) x0 x1 (ix3 b s a) = xrow x0 x1 (rowOf b s) a := by
  have hb := b.isLt
  have hs := s.isLt
  unfold xrow rowOf
  pointwise [val_main_v0]
  have e1 : (b.val * 2048 + s.val) / 2048 = b.val := by omega
  have e2 : (⟨(b.val * 2048 + s.val) % 2048, by omega⟩ : Fin 2048) = s := Fin.ext (by show (b.val * 2048 + s.val) % 2048 = s.val; omega)
  simp only [e1, e2]

/-- The sum of a row's squares. -/
theorem squares (b : Fin 24) (s : Fin 2048) : val_main_v4 (F := Ideal) x0 x1 (ix2 b s) = ∑ a : Fin 1024, xrow x0 x1 (rowOf b s) a * xrow x0 x1 (rowOf b s) a := by
  rw [val_main_v4_apply]
  have e0 : (val_main_cst (F := Ideal)) (Shape.Idx.first h_S_) = (0 : EReal) := Cert.Inproj.zero_bits
  rw [e0]
  refine (zero_add _).trans (Finset.sum_congr rfl fun a _ => ?_)
  have e1 : idx_main_v4 (ix2 b s) a = ix3 b s a := funext fun c => Fin.ext (by match c with | ⟨0, _⟩ => rfl | ⟨1, _⟩ => rfl | ⟨2, _⟩ => rfl)
  rw [e1, ← joined]
  rfl

/-- The modulated row. -/
theorem normed (b : Fin 24) (s : Fin 2048) (a : Fin 1024) :
    val_main_v23 (F := Ideal) x0 x1 x2 x3 (ix3 b s a)
      = Cert.Pw.norm (xrow x0 x1 (rowOf b s)) (fun a => x3 (ix1 a)) (fun a => x2 (ix2 b ⟨a.val, by omega⟩)) (fun a => x2 (ix2 b ⟨1024 + a.val, by omega⟩)) a := by
  unfold Cert.Pw.norm
  rw [← squares, ← joined, ← Cert.Inproj.one_bits]
  generalize hq : val_main_v4 (F := Ideal) x0 x1 = q
  generalize hx : val_main_v0 (F := Ideal) x0 x1 = x
  have h11 : val_main_v11 (F := Ideal) x0 x1 (ix3 b s a) = Ideal.rsqrt (Ideal.div (q (ix2 b s)) (Ideal.ofBits .f32 0x44800000#32) + Ideal.ofBits .f32 0x358637BD#32) := by
    rw [← hq]
    pointwise [val_main_v11, val_main_v10, val_main_v9, val_main_v8, val_main_v7, val_main_v6, val_main_v5, val_main_cst_0, val_main_cst_1]
  rw [val_main_v23_apply, val_main_v20_apply, val_main_v15_apply, val_main_v12_apply, h11, hx]
  have h14 : val_main_v14 (F := Ideal) x3 (ix3 b s a) = x3 (ix1 a) := by pointwise [val_main_v14, val_main_v13]
  have h19 : val_main_v19 (F := Ideal) x2 (ix3 b s a) = Ideal.ofBits .f32 1065353216#32 + x2 (ix2 b ⟨1024 + a.val, by omega⟩) := by
    pointwise [val_main_v19, val_main_v18, val_main_v17, val_main_v16, val_main_v2, val_main_cst_2]
  have h22 : val_main_v22 (F := Ideal) x2 (ix3 b s a) = x2 (ix2 b ⟨a.val, by omega⟩) := by
    pointwise [val_main_v22, val_main_v21, val_main_v1]
  rw [h14, h19, h22]
  rfl

/-- The product. -/
theorem product (b : Fin 24) (s : Fin 2048) (l : Fin 2304) :
    val_main_v24 (F := Ideal) x0 x1 x2 x3 x4 (ix3 b s l) = col x0 x1 x2 x3 x4 (rowOf b s) l := by
  have hb := b.isLt
  have hs := s.isLt
  rw [val_main_v24_apply]
  unfold col
  have eb : (⟨(rowOf b s).val / 2048, by omega⟩ : Fin 24) = b := Fin.ext (by show (b.val * 2048 + s.val) / 2048 = b.val; omega)
  rw [eb]
  refine Finset.sum_congr rfl fun a _ => ?_
  have e1 : lidx_main_v24 (ix3 b s l) a = ix3 b s a := funext fun c => Fin.ext (by match c with | ⟨0, _⟩ => rfl | ⟨1, _⟩ => rfl | ⟨2, _⟩ => rfl)
  have e2 : ridx_main_v24 (ix3 b s l) a = ix2 a l := funext fun c => Fin.ext (by match c with | ⟨0, _⟩ => rfl | ⟨1, _⟩ => rfl)
  rw [e1, e2, normed]

/-- The first columns as heads. -/
theorem q_split (b : Fin 24) (s : Fin 2048) (h : Fin 8) (d : Fin 64) :
    val_main_v27 (F := Ideal) x0 x1 x2 x3 x4 (ix4 b s h d) = col x0 x1 x2 x3 x4 (rowOf b s) ⟨64 * h.val + d.val, by omega⟩ := by
  have hb := b.isLt
  have hs := s.isLt
  have hh := h.isLt
  have hd := d.isLt
  rw [← product]
  rw [val_main_v27_apply, val_main_v26_apply]
  refine congrArg _ (funext fun c => Fin.ext ?_)
  match c with
  | ⟨0, _⟩ => show (((b.val * 2048 + s.val) * 8 + h.val) * 64 + d.val) / 1048576 = b.val; omega
  | ⟨1, _⟩ => show (((b.val * 2048 + s.val) * 8 + h.val) * 64 + d.val) / 512 % 2048 = s.val; omega
  | ⟨2, _⟩ => show (((b.val * 2048 + s.val) * 8 + h.val) * 64 + d.val) % 512 = 64 * h.val + d.val; omega

theorem q_head (b : Fin 24) (s : Fin 2048) (h : Fin 8) (d : Fin 64) :
    val_main_v44 (F := Ideal) x0 x1 x2 x3 x4 x5 (ix4 b s h d)
      = hn (fun e => col x0 x1 x2 x3 x4 (rowOf b s) ⟨64 * h.val + e.val, by omega⟩) (fun e => x5 (ix1 e)) d := by
  have hsum : val_main_v33 (F := Ideal) x0 x1 x2 x3 x4 (ix3 b s h) = ∑ e : Fin 64, val_main_v27 (F := Ideal) x0 x1 x2 x3 x4 (ix4 b s h e) * val_main_v27 (F := Ideal) x0 x1 x2 x3 x4 (ix4 b s h e) := by
    rw [val_main_v33_apply]
    have e0 : (val_main_cst_3 (F := Ideal)) (Shape.Idx.first h_S_) = (0 : EReal) := Cert.Inproj.zero_bits
    rw [e0]
    refine (zero_add _).trans (Finset.sum_congr rfl fun e _ => ?_)
    have e1 : idx_main_v33 (ix3 b s h) e = ix4 b s h e := funext fun c => Fin.ext (by match c with | ⟨0, _⟩ => rfl | ⟨1, _⟩ => rfl | ⟨2, _⟩ => rfl | ⟨3, _⟩ => rfl)
    rw [e1, val_main_v32_apply]
    generalize val_main_v27 (F := Ideal) x0 x1 x2 x3 x4 (ix4 b s h e) = t
    rfl
  have key : val_main_v44 (F := Ideal) x0 x1 x2 x3 x4 x5 (ix4 b s h d)
      = val_main_v27 (F := Ideal) x0 x1 x2 x3 x4 (ix4 b s h d) * Ideal.rsqrt (Ideal.div (val_main_v33 (F := Ideal) x0 x1 x2 x3 x4 (ix3 b s h)) (Ideal.ofBits .f32 0x42800000#32) + Ideal.ofBits .f32 897988541#32) * x5 (ix1 d) := by
    rw [val_main_v44_apply, val_main_v41_apply, val_main_v40_apply, val_main_v39_apply, val_main_v38_apply, val_main_v37_apply, val_main_v36_apply, val_main_v35_apply, val_main_v34_apply, val_main_v43_apply, val_main_v42_apply]
    have e1 : idx_main_v34 (idx_main_v40 (ix4 b s h d)) = ix3 b s h := funext fun c => Fin.ext (by match c with | ⟨0, _⟩ => rfl | ⟨1, _⟩ => rfl | ⟨2, _⟩ => rfl)
    have e2 : idx_main_v42 (idx_main_v43 (ix4 b s h d)) = ix1 d := funext fun c => Fin.ext (by match c with | ⟨0, _⟩ => rfl)
    rw [e1, e2]
    generalize val_main_v27 (F := Ideal) x0 x1 x2 x3 x4 (ix4 b s h d) = t
    generalize val_main_v33 (F := Ideal) x0 x1 x2 x3 x4 (ix3 b s h) = q
    rfl
  rw [key, hsum]
  unfold hn
  simp only [q_split]

/-- The next columns as heads. -/
theorem k_split (b : Fin 24) (s : Fin 2048) (h : Fin 2) (d : Fin 64) :
    val_main_v29 (F := Ideal) x0 x1 x2 x3 x4 (ix4 b s h d) = col x0 x1 x2 x3 x4 (rowOf b s) ⟨512 + 64 * h.val + d.val, by omega⟩ := by
  have hb := b.isLt
  have hs := s.isLt
  have hh := h.isLt
  have hd := d.isLt
  rw [← product]
  rw [val_main_v29_apply, val_main_v28_apply]
  refine congrArg _ (funext fun c => Fin.ext ?_)
  match c with
  | ⟨0, _⟩ => show (((b.val * 2048 + s.val) * 2 + h.val) * 64 + d.val) / 262144 = b.val; omega
  | ⟨1, _⟩ => show (((b.val * 2048 + s.val) * 2 + h.val) * 64 + d.val) / 128 % 2048 = s.val; omega
  | ⟨2, _⟩ => show 512 + (((b.val * 2048 + s.val) * 2 + h.val) * 64 + d.val) % 128 = 512 + 64 * h.val + d.val; omega

theorem k_head (b : Fin 24) (s : Fin 2048) (h : Fin 2) (d : Fin 64) :
    val_main_v93 (F := Ideal) x0 x1 x2 x3 x4 x6 (ix4 b s h d)
      = hn (fun e => col x0 x1 x2 x3 x4 (rowOf b s) ⟨512 + 64 * h.val + e.val, by omega⟩) (fun e => x6 (ix1 e)) d := by
  have hsum : val_main_v82 (F := Ideal) x0 x1 x2 x3 x4 (ix3 b s h) = ∑ e : Fin 64, val_main_v29 (F := Ideal) x0 x1 x2 x3 x4 (ix4 b s h e) * val_main_v29 (F := Ideal) x0 x1 x2 x3 x4 (ix4 b s h e) := by
    rw [val_main_v82_apply]
    have e0 : (val_main_cst_10 (F := Ideal)) (Shape.Idx.first h_S_) = (0 : EReal) := Cert.Inproj.zero_bits
    rw [e0]
    refine (zero_add _).trans (Finset.sum_congr rfl fun e _ => ?_)
    have e1 : idx_main_v82 (ix3 b s h) e = ix4 b s h e := funext fun c => Fin.ext (by match c with | ⟨0, _⟩ => rfl | ⟨1, _⟩ => rfl | ⟨2, _⟩ => rfl | ⟨3, _⟩ => rfl)
    rw [e1, val_main_v81_apply]
    generalize val_main_v29 (F := Ideal) x0 x1 x2 x3 x4 (ix4 b s h e) = t
    rfl
  have key : val_main_v93 (F := Ideal) x0 x1 x2 x3 x4 x6 (ix4 b s h d)
      = val_main_v29 (F := Ideal) x0 x1 x2 x3 x4 (ix4 b s h d) * Ideal.rsqrt (Ideal.div (val_main_v82 (F := Ideal) x0 x1 x2 x3 x4 (ix3 b s h)) (Ideal.ofBits .f32 0x42800000#32) + Ideal.ofBits .f32 897988541#32) * x6 (ix1 d) := by
    rw [val_main_v93_apply, val_main_v90_apply, val_main_v89_apply, val_main_v88_apply, val_main_v87_apply, val_main_v86_apply, val_main_v85_apply, val_main_v84_apply, val_main_v83_apply, val_main_v92_apply, val_main_v91_apply]
    have e1 : idx_main_v83 (idx_main_v89 (ix4 b s h d)) = ix3 b s h := funext fun c => Fin.ext (by match c with | ⟨0, _⟩ => rfl | ⟨1, _⟩ => rfl | ⟨2, _⟩ => rfl)
    have e2 : idx_main_v91 (idx_main_v92 (ix4 b s h d)) = ix1 d := funext fun c => Fin.ext (by match c with | ⟨0, _⟩ => rfl)
    rw [e1, e2]
    generalize val_main_v29 (F := Ideal) x0 x1 x2 x3 x4 (ix4 b s h d) = t
    generalize val_main_v82 (F := Ideal) x0 x1 x2 x3 x4 (ix3 b s h) = q
    rfl
  rw [key, hsum]
  unfold hn
  simp only [k_split]

/-- The columns after those as heads. -/
theorem v_split (b : Fin 24) (s : Fin 2048) (h : Fin 2) (d : Fin 64) :
    val_main_v31 (F := Ideal) x0 x1 x2 x3 x4 (ix4 b s h d) = col x0 x1 x2 x3 x4 (rowOf b s) ⟨640 + 64 * h.val + d.val, by omega⟩ := by
  have hb := b.isLt
  have hs := s.isLt
  have hh := h.isLt
  have hd := d.isLt
  rw [← product]
  rw [val_main_v31_apply, val_main_v30_apply]
  refine congrArg _ (funext fun c => Fin.ext ?_)
  match c with
  | ⟨0, _⟩ => show (((b.val * 2048 + s.val) * 2 + h.val) * 64 + d.val) / 262144 = b.val; omega
  | ⟨1, _⟩ => show (((b.val * 2048 + s.val) * 2 + h.val) * 64 + d.val) / 128 % 2048 = s.val; omega
  | ⟨2, _⟩ => show 640 + (((b.val * 2048 + s.val) * 2 + h.val) * 64 + d.val) % 128 = 640 + 64 * h.val + d.val; omega

end Cert.ProjectionReferenceIdeal.Rows

end
-- ==== Proof.InprojTurn.lean ====
module

public import proofs.«01_k».proof.Defs
public import proofs.«01_k».proof.Proof.InprojSpec
public import proofs.«01_k».proof.Proof.Gen.ProjectionReferenceIdeal.Read

@[expose] public section

set_option maxRecDepth 16384

noncomputable section

/-! The projection's reference's rotated heads. -/

namespace Cert.ProjectionReferenceIdeal.Rows

open Cert.ProjectionReferenceIdeal Cert.ProjectionReferenceIdeal.Gen Cert.ProjectionReferenceIdeal.Read Idealize.ShloMosaic Idealize.ShloMosaic.TcCoe Idealize.SL.Sem
open Cert.Inproj (ang hn rope xrow col outQ outK outV outH)

variable (x0 : S8x2048x1024.Idx → EReal) (x1 : S16x2048x1024.Idx → EReal) (x2 : S24x6144.Idx → EReal) (x3 : S1024.Idx → EReal) (x4 : S1024x2304.Idx → EReal) (x5 x6 : S64.Idx → EReal)

/-- The angles, computed once for each of the two rotated results. -/
theorem angle (p : Fin 2048) (j : Fin 8) : val_main_v58 (F := Ideal) (ix2 p j) = ang p.val j.val := by
  unfold ang
  pointwise [val_main_v58, val_main_v57, val_main_v56, val_main_v55, val_main_v54, val_main_v53, val_main_v52, val_main_v51, val_main_v50, val_main_v49, val_main_v48, val_main_v47, val_main_v46, val_main_v45, val_main_v25, val_main_cst_6, val_main_cst_7, val_main_cst_8]
theorem angle' (p : Fin 2048) (j : Fin 8) : val_main_v107 (F := Ideal) (ix2 p j) = ang p.val j.val := by
  unfold ang
  pointwise [val_main_v107, val_main_v106, val_main_v105, val_main_v104, val_main_v103, val_main_v102, val_main_v101, val_main_v100, val_main_v99, val_main_v98, val_main_v97, val_main_v96, val_main_v95, val_main_v94, val_main_v25, val_main_cst_13, val_main_cst_14, val_main_cst_15]

/-- The rotated heads. -/
theorem q_turned (b : Fin 24) (s : Fin 2048) (h : Fin 8) (d : Fin 64) :
    val_main_v78 (F := Ideal) x0 x1 x2 x3 x4 x5 (ix4 b s h d) = rope (fun e => val_main_v44 (F := Ideal) x0 x1 x2 x3 x4 x5 (ix4 b s h e)) s.val d := by
  have hd := d.isLt
  have lo : ∀ e : Fin 8, val_main_v70 (F := Ideal) x0 x1 x2 x3 x4 x5 (ix4 b s h e)
      = val_main_v44 (F := Ideal) x0 x1 x2 x3 x4 x5 (ix4 b s h ⟨e.val, by omega⟩) * Ideal.cos (val_main_v58 (F := Ideal) (ix2 s e)) - val_main_v44 (F := Ideal) x0 x1 x2 x3 x4 x5 (ix4 b s h ⟨8 + e.val, by omega⟩) * Ideal.sin (val_main_v58 (F := Ideal) (ix2 s e)) := by
    intro e
    rw [val_main_v70_apply, val_main_v67_apply, val_main_v69_apply, val_main_v64_apply, val_main_v65_apply, val_main_v63_apply, val_main_v63_apply, val_main_v66_apply, val_main_v68_apply, val_main_v60_apply, val_main_v62_apply, val_main_v59_apply, val_main_v61_apply]
    have e1 : idx_main_v63 (idx_main_v64 (ix4 b s h e)) = ix4 b s h ⟨e.val, by omega⟩ := funext fun c => Fin.ext (by match c with | ⟨0, _⟩ => rfl | ⟨1, _⟩ => rfl | ⟨2, _⟩ => rfl | ⟨3, _⟩ => rfl)
    have e2 : idx_main_v63 (idx_main_v65 (ix4 b s h e)) = ix4 b s h ⟨8 + e.val, by omega⟩ := funext fun c => Fin.ext (by match c with | ⟨0, _⟩ => rfl | ⟨1, _⟩ => rfl | ⟨2, _⟩ => rfl | ⟨3, _⟩ => rfl)
    have e3 : idx_main_v60 (idx_main_v66 (ix4 b s h e)) = ix2 s e := funext fun c => Fin.ext (by match c with | ⟨0, _⟩ => rfl | ⟨1, _⟩ => rfl)
    have e4 : idx_main_v62 (idx_main_v68 (ix4 b s h e)) = ix2 s e := funext fun c => Fin.ext (by match c with | ⟨0, _⟩ => rfl | ⟨1, _⟩ => rfl)
    rw [e1, e2, e3, e4]
    generalize val_main_v44 (F := Ideal) x0 x1 x2 x3 x4 x5 = t
    generalize val_main_v58 (F := Ideal) (ix2 s e) = g
    rfl
  have hi : ∀ e : Fin 8, val_main_v75 (F := Ideal) x0 x1 x2 x3 x4 x5 (ix4 b s h e)
      = val_main_v44 (F := Ideal) x0 x1 x2 x3 x4 x5 (ix4 b s h ⟨8 + e.val, by omega⟩) * Ideal.cos (val_main_v58 (F := Ideal) (ix2 s e)) + val_main_v44 (F := Ideal) x0 x1 x2 x3 x4 x5 (ix4 b s h ⟨e.val, by omega⟩) * Ideal.sin (val_main_v58 (F := Ideal) (ix2 s e)) := by
    intro e
    rw [val_main_v75_apply, val_main_v72_apply, val_main_v74_apply, val_main_v65_apply, val_main_v64_apply, val_main_v63_apply, val_main_v63_apply, val_main_v71_apply, val_main_v73_apply, val_main_v60_apply, val_main_v62_apply, val_main_v59_apply, val_main_v61_apply]
    have e1 : idx_main_v63 (idx_main_v64 (ix4 b s h e)) = ix4 b s h ⟨e.val, by omega⟩ := funext fun c => Fin.ext (by match c with | ⟨0, _⟩ => rfl | ⟨1, _⟩ => rfl | ⟨2, _⟩ => rfl | ⟨3, _⟩ => rfl)
    have e2 : idx_main_v63 (idx_main_v65 (ix4 b s h e)) = ix4 b s h ⟨8 + e.val, by omega⟩ := funext fun c => Fin.ext (by match c with | ⟨0, _⟩ => rfl | ⟨1, _⟩ => rfl | ⟨2, _⟩ => rfl | ⟨3, _⟩ => rfl)
    have e3 : idx_main_v60 (idx_main_v71 (ix4 b s h e)) = ix2 s e := funext fun c => Fin.ext (by match c with | ⟨0, _⟩ => rfl | ⟨1, _⟩ => rfl)
    have e4 : idx_main_v62 (idx_main_v73 (ix4 b s h e)) = ix2 s e := funext fun c => Fin.ext (by match c with | ⟨0, _⟩ => rfl | ⟨1, _⟩ => rfl)
    rw [e1, e2, e3, e4]
    generalize val_main_v44 (F := Ideal) x0 x1 x2 x3 x4 x5 = t
    generalize val_main_v58 (F := Ideal) (ix2 s e) = g
    rfl
  have rest : ∀ e : Fin 48, val_main_v77 (F := Ideal) x0 x1 x2 x3 x4 x5 (ix4 b s h e) = val_main_v44 (F := Ideal) x0 x1 x2 x3 x4 x5 (ix4 b s h ⟨16 + e.val, by omega⟩) := by
    intro e
    unfold val_main_v77
    generalize val_main_v44 (F := Ideal) x0 x1 x2 x3 x4 x5 = t
    pointwise []
  have cat : ∀ e : Fin 16, val_main_v76 (F := Ideal) x0 x1 x2 x3 x4 x5 (ix4 b s h e)
      = if he : e.val < 8 then val_main_v70 (F := Ideal) x0 x1 x2 x3 x4 x5 (ix4 b s h ⟨e.val, he⟩) else val_main_v75 (F := Ideal) x0 x1 x2 x3 x4 x5 (ix4 b s h ⟨e.val - 8, by omega⟩) := by
    intro e
    unfold val_main_v76
    generalize val_main_v70 (F := Ideal) x0 x1 x2 x3 x4 x5 = t
    generalize val_main_v75 (F := Ideal) x0 x1 x2 x3 x4 x5 = u
    pointwise []
  have all : val_main_v78 (F := Ideal) x0 x1 x2 x3 x4 x5 (ix4 b s h d)
      = if he : d.val < 16 then val_main_v76 (F := Ideal) x0 x1 x2 x3 x4 x5 (ix4 b s h ⟨d.val, he⟩) else val_main_v77 (F := Ideal) x0 x1 x2 x3 x4 x5 (ix4 b s h ⟨d.val - 16, by omega⟩) := by
    unfold val_main_v78
    generalize val_main_v76 (F := Ideal) x0 x1 x2 x3 x4 x5 = t
    generalize val_main_v77 (F := Ideal) x0 x1 x2 x3 x4 x5 = u
    pointwise []
  have ht : ∀ e e' : Fin 64, e.val = e'.val → val_main_v44 (F := Ideal) x0 x1 x2 x3 x4 x5 (ix4 b s h e) = val_main_v44 (F := Ideal) x0 x1 x2 x3 x4 x5 (ix4 b s h e') := fun e e' he => by rw [Fin.ext he]
  rw [all]
  unfold rope
  by_cases h8 : d.val < 8
  · rw [dif_pos (by omega : d.val < 16), cat, dif_pos (by exact h8), lo, if_pos h8, angle]
    show _ * Ideal.cos (ang s.val d.val) - _ * Ideal.sin (ang s.val d.val) = _
    rw [show d.val % 8 = d.val by omega]
    refine congrArg₂ (fun u v : EReal => u * Ideal.cos (ang s.val d.val) - v * Ideal.sin (ang s.val d.val)) (ht _ _ rfl) (ht _ _ ?_)
    show 8 + d.val = (d.val + 8) % 64
    omega
  · rw [if_neg h8]
    by_cases h16 : d.val < 16
    · rw [dif_pos h16, cat, dif_neg (by exact h8), hi, if_pos h16, angle]
      show _ * Ideal.cos (ang s.val (d.val - 8)) + _ * Ideal.sin (ang s.val (d.val - 8)) = _
      rw [show d.val % 8 = d.val - 8 by omega]
      refine congrArg₂ (fun u v : EReal => u * Ideal.cos (ang s.val (d.val - 8)) + v * Ideal.sin (ang s.val (d.val - 8))) (ht _ _ ?_) (ht _ _ ?_)
      · show 8 + (d.val - 8) = d.val
        omega
      · show d.val - 8 = (d.val - 8) % 64
        omega
    · rw [dif_neg h16, rest, if_neg h16]
      refine ht _ _ ?_
      show 16 + (d.val - 16) = d.val
      omega

/-- The rotated heads. -/
theorem k_turned (b : Fin 24) (s : Fin 2048) (h : Fin 2) (d : Fin 64) :
    val_main_v127 (F := Ideal) x0 x1 x2 x3 x4 x6 (ix4 b s h d) = rope (fun e => val_main_v93 (F := Ideal) x0 x1 x2 x3 x4 x6 (ix4 b s h e)) s.val d := by
  have hd := d.isLt
  have lo : ∀ e : Fin 8, val_main_v119 (F := Ideal) x0 x1 x2 x3 x4 x6 (ix4 b s h e)
      = val_main_v93 (F := Ideal) x0 x1 x2 x3 x4 x6 (ix4 b s h ⟨e.val, by omega⟩) * Ideal.cos (val_main_v107 (F := Ideal) (ix2 s e)) - val_main_v93 (F := Ideal) x0 x1 x2 x3 x4 x6 (ix4 b s h ⟨8 + e.val, by omega⟩) * Ideal.sin (val_main_v107 (F := Ideal) (ix2 s e)) := by
    intro e
    rw [val_main_v119_apply, val_main_v116_apply, val_main_v118_apply, val_main_v113_apply, val_main_v114_apply, val_main_v112_apply, val_main_v112_apply, val_main_v115_apply, val_main_v117_apply, val_main_v109_apply, val_main_v111_apply, val_main_v108_apply, val_main_v110_apply]
    have e1 : idx_main_v112 (idx_main_v113 (ix4 b s h e)) = ix4 b s h ⟨e.val, by omega⟩ := funext fun c => Fin.ext (by match c with | ⟨0, _⟩ => rfl | ⟨1, _⟩ => rfl | ⟨2, _⟩ => rfl | ⟨3, _⟩ => rfl)
    have e2 : idx_main_v112 (idx_main_v114 (ix4 b s h e)) = ix4 b s h ⟨8 + e.val, by omega⟩ := funext fun c => Fin.ext (by match c with | ⟨0, _⟩ => rfl | ⟨1, _⟩ => rfl | ⟨2, _⟩ => rfl | ⟨3, _⟩ => rfl)
    have e3 : idx_main_v109 (idx_main_v115 (ix4 b s h e)) = ix2 s e := funext fun c => Fin.ext (by match c with | ⟨0, _⟩ => rfl | ⟨1, _⟩ => rfl)
    have e4 : idx_main_v111 (idx_main_v117 (ix4 b s h e)) = ix2 s e := funext fun c => Fin.ext (by match c with | ⟨0, _⟩ => rfl | ⟨1, _⟩ => rfl)
    rw [e1, e2, e3, e4]
    generalize val_main_v93 (F := Ideal) x0 x1 x2 x3 x4 x6 = t
    generalize val_main_v107 (F := Ideal) (ix2 s e) = g
    rfl
  have hi : ∀ e : Fin 8, val_main_v124 (F := Ideal) x0 x1 x2 x3 x4 x6 (ix4 b s h e)
      = val_main_v93 (F := Ideal) x0 x1 x2 x3 x4 x6 (ix4 b s h ⟨8 + e.val, by omega⟩) * Ideal.cos (val_main_v107 (F := Ideal) (ix2 s e)) + val_main_v93 (F := Ideal) x0 x1 x2 x3 x4 x6 (ix4 b s h ⟨e.val, by omega⟩) * Ideal.sin (val_main_v107 (F := Ideal) (ix2 s e)) := by
    intro e
    rw [val_main_v124_apply, val_main_v121_apply, val_main_v123_apply, val_main_v114_apply, val_main_v113_apply, val_main_v112_apply, val_main_v112_apply, val_main_v120_apply, val_main_v122_apply, val_main_v109_apply, val_main_v111_apply, val_main_v108_apply, val_main_v110_apply]
    have e1 : idx_main_v112 (idx_main_v113 (ix4 b s h e)) = ix4 b s h ⟨e.val, by omega⟩ := funext fun c => Fin.ext (by match c with | ⟨0, _⟩ => rfl | ⟨1, _⟩ => rfl | ⟨2, _⟩ => rfl | ⟨3, _⟩ => rfl)
    have e2 : idx_main_v112 (idx_main_v114 (ix4 b s h e)) = ix4 b s h ⟨8 + e.val, by omega⟩ := funext fun c => Fin.ext (by match c with | ⟨0, _⟩ => rfl | ⟨1, _⟩ => rfl | ⟨2, _⟩ => rfl | ⟨3, _⟩ => rfl)
    have e3 : idx_main_v109 (idx_main_v120 (ix4 b s h e)) = ix2 s e := funext fun c => Fin.ext (by match c with | ⟨0, _⟩ => rfl | ⟨1, _⟩ => rfl)
    have e4 : idx_main_v111 (idx_main_v122 (ix4 b s h e)) = ix2 s e := funext fun c => Fin.ext (by match c with | ⟨0, _⟩ => rfl | ⟨1, _⟩ => rfl)
    rw [e1, e2, e3, e4]
    generalize val_main_v93 (F := Ideal) x0 x1 x2 x3 x4 x6 = t
    generalize val_main_v107 (F := Ideal) (ix2 s e) = g
    rfl
  have rest : ∀ e : Fin 48, val_main_v126 (F := Ideal) x0 x1 x2 x3 x4 x6 (ix4 b s h e) = val_main_v93 (F := Ideal) x0 x1 x2 x3 x4 x6 (ix4 b s h ⟨16 + e.val, by omega⟩) := by
    intro e
    unfold val_main_v126
    generalize val_main_v93 (F := Ideal) x0 x1 x2 x3 x4 x6 = t
    pointwise []
  have cat : ∀ e : Fin 16, val_main_v125 (F := Ideal) x0 x1 x2 x3 x4 x6 (ix4 b s h e)
      = if he : e.val < 8 then val_main_v119 (F := Ideal) x0 x1 x2 x3 x4 x6 (ix4 b s h ⟨e.val, he⟩) else val_main_v124 (F := Ideal) x0 x1 x2 x3 x4 x6 (ix4 b s h ⟨e.val - 8, by omega⟩) := by
    intro e
    unfold val_main_v125
    generalize val_main_v119 (F := Ideal) x0 x1 x2 x3 x4 x6 = t
    generalize val_main_v124 (F := Ideal) x0 x1 x2 x3 x4 x6 = u
    pointwise []
  have all : val_main_v127 (F := Ideal) x0 x1 x2 x3 x4 x6 (ix4 b s h d)
      = if he : d.val < 16 then val_main_v125 (F := Ideal) x0 x1 x2 x3 x4 x6 (ix4 b s h ⟨d.val, he⟩) else val_main_v126 (F := Ideal) x0 x1 x2 x3 x4 x6 (ix4 b s h ⟨d.val - 16, by omega⟩) := by
    unfold val_main_v127
    generalize val_main_v125 (F := Ideal) x0 x1 x2 x3 x4 x6 = t
    generalize val_main_v126 (F := Ideal) x0 x1 x2 x3 x4 x6 = u
    pointwise []
  have ht : ∀ e e' : Fin 64, e.val = e'.val → val_main_v93 (F := Ideal) x0 x1 x2 x3 x4 x6 (ix4 b s h e) = val_main_v93 (F := Ideal) x0 x1 x2 x3 x4 x6 (ix4 b s h e') := fun e e' he => by rw [Fin.ext he]
  rw [all]
  unfold rope
  by_cases h8 : d.val < 8
  · rw [dif_pos (by omega : d.val < 16), cat, dif_pos (by exact h8), lo, if_pos h8, angle']
    show _ * Ideal.cos (ang s.val d.val) - _ * Ideal.sin (ang s.val d.val) = _
    rw [show d.val % 8 = d.val by omega]
    refine congrArg₂ (fun u v : EReal => u * Ideal.cos (ang s.val d.val) - v * Ideal.sin (ang s.val d.val)) (ht _ _ rfl) (ht _ _ ?_)
    show 8 + d.val = (d.val + 8) % 64
    omega
  · rw [if_neg h8]
    by_cases h16 : d.val < 16
    · rw [dif_pos h16, cat, dif_neg (by exact h8), hi, if_pos h16, angle']
      show _ * Ideal.cos (ang s.val (d.val - 8)) + _ * Ideal.sin (ang s.val (d.val - 8)) = _
      rw [show d.val % 8 = d.val - 8 by omega]
      refine congrArg₂ (fun u v : EReal => u * Ideal.cos (ang s.val (d.val - 8)) + v * Ideal.sin (ang s.val (d.val - 8))) (ht _ _ ?_) (ht _ _ ?_)
      · show 8 + (d.val - 8) = d.val
        omega
      · show d.val - 8 = (d.val - 8) % 64
        omega
    · rw [dif_neg h16, rest, if_neg h16]
      refine ht _ _ ?_
      show 16 + (d.val - 16) = d.val
      omega

end Cert.ProjectionReferenceIdeal.Rows

end
-- ==== Proof.InprojRef.lean ====
module

public import proofs.«01_k».proof.Defs
public import proofs.«01_k».proof.Proof.InprojRows
public import proofs.«01_k».proof.Proof.InprojTurn
public import proofs.«01_k».proof.Proof.Gen.ProjectionReferenceIdeal.Read

@[expose] public section

set_option maxRecDepth 16384

noncomputable section

/-! The projection's reference's four results. -/

namespace Cert.ProjectionReferenceIdeal.Rows

open Cert.ProjectionReferenceIdeal Cert.ProjectionReferenceIdeal.Gen Cert.ProjectionReferenceIdeal.Read Idealize.ShloMosaic Idealize.ShloMosaic.TcCoe Idealize.SL.Sem
open Cert.Inproj (ang hn rope xrow col outQ outK outV outH)

variable (x0 : S8x2048x1024.Idx → EReal) (x1 : S16x2048x1024.Idx → EReal) (x2 : S24x6144.Idx → EReal) (x3 : S1024.Idx → EReal) (x4 : S1024x2304.Idx → EReal) (x5 x6 : S64.Idx → EReal)

theorem row_eq (R : Fin 49152) : rowOf ⟨R.val / 2048, by omega⟩ ⟨R.val % 2048, by omega⟩ = R := Fin.ext (by show R.val / 2048 * 2048 + R.val % 2048 = R.val; omega)

/-- The first result. -/
theorem q_result : val_main_v132 (F := Ideal) x0 x1 x2 x3 x4 x5 = fun y : S49152x512.Idx => outQ (col x0 x1 x2 x3 x4) x5 (y 0) (y 1) := by
  funext y
  obtain ⟨R, j, rfl⟩ : ∃ (R : Fin 49152) (j : Fin 512), y = ix2 R j := ⟨y 0, y 1, funext fun a => by match a with | ⟨0, _⟩ => rfl | ⟨1, _⟩ => rfl⟩
  refine (val_main_v131_apply (F := Ideal) x0 x1 x2 x3 x4 x5 (ix2 R j)).trans ?_
  have hR := R.isLt
  have hj := j.isLt
  show _ = outQ (col x0 x1 x2 x3 x4) x5 R j
  have e : idx_main_v131 (ix2 R j) = ix4 ⟨R.val / 2048, by omega⟩ ⟨R.val % 2048, by omega⟩ ⟨j.val / 64, by omega⟩ ⟨j.val % 64, by omega⟩ := funext fun c => Fin.ext (by
    match c with
    | ⟨0, _⟩ => show (R.val * 512 + j.val) / 1048576 = R.val / 2048; omega
    | ⟨1, _⟩ => show (R.val * 512 + j.val) / 512 % 2048 = R.val % 2048; omega
    | ⟨2, _⟩ => show (R.val * 512 + j.val) / 64 % 8 = j.val / 64; omega
    | ⟨3, _⟩ => show (R.val * 512 + j.val) % 64 = j.val % 64; omega)
  have e80 : ∀ i, val_main_v80 (F := Ideal) x0 x1 x2 x3 x4 x5 i = val_main_v78 (F := Ideal) x0 x1 x2 x3 x4 x5 i * Ideal.ofBits .f32 0x3E000000#32 := fun i => by
    rw [val_main_v80_apply, val_main_v79_apply]
    generalize val_main_v78 (F := Ideal) x0 x1 x2 x3 x4 x5 i = t
    rfl
  rw [e, e80, q_turned]
  simp only [q_head, row_eq]
  rfl

/-- The second result: each head twice. -/
theorem k_result : val_main_v136 (F := Ideal) x0 x1 x2 x3 x4 x6 = fun y : S49152x256.Idx => outK (col x0 x1 x2 x3 x4) x6 (y 0) (y 1) := by
  funext y
  obtain ⟨R, j, rfl⟩ : ∃ (R : Fin 49152) (j : Fin 256), y = ix2 R j := ⟨y 0, y 1, funext fun a => by match a with | ⟨0, _⟩ => rfl | ⟨1, _⟩ => rfl⟩
  refine (val_main_v135_apply (F := Ideal) x0 x1 x2 x3 x4 x6 (ix2 R j)).trans ?_
  have hR := R.isLt
  have hj := j.isLt
  show _ = outK (col x0 x1 x2 x3 x4) x6 R j
  have e : idx_main_v135 (ix2 R j) = ix5 ⟨R.val / 2048, by omega⟩ ⟨R.val % 2048, by omega⟩ ⟨j.val / 128, by omega⟩ ⟨j.val / 64 % 2, by omega⟩ ⟨j.val % 64, by omega⟩ := funext fun c => Fin.ext (by
    match c with
    | ⟨0, _⟩ => show (R.val * 256 + j.val) / 524288 = R.val / 2048; omega
    | ⟨1, _⟩ => show (R.val * 256 + j.val) / 256 % 2048 = R.val % 2048; omega
    | ⟨2, _⟩ => show (R.val * 256 + j.val) / 128 % 2 = j.val / 128; omega
    | ⟨3, _⟩ => show (R.val * 256 + j.val) / 64 % 2 = j.val / 64 % 2; omega
    | ⟨4, _⟩ => show (R.val * 256 + j.val) % 64 = j.val % 64; omega)
  rw [e]
  have e' : val_main_v134 (F := Ideal) x0 x1 x2 x3 x4 x6 (ix5 ⟨R.val / 2048, by omega⟩ ⟨R.val % 2048, by omega⟩ ⟨j.val / 128, by omega⟩ ⟨j.val / 64 % 2, by omega⟩ ⟨j.val % 64, by omega⟩)
      = val_main_v127 (F := Ideal) x0 x1 x2 x3 x4 x6 (ix4 ⟨R.val / 2048, by omega⟩ ⟨R.val % 2048, by omega⟩ ⟨j.val / 128, by omega⟩ ⟨j.val % 64, by omega⟩) := by
    rw [val_main_v134_apply, val_main_v133_apply]
    exact congrArg _ (funext fun c => Fin.ext (by match c with | ⟨0, _⟩ => rfl | ⟨1, _⟩ => rfl | ⟨2, _⟩ => rfl | ⟨3, _⟩ => rfl))
  rw [e', k_turned]
  simp only [k_head, row_eq]
  rfl

/-- The third result: each head twice. -/
theorem v_result : val_main_v140 (F := Ideal) x0 x1 x2 x3 x4 = fun y : S49152x256.Idx => outV (col x0 x1 x2 x3 x4) (y 0) (y 1) := by
  funext y
  obtain ⟨R, j, rfl⟩ : ∃ (R : Fin 49152) (j : Fin 256), y = ix2 R j := ⟨y 0, y 1, funext fun a => by match a with | ⟨0, _⟩ => rfl | ⟨1, _⟩ => rfl⟩
  refine (val_main_v139_apply (F := Ideal) x0 x1 x2 x3 x4 (ix2 R j)).trans ?_
  have hR := R.isLt
  have hj := j.isLt
  show _ = outV (col x0 x1 x2 x3 x4) R j
  have e : idx_main_v139 (ix2 R j) = ix5 ⟨R.val / 2048, by omega⟩ ⟨R.val % 2048, by omega⟩ ⟨j.val / 128, by omega⟩ ⟨j.val / 64 % 2, by omega⟩ ⟨j.val % 64, by omega⟩ := funext fun c => Fin.ext (by
    match c with
    | ⟨0, _⟩ => show (R.val * 256 + j.val) / 524288 = R.val / 2048; omega
    | ⟨1, _⟩ => show (R.val * 256 + j.val) / 256 % 2048 = R.val % 2048; omega
    | ⟨2, _⟩ => show (R.val * 256 + j.val) / 128 % 2 = j.val / 128; omega
    | ⟨3, _⟩ => show (R.val * 256 + j.val) / 64 % 2 = j.val / 64 % 2; omega
    | ⟨4, _⟩ => show (R.val * 256 + j.val) % 64 = j.val % 64; omega)
  rw [e]
  have e' : val_main_v138 (F := Ideal) x0 x1 x2 x3 x4 (ix5 ⟨R.val / 2048, by omega⟩ ⟨R.val % 2048, by omega⟩ ⟨j.val / 128, by omega⟩ ⟨j.val / 64 % 2, by omega⟩ ⟨j.val % 64, by omega⟩)
      = val_main_v31 (F := Ideal) x0 x1 x2 x3 x4 (ix4 ⟨R.val / 2048, by omega⟩ ⟨R.val % 2048, by omega⟩ ⟨j.val / 128, by omega⟩ ⟨j.val % 64, by omega⟩) := by
    rw [val_main_v138_apply, val_main_v137_apply]
    exact congrArg _ (funext fun c => Fin.ext (by match c with | ⟨0, _⟩ => rfl | ⟨1, _⟩ => rfl | ⟨2, _⟩ => rfl | ⟨3, _⟩ => rfl))
  rw [e', v_split, row_eq]
  rfl

/-- The fourth result: the remaining columns. -/
theorem h_result : val_main_v130 (F := Ideal) x0 x1 x2 x3 x4 = fun y : S49152x1536.Idx => outH (col x0 x1 x2 x3 x4) (y 0) (y 1) := by
  funext y
  obtain ⟨R, j, rfl⟩ : ∃ (R : Fin 49152) (j : Fin 1536), y = ix2 R j := ⟨y 0, y 1, funext fun a => by match a with | ⟨0, _⟩ => rfl | ⟨1, _⟩ => rfl⟩
  refine (val_main_v129_apply (F := Ideal) x0 x1 x2 x3 x4 (ix2 R j)).trans ?_
  have hR := R.isLt
  have hj := j.isLt
  show _ = outH (col x0 x1 x2 x3 x4) R j
  have e : idx_main_v129 (ix2 R j) = ix3 ⟨R.val / 2048, by omega⟩ ⟨R.val % 2048, by omega⟩ j := funext fun c => Fin.ext (by
    match c with
    | ⟨0, _⟩ => show (R.val * 1536 + j.val) / 3145728 = R.val / 2048; omega
    | ⟨1, _⟩ => show (R.val * 1536 + j.val) / 1536 % 2048 = R.val % 2048; omega
    | ⟨2, _⟩ => show (R.val * 1536 + j.val) % 1536 = j.val; omega)
  rw [e, val_main_v128_apply]
  have e' : idx_main_v128 (ix3 ⟨R.val / 2048, by omega⟩ ⟨R.val % 2048, by omega⟩ j) = ix3 ⟨R.val / 2048, by omega⟩ ⟨R.val % 2048, by omega⟩ ⟨768 + j.val, by omega⟩ := funext fun c => Fin.ext (by
    match c with
    | ⟨0, _⟩ => rfl
    | ⟨1, _⟩ => rfl
    | ⟨2, _⟩ => rfl)
  rw [e', product, row_eq]
  rfl

end Cert.ProjectionReferenceIdeal.Rows

end
-- ==== Proof.InprojClaim.lean ====
module

public import proofs.«01_k».proof.Defs
public import proofs.«01_k».proof.Proof.InprojKernel
public import proofs.«01_k».proof.Proof.InprojRef
public import proofs.«01_k».proof.Proof.Gen.Projection

@[expose] public section

set_option maxRecDepth 16384

noncomputable section

/-! The projection's claims. -/

namespace Cert.Inproj

open Idealize.ShloMosaic Idealize.ShloMosaic.TcCoe Idealize.SL.Sem

/-- The reference's frame: it declares no semaphore. -/
theorem frame_reference : Cert.quiescent_ProjectionReferenceIdeal (hProjectionReferenceIdeal := Cert.ProjectionReferenceIdeal.Gen.facts) := fun m g _ =>
  (θ_run (Cert.ProjectionReferenceIdeal.defs (F := Ideal)) _ _).mono (fun r h => And.intro (fun c => (h c).2.2.2.2) (sem_eq_zero_of_no_sems (by decide) r.2)) (Cert.ProjectionReferenceIdeal.Value.run (F := Ideal) m g)

/-- From the same arrays the two programs end at the same four results. -/
theorem algebraic : algebraic_ProjectionIdeal_ProjectionReferenceIdeal (hProjectionIdeal := Cert.ProjectionIdeal.Gen.facts) (hProjectionReferenceIdeal := Cert.ProjectionReferenceIdeal.Gen.facts) := by
  intro m g m' g' hp ha
  refine ⟨fun c y => outQ (P m c) (QN m c) (y 0) (y 1), fun c y => outK (P m c) (KN m c) (y 0) (y 1), fun c y => outV (P m c) (y 0) (y 1), fun c y => outH (P m c) (y 0) (y 1), ?_, ?_⟩
  · refine (θ_run _ _ _).mono (fun r h c => ?_) (Cert.ProjectionIdeal.Value.run_blocks m g)
    obtain ⟨h0, h1, h2, h3, hr⟩ := h c
    exact ⟨h0.trans (arr11 m c), h1.trans (arr12 m c), h2.trans (arr13 m c), h3.trans (arr14 m c), hr⟩
  · refine (θ_run _ _ _).mono (fun r h c => ?_) (Cert.ProjectionReferenceIdeal.Value.run m' g')
    obtain ⟨h0, h1, h2, h3, hr⟩ := h c
    obtain ⟨e0, e1, e2, e3, e4, e5, e6⟩ := ha c
    refine ⟨(h0.trans (Cert.ProjectionReferenceIdeal.Read.val_main_v132_eq m' c)).trans ?_, (h1.trans (Cert.ProjectionReferenceIdeal.Read.val_main_v136_eq m' c)).trans ?_,
      (h2.trans (Cert.ProjectionReferenceIdeal.Read.val_main_v140_eq _ _ _ _ _)).trans ?_, (h3.trans (Cert.ProjectionReferenceIdeal.Read.val_main_v130_eq _ _ _ _ _)).trans ?_, hr⟩
    · rw [e0, e1, e2, e3, e4, e5]
      exact Cert.ProjectionReferenceIdeal.Rows.q_result _ _ _ _ _ _
    · rw [e0, e1, e2, e3, e4, e6]
      exact Cert.ProjectionReferenceIdeal.Rows.k_result _ _ _ _ _ _
    · rw [e0, e1, e2, e3, e4]
      exact Cert.ProjectionReferenceIdeal.Rows.v_result _ _ _ _ _
    · rw [e0, e1, e2, e3, e4]
      exact Cert.ProjectionReferenceIdeal.Rows.h_result _ _ _ _ _

end Cert.Inproj

end
-- ==== Proof.lean ====
/- The proof of the claims: the frames of the attention, the pointwise convolution and the projection as generated, the
   experts' from their run, and the four values from AttnClaim, ExpertsClaim, PwClaim and InprojClaim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.Pointwise
public import proofs.«01_k».proof.Proof.Gen.Pointwise.Skeleton
public import proofs.«01_k».proof.Proof.Gen.Pointwise.Launch
public import proofs.«01_k».proof.Proof.Gen.Pointwise.Points
public import proofs.«01_k».proof.Proof.Gen.Pointwise.Frame
public import proofs.«01_k».proof.Proof.Gen.PointwiseIdeal
public import proofs.«01_k».proof.Proof.Gen.PointwiseIdeal.Skeleton
public import proofs.«01_k».proof.Proof.Gen.PointwiseIdeal.Launch
public import proofs.«01_k».proof.Proof.Gen.PointwiseIdeal.Points
public import proofs.«01_k».proof.Proof.Gen.PointwiseIdeal.Frame
public import proofs.«01_k».proof.Proof.Gen.PointwiseIdeal.Value
public import proofs.«01_k».proof.Proof.Gen.PointwiseReferenceIdeal
public import proofs.«01_k».proof.Proof.Gen.PointwiseReferenceIdeal.Run
public import proofs.«01_k».proof.Proof.Gen.PointwiseReferenceIdeal.Read
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.ProjectionReferenceIdeal.Read
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Pre_experts_named
public import proofs.«01_k».proof.Proof.AttnClaim
public import proofs.«01_k».proof.Proof.ExpertsClaim
public import proofs.«01_k».proof.Proof.PwClaim
public import proofs.«01_k».proof.Proof.InprojClaim
public import Idealize.ShloMosaic.Adequacy
public import Idealize.ShloMosaic.Init

@[expose] public section

noncomputable section

namespace Cert.Proof

open Idealize.ShloMosaic Idealize.SL.Sem

/-- The reference's frame: it declares no semaphore. -/
theorem reference_frame : Cert.quiescent_ReferenceIdeal (hReferenceIdeal := Cert.ReferenceIdeal.Gen.facts) := fun m g _ =>
  (θ_run (Cert.ReferenceIdeal.defs (F := Ideal)) _ _).mono (fun r h => And.intro (fun c => (h c).2) (sem_eq_zero_of_no_sems (by decide) r.2)) (Cert.ReferenceIdeal.Value.run (F := Ideal) m g)

theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.Pointwise.Gen.facts, Cert.PointwiseIdeal.Gen.facts, Cert.PointwiseReferenceIdeal.Gen.facts,
    Cert.Projection.Gen.facts, Cert.ProjectionIdeal.Gen.facts, Cert.ProjectionReferenceIdeal.Gen.facts,
    Cert.Attn.preFacts, Cert.Pre_experts_named.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    Cert.Experts3.frame_words,
    Cert.Experts3.frame_ideal,
    Cert.Experts3.frame_reference,
    fun m g _ => Cert.Experts3.frame_reference m g trivial,
    fun m g _ => Cert.Pointwise.Gen.frame m g,
    fun m g _ => Cert.PointwiseIdeal.Gen.frame m g,
    Cert.Pw.frame_reference,
    fun m g _ => Cert.Projection.Gen.frame m g,
    fun m g _ => Cert.ProjectionIdeal.Gen.frame m g,
    Cert.Inproj.frame_reference,
    IdealRules.named_const.statement Cert.KernelIdeal.κ "mask" .f32 0xF149F2CA#32 ⊥ rfl,
    Cert.Attn.algebraic,
    trivial,
    Cert.Experts3.algebraic,
    trivial,
    Cert.Pw.algebraic,
    trivial,
    Cert.Inproj.algebraic⟩

end Cert.Proof

end
